-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4096, 32, 128]⟩ ⟨3, ![16384, 32, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4096, 32, 128]⟩ ⟨3, ![16384, 32, 128]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x1024 : Shape := ⟨2, ![256, 1024]⟩
abbrev S1024x1024 : Shape := ⟨2, ![1024, 1024]⟩
abbrev S4096x32x128 : Shape := ⟨3, ![4096, 32, 128]⟩
abbrev S_ : Shape := ⟨0, ![]⟩

class Facts : Prop where
  bcast_S_S256x1024 : S_.BroadcastsInDim S256x1024 (![] : Fin 0 → Fin S256x1024.rank)
  bcast_S_S1024x1024 : S_.BroadcastsInDim S1024x1024 (![] : Fin 0 → Fin S1024x1024.rank)
  bcast_S_S4096x32x128 : S_.BroadcastsInDim S4096x32x128 (![] : Fin 0 → Fin S4096x32x128.rank)

variable [Facts]

def fn {F : FTy → Type} [FloatOps F] (main_arg0 : FVec F S256x1024 .f32) (main_arg1 : FVec F S1024x1024 .f32) (main_arg2 : FVec F S4096x32x128 .f32) (main_arg3 : FVec F S4096x32x128 .f32) (main_arg4 : FVec F S1024x1024 .f32) : IVec S256x1024 1 × IVec S1024x1024 1 × IVec S4096x32x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x32x128 .f32 := Host.absf main_arg2
  let main_cst_1 : FVec F S_ .f32 := constant S_ .f32 0x7F800000#32
  let main_v7 : FVec F S4096x32x128 .f32 := broadcastInDim S4096x32x128 ![] bcast_S_S4096x32x128 main_cst_1
  let main_v8 : IVec S4096x32x128 1 := cmpf .olt main_v6 main_v7
  (main_v2, main_v5, main_v8)
-- ==== Pre_finite_ReferenceIdeal.lean ====
abbrev S256x1024 : Shape := ⟨2, ![256, 1024]⟩
abbrev S1024x4096 : Shape := ⟨2, ![1024, 4096]⟩
abbrev S16384x32x128 : Shape := ⟨3, ![16384, 32, 128]⟩
abbrev S4096x1024 : Shape := ⟨2, ![4096, 1024]⟩
abbrev S_ : Shape := ⟨0, ![]⟩

class Facts : Prop where
  bcast_S_S256x1024 : S_.BroadcastsInDim S256x1024 (![] : Fin 0 → Fin S256x1024.rank)
  bcast_S_S1024x4096 : S_.BroadcastsInDim S1024x4096 (![] : Fin 0 → Fin S1024x4096.rank)
  bcast_S_S16384x32x128 : S_.BroadcastsInDim S16384x32x128 (![] : Fin 0 → Fin S16384x32x128.rank)

variable [Facts]

def fn {F : FTy → Type} [FloatOps F] (main_arg0 : FVec F S256x1024 .f32) (main_arg1 : FVec F S1024x4096 .f32) (main_arg2 : FVec F S16384x32x128 .f32) (main_arg3 : FVec F S16384x32x128 .f32) (main_arg4 : FVec F S4096x1024 .f32) : IVec S256x1024 1 × IVec S1024x4096 1 × IVec S16384x32x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S16384x32x128 .f32 := Host.absf main_arg2
  let main_cst_1 : FVec F S_ .f32 := constant S_ .f32 0x7F800000#32
  let main_v7 : FVec F S16384x32x128 .f32 := broadcastInDim S16384x32x128 ![] bcast_S_S16384x32x128 main_cst_1
  let main_v8 : IVec S16384x32x128 1 := cmpf .olt main_v6 main_v7
  (main_v2, main_v5, main_v8)
-- ==== Kernel.lean ====
abbrev S256x1024 : Shape := ⟨2, ![256, 1024]⟩
abbrev S1024x1024 : Shape := ⟨2, ![1024, 1024]⟩
abbrev S4096x32x128 : Shape := ⟨3, ![4096, 32, 128]⟩
abbrev S32x256x128 : Shape := ⟨3, ![32, 256, 128]⟩
abbrev S4x256x32x128 : Shape := ⟨4, ![4, 256, 32, 128]⟩
abbrev S32x256 : Shape := ⟨2, ![32, 256]⟩
abbrev S3x8x256x128 : Shape := ⟨4, ![3, 8, 256, 128]⟩
abbrev S3x8x256 : Shape := ⟨3, ![3, 8, 256]⟩
abbrev S3x64x1024 : Shape := ⟨3, ![3, 64, 1024]⟩
abbrev S1x64x1024 : Shape := ⟨3, ![1, 64, 1024]⟩
abbrev S3 : Shape := ⟨1, ![3]⟩
abbrev S4 : Shape := ⟨1, ![4]⟩
abbrev S1 : Shape := ⟨1, ![1]⟩
abbrev S_ : Shape := ⟨0, ![]⟩
abbrev S1x256x32x128 : Shape := ⟨4, ![1, 256, 32, 128]⟩
abbrev S256x32x128 : Shape := ⟨3, ![256, 32, 128]⟩
abbrev S256x8x128 : Shape := ⟨3, ![256, 8, 128]⟩
abbrev S8x256x128 : Shape := ⟨3, ![8, 256, 128]⟩
abbrev S32x64x128 : Shape := ⟨3, ![32, 64, 128]⟩
abbrev S32x64x64 : Shape := ⟨3, ![32, 64, 64]⟩
abbrev S32x64 : Shape := ⟨2, ![32, 64]⟩
abbrev S1x8x256x128 : Shape := ⟨4, ![1, 8, 256, 128]⟩
abbrev S8x256 : Shape := ⟨2, ![8, 256]⟩
abbrev S1x8x256 : Shape := ⟨3, ![1, 8, 256]⟩
abbrev S8x256x1 : Shape := ⟨3, ![8, 256, 1]⟩
abbrev S64x1024 : Shape := ⟨2, ![64, 1024]⟩

abbrev nBuf : Space → Nat
  | .hbm => 6
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S4096x32x128, .f32⟩
  | .hbm, ⟨3, _⟩ => ⟨S4096x32x128, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S32x256x128, .bf16⟩
  | .local _ .vmem, ⟨5, _⟩ => ⟨S4x256x32x128, .f32⟩
  | .local _ .vmem, ⟨6, _⟩ => ⟨S4x256x32x128, .f32⟩
  | .local _ .vmem, ⟨7, _⟩ => ⟨S32x256x128, .f32⟩
  | .local _ .vmem, ⟨8, _⟩ => ⟨S32x256, .f32⟩
  | .local _ .vmem, ⟨9, _⟩ => ⟨S3x8x256x128, .bf16⟩
  | .local _ .vmem, ⟨10, _⟩ => ⟨S3x8x256, .bf16⟩
  | .local _ .vmem, ⟨11, _⟩ => ⟨S3x8x256x128, .bf16⟩
  | .local _ .vmem, ⟨12, _⟩ => ⟨S3x8x256, .bf16⟩
  | .local _ .vmem, ⟨13, _⟩ => ⟨S256x1024, .f32⟩
  | .local _ .vmem, ⟨14, _⟩ => ⟨S3x64x1024, .bf16⟩
  | .local _ .vmem, ⟨15, _⟩ => ⟨S3x64x1024, .bf16⟩
  | .local _ .vmem, ⟨16, _⟩ => ⟨S3x64x1024, .bf16⟩
  | .local _ .vmem, ⟨17, _⟩ => ⟨S1x64x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v59 : BitVec 32 := Scalar.muli v2 c8_i32
  let v60 : Index := Scalar.indexCast v59
  let c0_67 : Index := 0#32
  let c0_68 : Index := 0#32
  ![v60.toNat, 0, 0]
def k0_dev1 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_70 : BitVec 32 := 1#32
  let v65 : BitVec 32 := Scalar.muli v4 c1_i32_70
  let v66 : BitVec 32 := Scalar.addi c0_i32_71 v65
  v66.toNat
def k0_dev2 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_73 : BitVec 32 := 1#32
  let v67 : BitVec 32 := Scalar.muli v6 c1_i32_73
  let v68 : BitVec 32 := Scalar.addi c0_i32_74 v67
  v68.toNat
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_76 : BitVec 32 := 1#32
  let v69 : BitVec 32 := Scalar.muli v8 c1_i32_76
  let v70 : BitVec 32 := Scalar.addi c0_i32_77 v69
  v70.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_80 : BitVec 32 := 8#32
  let v72 : BitVec 32 := Scalar.muli v2 c8_i32_80
  let c0_i32_85 : BitVec 32 := 0#32
  let c0_i32_86 : BitVec 32 := 0#32
  ![v72.toNat, 0, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_83 : BitVec 32 := 1#32
  let v73 : BitVec 32 := Scalar.muli v4 c1_i32_83
  let v74 : BitVec 32 := Scalar.addi c0_i32_84 v73
  v74.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_93 : BitVec 32 := 1#32
  let v83 : BitVec 32 := Scalar.muli v6 c1_i32_93
  let v84 : BitVec 32 := Scalar.addi c0_i32_94 v83
  v84.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_103 : BitVec 32 := 1#32
  let v93 : BitVec 32 := Scalar.muli v8 c1_i32_103
  let v94 : BitVec 32 := Scalar.addi c0_i32_104 v93
  v94.toNat
@[reducible] def k0_t1_loop : Scf.Loop 32 :=
  let c0_i32_161 : BitVec 32 := 0#32
  let c16_i32 : BitVec 32 := 16#32
  let v139 : BitVec 32 := Scalar.addi c0_i32_161 c16_i32
  let c1_i32_162 : BitVec 32 := 1#32
  ⟨c0_i32_161, v139, c1_i32_162⟩
def k0_off3 (k0_t1 : Fin k0_t1_loop.trips) : Fin 1 → Nat :=
  let c0_i32_161 : BitVec 32 := 0#32
  let c1_i32_162 : BitVec 32 := 1#32
  let arg32 : BitVec 32 := Scf.iv c0_i32_161 c1_i32_162 k0_t1
  let c4_i32_649 : BitVec 32 := 4#32
  let v583 : BitVec 32 := Scalar.remsi arg32 c4_i32_649
  ![v583.toNat]
def k0_off4 (k0_t1 : Fin k0_t1_loop.trips) : Fin 4 → Nat :=
  let c0_i32_161 : BitVec 32 := 0#32
  let c1_i32_162 : BitVec 32 := 1#32
  let arg32 : BitVec 32 := Scf.iv c0_i32_161 c1_i32_162 k0_t1
  let c4_i32_649 : BitVec 32 := 4#32
  let v583 : BitVec 32 := Scalar.remsi arg32 c4_i32_649
  let c0_i32_651 : BitVec 32 := 0#32
  let c0_i32_652 : BitVec 32 := 0#32
  let c0_i32_653 : BitVec 32 := 0#32
  ![v583.toNat, 0, 0, 0]
def k0_off5 (k0_t1 : Fin k0_t1_loop.trips) : Fin 3 → Nat :=
  let c0_i32_161 : BitVec 32 := 0#32
  let c1_i32_162 : BitVec 32 := 1#32
  let arg32 : BitVec 32 := Scf.iv c0_i32_161 c1_i32_162 k0_t1
  let c256_i32_650 : BitVec 32 := 256#32
  let v584 : BitVec 32 := Scalar.muli arg32 c256_i32_650
  let c0_i32_654 : BitVec 32 := 0#32
  let c0_i32_655 : BitVec 32 := 0#32
  ![v584.toNat, 0, 0]
def k0_off6 (k0_t1 : Fin k0_t1_loop.trips) : Fin 4 → Nat :=
  let c0_i32_161 : BitVec 32 := 0#32
  let c1_i32_162 : BitVec 32 := 1#32
  let arg32 : BitVec 32 := Scf.iv c0_i32_161 c1_i32_162 k0_t1
  let c4_i32_649 : BitVec 32 := 4#32
  let v583 : BitVec 32 := Scalar.remsi arg32 c4_i32_649
  let v596 : Index := Scalar.indexCast v583
  let c0_662 : Index := 0#32
  let c0_663 : Index := 0#32
  let c0_664 : Index := 0#32
  ![v596.toNat, 0, 0, 0]
def k0_cond1 (k0_t1 : Fin k0_t1_loop.trips) : BitVec 1 :=
  let c0_i32_161 : BitVec 32 := 0#32
  let c1_i32_162 : BitVec 32 := 1#32
  let arg32 : BitVec 32 := Scf.iv c0_i32_161 c1_i32_162 k0_t1
  let c4_i32_733 : BitVec 32 := 4#32
  let v686 : BitVec 32 := Scalar.addi arg32 c4_i32_733
  let c16_i32_734 : BitVec 32 := 16#32
  let v687 : BitVec 1 := Scalar.cmpi .slt v686 c16_i32_734
  let v688 : BitVec 32 := Scalar.extui v687
  let c0_i32_735 : BitVec 32 := 0#32
  let v689 : BitVec 1 := Scalar.cmpi .ne v688 c0_i32_735
  v689

def k0_off7 (k0_t1 : Fin k0_t1_loop.trips) : Fin 1 → Nat :=
  let c0_i32_161 : BitVec 32 := 0#32
  let c1_i32_162 : BitVec 32 := 1#32
  let arg32 : BitVec 32 := Scf.iv c0_i32_161 c1_i32_162 k0_t1
  let c4_i32_649 : BitVec 32 := 4#32
  let v583 : BitVec 32 := Scalar.remsi arg32 c4_i32_649
  ![v583.toNat]
def k0_off8 (k0_t1 : Fin k0_t1_loop.trips) : Fin 4 → Nat :=
  let c0_i32_161 : BitVec 32 := 0#32
  let c1_i32_162 : BitVec 32 := 1#32
  let arg32 : BitVec 32 := Scf.iv c0_i32_161 c1_i32_162 k0_t1
  let c4_i32_649 : BitVec 32 := 4#32
  let v583 : BitVec 32 := Scalar.remsi arg32 c4_i32_649
  let c0_i32_738 : BitVec 32 := 0#32
  let c0_i32_739 : BitVec 32 := 0#32
  let c0_i32_740 : BitVec 32 := 0#32
  ![v583.toNat, 0, 0, 0]
def k0_off9 (k0_t1 : Fin k0_t1_loop.trips) : Fin 3 → Nat :=
  let c0_i32_161 : BitVec 32 := 0#32
  let c1_i32_162 : BitVec 32 := 1#32
  let arg32 : BitVec 32 := Scf.iv c0_i32_161 c1_i32_162 k0_t1
  let c4_i32_736 : BitVec 32 := 4#32
  let v690 : BitVec 32 := Scalar.addi arg32 c4_i32_736
  let c256_i32_737 : BitVec 32 := 256#32
  let v691 : BitVec 32 := Scalar.muli v690 c256_i32_737
  let c0_i32_741 : BitVec 32 := 0#32
  let c0_i32_742 : BitVec 32 := 0#32
  ![v691.toNat, 0, 0]
def k0_off10 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c8_i32_164 : BitVec 32 := 8#32
  let v140 : BitVec 32 := Scalar.muli v4 c8_i32_164
  let v141 : Index := Scalar.indexCast v140
  let c0_165 : Index := 0#32
  let c0_166 : Index := 0#32
  ![v141.toNat, 0, 0]
def k0_off11 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c8_i32_171 : BitVec 32 := 8#32
  let v147 : BitVec 32 := Scalar.muli v4 c8_i32_171
  let v148 : Index := Scalar.indexCast v147
  let c0_172 : Index := 0#32
  ![v148.toNat, 0]
def k0_dev7 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_180 : BitVec 32 := 1#32
  let v154 : BitVec 32 := Scalar.muli v4 c1_i32_180
  let v155 : BitVec 32 := Scalar.addi c0_i32_181 v154
  v155.toNat
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_192 : BitVec 32 := 1#32
  let v164 : BitVec 32 := Scalar.muli v4 c1_i32_192
  let v165 : BitVec 32 := Scalar.addi c0_i32_193 v164
  v165.toNat
def k0_dev9 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_213 : BitVec 32 := 1#32
  let v188 : BitVec 32 := Scalar.muli v6 c1_i32_213
  let v189 : BitVec 32 := Scalar.addi c0_i32_214 v188
  v189.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_225 : BitVec 32 := 1#32
  let v198 : BitVec 32 := Scalar.muli v6 c1_i32_225
  let v199 : BitVec 32 := Scalar.addi c0_i32_226 v198
  v199.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_246 : BitVec 32 := 1#32
  let v222 : BitVec 32 := Scalar.muli v8 c1_i32_246
  let v223 : BitVec 32 := Scalar.addi c0_i32_247 v222
  v223.toNat
def k0_dev12 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_258 : BitVec 32 := 1#32
  let v232 : BitVec 32 := Scalar.muli v8 c1_i32_258
  let v233 : BitVec 32 := Scalar.addi c0_i32_259 v232
  v233.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_405 : BitVec 32 := 8#32
  let v341 : BitVec 32 := Scalar.muli v2 c8_i32_405
  let v342 : Index := Scalar.indexCast v341
  let c0_406 : Index := 0#32
  ![v342.toNat, 0]
def k0_off13 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c64_i32 : BitVec 32 := 64#32
  let v369 : BitVec 32 := Scalar.muli v4 c64_i32
  let v370 : Index := Scalar.indexCast v369
  let c0_421 : Index := 0#32
  ![v370.toNat, 0]
def k0_dev13 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_429 : BitVec 32 := 1#32
  let v376 : BitVec 32 := Scalar.muli v4 c1_i32_429
  let v377 : BitVec 32 := Scalar.addi c0_i32_430 v376
  v377.toNat
def k0_dev14 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_444 : BitVec 32 := 1#32
  let v393 : BitVec 32 := Scalar.muli v6 c1_i32_444
  let v394 : BitVec 32 := Scalar.addi c0_i32_445 v393
  v394.toNat
def k0_dev15 (d0 : Dev nD) : Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_459 : BitVec 32 := 1#32
  let v410 : BitVec 32 := Scalar.muli v8 c1_i32_459
  let v411 : BitVec 32 := Scalar.addi c0_i32_460 v410
  v411.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_522 : BitVec 32 := 64#32
  let v462 : BitVec 32 := Scalar.muli v2 c64_i32_522
  let v463 : Index := Scalar.indexCast v462
  let c0_523 : Index := 0#32
  ![v463.toNat, 0]
def k0_dev16 (d0 : Dev nD) : Nat :=
  let c0_i32_543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_542 : BitVec 32 := 1#32
  let v484 : BitVec 32 := Scalar.muli v4 c1_i32_542
  let v485 : BitVec 32 := Scalar.addi c0_i32_543 v484
  v485.toNat
def k0_dev17 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_552 : BitVec 32 := 1#32
  let v494 : BitVec 32 := Scalar.muli v6 c1_i32_552
  let v495 : BitVec 32 := Scalar.addi c0_i32_553 v494
  v495.toNat
def k0_dev18 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_562 : BitVec 32 := 1#32
  let v504 : BitVec 32 := Scalar.muli v8 c1_i32_562
  let v505 : BitVec 32 := Scalar.addi c0_i32_563 v504
  v505.toNat
def k0_off15 (d0 : Dev nD) (c1_i32_625 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v556 : BitVec 32 := Scalar.subi v2 c1_i32_625
  let c4_i32_626 : BitVec 32 := 4#32
  let v557 : BitVec 32 := Scalar.addi v556 c4_i32_626
  let c4_i32_627 : BitVec 32 := 4#32
  let v558 : BitVec 32 := Scalar.remsi v557 c4_i32_627
  let c64_i32_631 : BitVec 32 := 64#32
  let v562 : BitVec 32 := Scalar.muli v558 c64_i32_631
  let v563 : Index := Scalar.indexCast v562
  let c0_632 : Index := 0#32
  ![v563.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x1024 : Shape := ⟨2, ![256, 1024]⟩
abbrev S1024x4096 : Shape := ⟨2, ![1024, 4096]⟩
abbrev S16384x32x128 : Shape := ⟨3, ![16384, 32, 128]⟩
abbrev S4096x1024 : Shape := ⟨2, ![4096, 1024]⟩
abbrev S256x4096 : Shape := ⟨2, ![256, 4096]⟩
abbrev S256x32x128 : Shape := ⟨3, ![256, 32, 128]⟩
abbrev S256 : Shape := ⟨1, ![256]⟩
abbrev S_ : Shape := ⟨0, ![]⟩
abbrev S256x1 : Shape := ⟨2, ![256, 1]⟩
abbrev S16384 : Shape := ⟨1, ![16384]⟩
abbrev S1x16384 : Shape := ⟨2, ![1, 16384]⟩
abbrev S256x16384 : Shape := ⟨2, ![256, 16384]⟩
abbrev S32x256x16384 : Shape := ⟨3, ![32, 256, 16384]⟩
abbrev S1x256x16384 : Shape := ⟨3, ![1, 256, 16384]⟩
abbrev S32x256 : Shape := ⟨2, ![32, 256]⟩
abbrev S32x256x1 : Shape := ⟨3, ![32, 256, 1]⟩
abbrev S1x256x1 : Shape := ⟨3, ![1, 256, 1]⟩
abbrev S32x128x256 : Shape := ⟨3, ![32, 128, 256]⟩

abbrev nBuf : Space → Nat
  | .hbm => 137
  | .vmem => 0
  | .smem => 0
  | _ => 0

abbrev hbmTy0_0 (i : Nat) : BufTy := match i % 128 with
  | 0 => ⟨S256x1024, .f32⟩
  | 1 => ⟨S1024x4096, .f32⟩
  | 2 => ⟨S16384x32x128, .f32⟩
  | 3 => ⟨S16384x32x128, .f32⟩
  | 4 => ⟨S4096x1024, .f32⟩
  | 5 => ⟨S256x4096, .f32⟩
  | 6 => ⟨S256x32x128, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S16384, .i32⟩
  | 28 => ⟨S_, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S16384, .i32⟩
  | 37 => ⟨S16384, .i32⟩
  | 38 => ⟨S_, .i32⟩
  | 39 => ⟨S16384, .i32⟩
  | 40 => ⟨S16384, .i1⟩
  | 41 => ⟨S16384, .i1⟩
  | 42 => ⟨S_, .i32⟩
  | 43 => ⟨S16384, .i32⟩
  | 44 => ⟨S16384, .i32⟩
  | 45 => ⟨S16384, .i32⟩
  | 46 => ⟨S1x16384, .i32⟩
  | 47 => ⟨S256x16384, .i32⟩
  | 48 => ⟨S256x16384, .i32⟩
  | 49 => ⟨S256x16384, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x16384, .i32⟩
  | 57 => ⟨S1x16384, .i32⟩
  | 58 => ⟨S_, .i32⟩
  | 59 => ⟨S1x16384, .i32⟩
  | 60 => ⟨S1x16384, .i1⟩
  | 61 => ⟨S_, .i32⟩
  | 62 => ⟨S1x16384, .i32⟩
  | 63 => ⟨S1x16384, .i1⟩
  | 64 => ⟨S_, .i32⟩
  | 65 => ⟨S_, .i1⟩
  | 66 => ⟨S1x16384, .i1⟩
  | 67 => ⟨S1x16384, .i1⟩
  | 68 => ⟨S1x16384, .i1⟩
  | 69 => ⟨S1x16384, .i32⟩
  | 70 => ⟨S1x16384, .i32⟩
  | 71 => ⟨S1x16384, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x16384, .i32⟩
  | 95 => ⟨S256x16384, .i32⟩
  | 96 => ⟨S256x16384, .i1⟩
  | 97 => ⟨S256x16384, .i1⟩
  | 98 => ⟨S32x256x16384, .f32⟩
  | 99 => ⟨S_, .f32⟩
  | 100 => ⟨S32x256x16384, .f32⟩
  | 101 => ⟨S32x256x16384, .f32⟩
  | 102 => ⟨S1x256x16384, .i1⟩
  | 103 => ⟨S_, .f32⟩
  | 104 => ⟨S_, .f32⟩
  | 105 => ⟨S32x256x16384, .i1⟩
  | 106 => ⟨S32x256x16384, .f32⟩
  | 107 => ⟨S32x256x16384, .f32⟩
  | 108 => ⟨S_, .f32⟩
  | 109 => ⟨S32x256, .f32⟩
  | 110 => ⟨S32x256x1, .f32⟩
  | 111 => ⟨S32x256x16384, .f32⟩
  | 112 => ⟨S32x256x16384, .f32⟩
  | 113 => ⟨S32x256x16384, .f32⟩
  | 114 => ⟨S_, .i1⟩
  | 115 => ⟨S256, .i1⟩
  | 116 => ⟨S1x256x1, .i1⟩
  | 117 => ⟨S_, .f32⟩
  | 118 => ⟨S32x256, .f32⟩
  | 119 => ⟨S32x256x1, .f32⟩
  | 120 => ⟨S_, .f32⟩
  | 121 => ⟨S_, .f32⟩
  | 122 => ⟨S32x256x1, .i1⟩
  | 123 => ⟨S32x256x1, .f32⟩
  | 124 => ⟨S32x256x1, .f32⟩
  | 125 => ⟨S32x256x16384, .f32⟩
  | 126 => ⟨S32x256x16384, .f32⟩
  | 127 => ⟨S1x256x1, .i1⟩
  | _ => ⟨S256x1024, .f32⟩

abbrev hbmTy0_1 (i : Nat) : BufTy := match i % 128 with
  | 0 => ⟨S_, .f32⟩
  | 1 => ⟨S_, .f32⟩
  | 2 => ⟨S32x256x16384, .i1⟩
  | 3 => ⟨S32x256x16384, .f32⟩
  | 4 => ⟨S32x256x16384, .f32⟩
  | 5 => ⟨S32x128x256, .f32⟩
  | 6 => ⟨S256x32x128, .f32⟩
  | 7 => ⟨S256x4096, .f32⟩
  | 8 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Sched.lean ====
/-
The semaphore cells of the ring kernel, the pieces of its buffers that the copies move, the values each piece
holds, and the rounds schedule whose payloads carry those values.

Four devices; a device sends to the device `d + 1` places after it, for `d = 0, 1, 2`. There are five phases of remote copies:
0 the query slices, 1 the partial outputs, 2 the partial sums, 3 the partial products, 4 the reduced rows.
The receive cell `rcv p d` of a device is written by the device `d + 1` places before it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.Tactic

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's algebra for the kernel's own cells: three duty names. -/
abbrev UB : Type := URounds (GSem nD τ sig) (Fin 3)
/-- It beside the pipeline library's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The device `k` places after `c`. -/
def sh (c : Dev nD) (k : ℕ) : Dev nD := ⟨(c.val + k) % 4, Nat.mod_lt _ (by decide)⟩

theorem sh_sh (c : Dev nD) (j k : ℕ) : sh (sh c j) k = sh c (j + k) :=
  Fin.ext (by show ((c.val + j) % 4 + k) % 4 = (c.val + (j + k)) % 4; omega)
theorem sh_four (c : Dev nD) : sh c 4 = c := by revert c; decide
theorem sh_zero (c : Dev nD) : sh c 0 = c := by revert c; decide

/-! ## Cells -/

/-- What a semaphore of the kernel is for. `loc b j`: the local copies of key (`false`) or value (`true`) blocks into slot
    `j`; `snd p d` and `rcv p d`: the two ends of phase `p`'s copy over distance `d + 1`. -/
inductive Kd where
  | bar
  | loc (b : Bool) (j : Fin 4)
  | snd (p : Fin 5) (d : Fin 3)
  | rcv (p : Fin 5) (d : Fin 3)
  | other
  deriving DecidableEq

/-- The runtime's barrier semaphore. -/
abbrev barS : Sem sig := (SemArray.scalar (sig.barrier 0 rfl) : Sems sig S_).sem

set_option backward.proofsInPublic true in
/-- The number of phase `p`'s first send semaphore. -/
def base (p : Fin 5) : ℕ := if p.val = 0 then 4 else 12 + 6 * p.val

/-- The kind of a DMA semaphore, by its number. -/
def kdOf (n : ℕ) : Kd :=
  if n < 4 then .other
  else if n < 10 then (if n < 7 then .snd 0 (Fin.ofNat 3 (n - 4)) else .rcv 0 (Fin.ofNat 3 (n - 7)))
  else if n < 18 then (if n < 14 then .loc false (Fin.ofNat 4 (n - 10)) else .loc true (Fin.ofNat 4 (n - 14)))
  else if (n - 18) % 6 < 3 then .snd (Fin.ofNat 5 ((n - 18) / 6 + 1)) (Fin.ofNat 3 ((n - 18) % 6))
  else .rcv (Fin.ofNat 5 ((n - 18) / 6 + 1)) (Fin.ofNat 3 ((n - 18) % 6 - 3))

/-- The kind of a semaphore. -/
def kd : SemLoc sig → Kd
  | .reg s => if s = barS then .bar else .other
  | .dma q => kdOf q.val

set_option backward.proofsInPublic true in
abbrev dq (n : ℕ) (h : n < 42) : DmaSem sig := (⟨n, h⟩ : Fin 42)

set_option backward.proofsInPublic true in
def locQ (b : Bool) (j : Fin 4) : DmaSem sig := dq ((if b then 14 else 10) + j.val) (by have := j.isLt; split <;> omega)
set_option backward.proofsInPublic true in
def sndQ (p : Fin 5) (d : Fin 3) : DmaSem sig := dq (base p + d.val) (by revert p d; decide)
set_option backward.proofsInPublic true in
def rcvQ (p : Fin 5) (d : Fin 3) : DmaSem sig := dq (base p + 3 + d.val) (by revert p d; decide)

theorem kd_loc (b : Bool) (j : Fin 4) : kd (.dma (locQ b j)) = .loc b j := by revert b j; decide
theorem kd_snd (p : Fin 5) (d : Fin 3) : kd (.dma (sndQ p d)) = .snd p d := by revert p d; decide
theorem kd_rcv (p : Fin 5) (d : Fin 3) : kd (.dma (rcvQ p d)) = .rcv p d := by revert p d; decide
theorem kd_bar : kd (.reg barS) = .bar := by decide

abbrev barC (c : Dev nD) : GSem nD τ sig := ((c : Thread nD τ), .reg barS)
abbrev locC (c : Dev nD) (b : Bool) (j : Fin 4) : GSem nD τ sig := ((c : Thread nD τ), .dma (locQ b j))
abbrev sndC (c : Dev nD) (p : Fin 5) (d : Fin 3) : GSem nD τ sig := ((c : Thread nD τ), .dma (sndQ p d))
abbrev rcvC (c : Dev nD) (p : Fin 5) (d : Fin 3) : GSem nD τ sig := ((c : Thread nD τ), .dma (rcvQ p d))

/-! ## The buffers and their pieces -/

abbrev xM : Memref sig .tc .vmem S256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S256x1024 .f32 := Memref.whole cc0_stg3_0
abbrev kHM : Memref sig .tc .hbm S4096x32x128 .f32 := Memref.whole main_arg2
abbrev vHM : Memref sig .tc .hbm S4096x32x128 .f32 := Memref.whole main_arg3
abbrev qM : Memref sig .tc .vmem S32x256x128 .bf16 := Memref.whole cc0_scratch0
abbrev kM : Memref sig .tc .vmem S4x256x32x128 .f32 := Memref.whole cc0_scratch1
abbrev vM : Memref sig .tc .vmem S4x256x32x128 .f32 := Memref.whole cc0_scratch2
abbrev oM : Memref sig .tc .vmem S32x256x128 .f32 := Memref.whole cc0_scratch3
abbrev lM : Memref sig .tc .vmem S32x256 .f32 := Memref.whole cc0_scratch4
abbrev coM : Memref sig .tc .vmem S3x8x256x128 .bf16 := Memref.whole cc0_scratch5
abbrev clM : Memref sig .tc .vmem S3x8x256 .bf16 := Memref.whole cc0_scratch6
abbrev soM : Memref sig .tc .vmem S3x8x256x128 .bf16 := Memref.whole cc0_scratch7
abbrev slM : Memref sig .tc .vmem S3x8x256 .bf16 := Memref.whole cc0_scratch8
abbrev paM : Memref sig .tc .vmem S256x1024 .f32 := Memref.whole cc0_scratch9
abbrev arM : Memref sig .tc .vmem S3x64x1024 .bf16 := Memref.whole cc0_scratch10
abbrev asM : Memref sig .tc .vmem S3x64x1024 .bf16 := Memref.whole cc0_scratch11
abbrev grM : Memref sig .tc .vmem S3x64x1024 .bf16 := Memref.whole cc0_scratch12
abbrev gsM : Memref sig .tc .vmem S1x64x1024 .bf16 := Memref.whole cc0_scratch13

set_option backward.proofsInPublic true in
theorem qr_inb (h : Fin 4) : ∀ a, (![8 * h.val, 0, 0] : Fin 3 → ℕ) a + S8x256x128.size a ≤ S32x256x128.size a := by revert h; decide
set_option backward.proofsInPublic true in
theorem kr_inb (j : Fin 4) : ∀ a, (![j.val, 0, 0, 0] : Fin 4 → ℕ) a + S1x256x32x128.size a ≤ S4x256x32x128.size a := by revert j; decide
set_option backward.proofsInPublic true in
theorem kb_inb (g : Fin 16) : ∀ a, (![256 * g.val, 0, 0] : Fin 3 → ℕ) a + S256x32x128.size a ≤ S4096x32x128.size a := by revert g; decide
set_option backward.proofsInPublic true in
theorem or_inb (r : Fin 4) : ∀ a, (![0, 64 * r.val, 0] : Fin 3 → ℕ) a + S32x64x128.size a ≤ S32x256x128.size a := by revert r; decide
set_option backward.proofsInPublic true in
theorem lr_inb (r : Fin 4) : ∀ a, (![0, 64 * r.val] : Fin 2 → ℕ) a + S32x64.size a ≤ S32x256.size a := by revert r; decide
set_option backward.proofsInPublic true in
theorem co_inb (d : Fin 3) : ∀ a, (![d.val, 0, 0, 0] : Fin 4 → ℕ) a + S1x8x256x128.size a ≤ S3x8x256x128.size a := by revert d; decide
set_option backward.proofsInPublic true in
theorem cl_inb (d : Fin 3) : ∀ a, (![d.val, 0, 0] : Fin 3 → ℕ) a + S1x8x256.size a ≤ S3x8x256.size a := by revert d; decide
set_option backward.proofsInPublic true in
theorem ar_inb (d : Fin 3) : ∀ a, (![d.val, 0, 0] : Fin 3 → ℕ) a + S1x64x1024.size a ≤ S3x64x1024.size a := by revert d; decide
set_option backward.proofsInPublic true in
theorem pa_inb (h : Fin 4) : ∀ a, (![64 * h.val, 0] : Fin 2 → ℕ) a + S64x1024.size a ≤ S256x1024.size a := by revert h; decide
set_option backward.proofsInPublic true in
theorem oh_inb (h : Fin 4) : ∀ a, (![8 * h.val, 0] : Fin 2 → ℕ) a + S8x256.size a ≤ S32x256.size a := by revert h; decide
set_option backward.proofsInPublic true in
theorem gs_inb : ∀ a, (![0, 0, 0] : Fin 3 → ℕ) a + S1x64x1024.size a ≤ S1x64x1024.size a := by decide

/-- Eight heads of a `[32, 256, 128]` buffer. -/
abbrev qR (h : Fin 4) : Rect S32x256x128 := Rect.unit (s := S32x256x128) ![8 * h.val, 0, 0] S8x256x128.size (qr_inb h)
/-- A slot of a `[4, 256, 32, 128]` buffer. -/
abbrev kR (j : Fin 4) : Rect S4x256x32x128 := Rect.unit (s := S4x256x32x128) ![j.val, 0, 0, 0] S1x256x32x128.size (kr_inb j)
/-- A block of 256 keys. -/
abbrev kbR (g : Fin 16) : Rect S4096x32x128 := Rect.unit (s := S4096x32x128) ![256 * g.val, 0, 0] S256x32x128.size (kb_inb g)
/-- A block of 64 query rows of a `[32, 256, 128]` buffer. -/
abbrev oR (r : Fin 4) : Rect S32x256x128 := Rect.unit (s := S32x256x128) ![0, 64 * r.val, 0] S32x64x128.size (or_inb r)
/-- A block of 64 query rows of a `[32, 256]` buffer. -/
abbrev lR (r : Fin 4) : Rect S32x256 := Rect.unit (s := S32x256) ![0, 64 * r.val] S32x64.size (lr_inb r)
/-- Eight heads of a `[32, 256]` buffer. -/
abbrev ohR (h : Fin 4) : Rect S32x256 := Rect.unit (s := S32x256) ![8 * h.val, 0] S8x256.size (oh_inb h)
abbrev coR (d : Fin 3) : Rect S3x8x256x128 := Rect.unit (s := S3x8x256x128) ![d.val, 0, 0, 0] S1x8x256x128.size (co_inb d)
abbrev clR (d : Fin 3) : Rect S3x8x256 := Rect.unit (s := S3x8x256) ![d.val, 0, 0] S1x8x256.size (cl_inb d)
abbrev arR (d : Fin 3) : Rect S3x64x1024 := Rect.unit (s := S3x64x1024) ![d.val, 0, 0] S1x64x1024.size (ar_inb d)
/-- A block of 64 rows of a `[256, 1024]` buffer. -/
abbrev paR (h : Fin 4) : Rect S256x1024 := Rect.unit (s := S256x1024) ![64 * h.val, 0] S64x1024.size (pa_inb h)
abbrev gsR : Rect S1x64x1024 := Rect.unit (s := S1x64x1024) ![0, 0, 0] S1x64x1024.size gs_inb

abbrev qS (h : Fin 4) : Memref sig .tc .vmem S8x256x128 .bf16 := qM.slice (qR h) (fun _ => rfl)
abbrev kS (j : Fin 4) : Memref sig .tc .vmem S256x32x128 .f32 := (kM.slice (kR j) (fun _ => rfl)).squeeze S256x32x128 squeezes_S1x256x32x128_S256x32x128
abbrev vS (j : Fin 4) : Memref sig .tc .vmem S256x32x128 .f32 := (vM.slice (kR j) (fun _ => rfl)).squeeze S256x32x128 squeezes_S1x256x32x128_S256x32x128
abbrev kB (g : Fin 16) : Memref sig .tc .hbm S256x32x128 .f32 := kHM.slice (kbR g) (fun _ => rfl)
abbrev vB (g : Fin 16) : Memref sig .tc .hbm S256x32x128 .f32 := vHM.slice (kbR g) (fun _ => rfl)
abbrev coS (d : Fin 3) : Memref sig .tc .vmem S8x256x128 .bf16 := (coM.slice (coR d) (fun _ => rfl)).squeeze S8x256x128 squeezes_S1x8x256x128_S8x256x128
abbrev clS (d : Fin 3) : Memref sig .tc .vmem S8x256 .bf16 := (clM.slice (clR d) (fun _ => rfl)).squeeze S8x256 squeezes_S1x8x256_S8x256
abbrev soS (d : Fin 3) : Memref sig .tc .vmem S8x256x128 .bf16 := (soM.slice (coR d) (fun _ => rfl)).squeeze S8x256x128 squeezes_S1x8x256x128_S8x256x128
abbrev slS (d : Fin 3) : Memref sig .tc .vmem S8x256 .bf16 := (slM.slice (clR d) (fun _ => rfl)).squeeze S8x256 squeezes_S1x8x256_S8x256
abbrev arS (d : Fin 3) : Memref sig .tc .vmem S64x1024 .bf16 := (arM.slice (arR d) (fun _ => rfl)).squeeze S64x1024 squeezes_S1x64x1024_S64x1024
abbrev asS (d : Fin 3) : Memref sig .tc .vmem S64x1024 .bf16 := (asM.slice (arR d) (fun _ => rfl)).squeeze S64x1024 squeezes_S1x64x1024_S64x1024
abbrev grS (d : Fin 3) : Memref sig .tc .vmem S64x1024 .bf16 := (grM.slice (arR d) (fun _ => rfl)).squeeze S64x1024 squeezes_S1x64x1024_S64x1024
abbrev gsS : Memref sig .tc .vmem S64x1024 .bf16 := (gsM.slice gsR (fun _ => rfl)).squeeze S64x1024 squeezes_S1x64x1024_S64x1024

/-! ## Values -/

section Values
variable (m : (ℓ : Loc nD τ sig) → Buf (Elt F) ℓ)

/-- Contents of a squeezed piece, read at the unsqueezed shape; -/
def unsq {α : Type} {s s' : Shape} (h : s.Squeezes s') (X : s'.Idx → α) : s.Idx → α := fun i => X ((Shape.reshapeEquiv h.numel_eq).symm i)
/-- and the other way. -/
def sq {α : Type} {s s' : Shape} (h : s.Squeezes s') (Y : s.Idx → α) : s'.Idx → α := fun i => Y (Shape.reshapeEquiv h.numel_eq i)

theorem unsq_sq {α : Type} {s s' : Shape} (h : s.Squeezes s') (Y : s.Idx → α) : unsq h (sq h Y) = Y :=
  funext fun i => congrArg Y (Equiv.apply_symm_apply _ i)
theorem sq_unsq {α : Type} {s s' : Shape} (h : s.Squeezes s') (X : s'.Idx → α) : sq h (unsq h X) = X :=
  funext fun i => congrArg X (Equiv.symm_apply_apply _ i)

abbrev hk1 := squeezes_S1x256x32x128_S256x32x128
abbrev ho1 := squeezes_S1x8x256x128_S8x256x128
abbrev hl1 := squeezes_S1x8x256_S8x256
abbrev ha1 := squeezes_S1x64x1024_S64x1024

/-- The staged input, query weights and output weights of device `c`. -/
def xv (c : Dev nD) : Vec F S256x1024 .f32 := (win0_0.blk (0 : Fin 1)).view.read (Elt F) (m ((c : Thread nD τ).loc main_arg0))
def wqv (c : Dev nD) : Vec F S1024x1024 .f32 := (win0_1.blk (0 : Fin 1)).view.read (Elt F) (m ((c : Thread nD τ).loc main_arg1))
def wov (c : Dev nD) : Vec F S1024x1024 .f32 := (win0_2.blk (0 : Fin 1)).view.read (Elt F) (m ((c : Thread nD τ).loc main_arg4))
/-- Key and value block `g` of device `c`. -/
def kG (c : Dev nD) (g : Fin 16) : Vec F S256x32x128 .f32 := (kB g).view.read (Elt F) (m ((c : Thread nD τ).loc main_arg2))
def vG (c : Dev nD) (g : Fin 16) : Vec F S256x32x128 .f32 := (vB g).view.read (Elt F) (m ((c : Thread nD τ).loc main_arg3))

/-- The query heads device `c` computes. -/
def qv (c : Dev nD) : Vec F S8x256x128 .bf16 := k0_pay15 (xv m c) (wqv m c)

set_option backward.proofsInPublic true in
/-- The place of an index of the gathered queries in its owner's eight heads. -/
def qIx (i : S32x256x128.Idx) : S8x256x128.Idx := fun a => match a with
  | 0 => ⟨(i 0).val % 8, Nat.mod_lt _ (by decide)⟩
  | 1 => ⟨(i 1).val, (i 1).isLt⟩
  | 2 => ⟨(i 2).val, (i 2).isLt⟩
set_option backward.proofsInPublic true in
def qOwner (i : S32x256x128.Idx) : Dev nD := ⟨(i 0).val / 8, by have : (i 0).val < 32 := (i 0).isLt; show _ < 4; omega⟩
/-- The gathered queries. -/
def qF : Vec F S32x256x128 .bf16 := fun i => qv m (qOwner i) (qIx i)
def qRow (r : Fin 4) : Vec F S32x64x128 .bf16 := fun j => qF m ((oR r).emb j)

/-- One trip's update of a block of 64 rows of the sums; -/
def stepL (r : Fin 4) (K : Vec F S1x256x32x128 .f32) (q : Vec F S32x64x128 .bf16) (l : Vec F S32x64 .f32) : Vec F S32x64 .f32 :=
  match r with
  | 0 => k0_pay4 (k0_pay3 K q) l
  | 1 => k0_pay7 (k0_pay1 K) q l
  | 2 => k0_pay11 (k0_pay1 K) q l
  | 3 => k0_pay18 (k0_pay14 (k0_pay1 K) q l)
/-- and of the outputs. -/
def stepO (r : Fin 4) (K V : Vec F S1x256x32x128 .f32) (q : Vec F S32x64x128 .bf16) (o : Vec F S32x64x128 .f32) : Vec F S32x64x128 .f32 :=
  match r with
  | 0 => k0_pay5 (k0_pay2 V) (k0_pay3 K q) o
  | 1 => k0_pay9 (k0_pay8 (k0_pay1 K) (k0_pay2 V) q o)
  | 2 => k0_pay12 (k0_pay1 K) (k0_pay2 V) q o
  | 3 => k0_pay19 (k0_pay2 V) (k0_pay13 (k0_pay1 K) q) o

/-- Row block `r` of the sums after `t` key blocks, -/
def lB (c : Dev nD) (r : Fin 4) : ℕ → Vec F S32x64 .f32
  | 0 => fun j => k0_pay17 (F := F) ((lR r).emb j)
  | t + 1 => stepL r (unsq hk1 (kG m c (Fin.ofNat 16 t))) (qRow m r) (lB c r t)
/-- and of the outputs. -/
def oB (c : Dev nD) (r : Fin 4) : ℕ → Vec F S32x64x128 .f32
  | 0 => fun j => k0_pay16 (F := F) ((oR r).emb j)
  | t + 1 => stepO r (unsq hk1 (kG m c (Fin.ofNat 16 t))) (unsq hk1 (vG m c (Fin.ofNat 16 t))) (qRow m r) (oB c r t)

set_option backward.proofsInPublic true in
def oIx (i : S32x256x128.Idx) : S32x64x128.Idx := fun a => match a with
  | 0 => ⟨(i 0).val, (i 0).isLt⟩
  | 1 => ⟨(i 1).val % 64, Nat.mod_lt _ (by decide)⟩
  | 2 => ⟨(i 2).val, (i 2).isLt⟩
set_option backward.proofsInPublic true in
def oBlk (i : S32x256x128.Idx) : Fin 4 := ⟨(i 1).val / 64, by have : (i 1).val < 256 := (i 1).isLt; omega⟩
set_option backward.proofsInPublic true in
def lIx (i : S32x256.Idx) : S32x64.Idx := fun a => match a with
  | 0 => ⟨(i 0).val, (i 0).isLt⟩
  | 1 => ⟨(i 1).val % 64, Nat.mod_lt _ (by decide)⟩
set_option backward.proofsInPublic true in
def lBlk (i : S32x256.Idx) : Fin 4 := ⟨(i 1).val / 64, by have : (i 1).val < 256 := (i 1).isLt; omega⟩

/-- The outputs and the sums of device `c`'s own keys, all heads and rows. -/
def oF (c : Dev nD) : Vec F S32x256x128 .f32 := fun i => oB m c (oBlk i) 16 (oIx i)
def lF (c : Dev nD) : Vec F S32x256 .f32 := fun i => lB m c (lBlk i) 16 (lIx i)
/-- Eight heads of them. -/
def oH (c h : Dev nD) : Vec F S8x256x128 .f32 := fun j => oF m c ((qR h).emb j)
def lH (c h : Dev nD) : Vec F S8x256 .f32 := fun j => lF m c ((ohR h).emb j)

/-- What device `c` stages for the device `d + 1` places after it. -/
def soW (c : Dev nD) (d : Fin 3) : Vec F S1x8x256x128 .bf16 :=
  match d with
  | 0 => k0_pay20 (oH m c (sh c 1))
  | 1 => k0_pay22 (oH m c (sh c 2))
  | 2 => k0_pay24 (oH m c (sh c 3))
def slW (c : Dev nD) (d : Fin 3) : Vec F S1x8x256 .bf16 :=
  match d with
  | 0 => k0_pay21 (lH m c (sh c 1))
  | 1 => k0_pay23 (lH m c (sh c 2))
  | 2 => k0_pay25 (lH m c (sh c 3))

/-- The device `d + 1` places before `c`. -/
def bk (c : Dev nD) (d : Fin 3) : Dev nD := sh c (3 - d.val)

/-- The normalized attention output of device `c`'s heads, -/
def att (c : Dev nD) : FVec F S8x256x128 .f32 :=
  k0_pay26 (oH m c c) (soW m (bk c 0) 0) (soW m (bk c 1) 1) (soW m (bk c 2) 2)
    (lH m c c) (slW m (bk c 0) 0) (slW m (bk c 1) 1) (slW m (bk c 2) 2)
/-- its product with the device's output weights, -/
def par (c : Dev nD) : Vec F S256x1024 .f32 := k0_pay27 (att m c) (wov m c)
def parR (c h : Dev nD) : Vec F S64x1024 .f32 := fun j => par m c ((paR h).emb j)
/-- the row blocks it stages for the others, -/
def asW (c : Dev nD) (d : Fin 3) : Vec F S1x64x1024 .bf16 :=
  match d with
  | 0 => k0_pay28 (parR m c (sh c 1))
  | 1 => k0_pay30 (k0_pay29 (parR m c (sh c 2)))
  | 2 => k0_pay31 (parR m c (sh c 3))
/-- its reduced row block, -/
def red (c : Dev nD) : FVec F S64x1024 .f32 :=
  k0_pay34 (parR m c c) (k0_pay32 (asW m (bk c 0) 0)) (k0_pay33 (asW m (bk c 1) 1)) (asW m (bk c 2) 2)
/-- and what it sends of it. -/
def gsW (c : Dev nD) : FVec F S1x64x1024 .bf16 :=
  k0_pay35 (parR m c c) (k0_pay32 (asW m (bk c 0) 0)) (k0_pay33 (asW m (bk c 1) 1)) (asW m (bk c 2) 2)

/-- Row block `h` of device `c`'s result. -/
def outB (c h : Dev nD) : Vec F S64x1024 .f32 :=
  if h = c then red m c else if h = bk c 0 then k0_pay36 (gsW m (bk c 0)) else if h = bk c 1 then k0_pay37 (gsW m (bk c 1)) else k0_pay38 (gsW m (bk c 2))

set_option backward.proofsInPublic true in
def paIx (i : S256x1024.Idx) : S64x1024.Idx := fun a => match a with
  | 0 => ⟨(i 0).val % 64, Nat.mod_lt _ (by decide)⟩
  | 1 => ⟨(i 1).val, (i 1).isLt⟩
set_option backward.proofsInPublic true in
def paBlk (i : S256x1024.Idx) : Dev nD := ⟨(i 0).val / 64, by have : (i 0).val < 256 := (i 0).isLt; show _ < 4; omega⟩
/-- Device `c`'s result. -/
def outF (c : Dev nD) : Vec F S256x1024 .f32 := fun i => outB m c (paBlk i) (paIx i)

end Values

/-! ## The schedule -/

section Schedule
variable (m : (ℓ : Loc nD τ sig) → Buf (Elt F) ℓ)

/-- The credit of one copy of phase `p`, and of one key or value block. -/
def crP (p : Fin 5) : ℕ :=
  match p with
  | 0 => (qS 0).view.dmaCredit
  | 1 => (coS 0).view.dmaCredit
  | 2 => (clS 0).view.dmaCredit
  | 3 => (arS 0).view.dmaCredit
  | 4 => (grS 0).view.dmaCredit
def crK : ℕ := (kS 0).view.dmaCredit

theorem crP_pos (p : Fin 5) : 0 < crP p := by
  fin_cases p <;> exact View.dmaCredit_pos _ (by decide)
theorem crK_pos : 0 < crK := View.dmaCredit_pos _ (by decide)

abbrev anyAt (c : Dev nD) {sp : Space} {s : Shape} {e : EltTy} (M : Memref sig .tc sp s e) : sProp 𝕄 :=
  iprop(∃ X, owns (c : Thread nD τ) M fullShare X)

/-- What the device `d + 1` places after `c` hands it at the barrier: the places on that device that `c` writes. -/
def barPay (c : Dev nD) (d : Fin 3) : sProp 𝕄 :=
  iprop(anyAt (sh c (d.val + 1)) (qS c) ∗ anyAt (sh c (d.val + 1)) (coS d) ∗ anyAt (sh c (d.val + 1)) (clS d)
    ∗ anyAt (sh c (d.val + 1)) (arS d) ∗ anyAt (sh c (d.val + 1)) (grS d))

/-- What lands with phase `p`'s copy from the device `d + 1` places before `c`. -/
def rcvPay (c : Dev nD) (p : Fin 5) (d : Fin 3) : sProp 𝕄 :=
  match p with
  | 0 => owns (c : Thread nD τ) (qS (bk c d)) fullShare (qv m (bk c d))
  | 1 => owns (c : Thread nD τ) (coS d) fullShare (sq ho1 (soW m (bk c d) d))
  | 2 => owns (c : Thread nD τ) (clS d) fullShare (sq hl1 (slW m (bk c d) d))
  | 3 => owns (c : Thread nD τ) (arS d) fullShare (sq ha1 (asW m (bk c d) d))
  | 4 => owns (c : Thread nD τ) (grS d) fullShare (sq ha1 (gsW m (bk c d)))

/-- The source of phase `p`'s copy to the device `d + 1` places after `c`, given back once it is sent. -/
def sndPay (c : Dev nD) (p : Fin 5) (d : Fin 3) : sProp 𝕄 :=
  match p with
  | 0 => owns (c : Thread nD τ) (qS c) (Ring.shares3 fullShare d) (qv m c)
  | 1 => owns (c : Thread nD τ) (soS d) fullShare (sq ho1 (soW m c d))
  | 2 => owns (c : Thread nD τ) (slS d) fullShare (sq hl1 (slW m c d))
  | 3 => owns (c : Thread nD τ) (asS d) fullShare (sq ha1 (asW m c d))
  | 4 => owns (c : Thread nD τ) gsS (Ring.shares3 fullShare d) (sq ha1 (gsW m c))

/-- The key or value block `g` in slot `j`, and its place in the device's array back. -/
def locPay (c : Dev nD) (b : Bool) (j : Fin 4) (g : Fin 16) : sProp 𝕄 :=
  match b with
  | false => iprop(owns (c : Thread nD τ) (kS j) fullShare (kG m c g) ∗ owns (c : Thread nD τ) (kB g) fullShare (kG m c g))
  | true => iprop(owns (c : Thread nD τ) (vS j) fullShare (vG m c g) ∗ owns (c : Thread nD τ) (vB g) fullShare (vG m c g))

/-- The key block that round `r` brings into slot `j`. -/
def gOf (r : ℕ) (j : Fin 4) : Fin 16 := Fin.ofNat 16 (4 * r + j.val)

/-- The schedule of the kernel's own cells. A barrier cell has one round of three duties of one unit each, one per other
    device; a send or receive cell one round of one duty; a cell of the local copies four rounds of one duty each. -/
def Rd : Rounds.Schedule (GSem nD τ sig) (Fin 3) 𝕄 where
  duties g r := if g.1.2 = .tc then (match kd g.2 with
    | .bar => if r = 0 then Finset.univ else ∅
    | .loc _ _ => if r < 4 then {0} else ∅
    | .snd _ _ => if r = 0 then {0} else ∅
    | .rcv _ _ => if r = 0 then {0} else ∅
    | .other => ∅) else ∅
  unitless _ := False
  amount g _ _ := match kd g.2 with
    | .bar => 1 | .loc _ _ => crK | .snd p _ => crP p | .rcv p _ => crP p | .other => 1
  payload g r e := match kd g.2 with
    | .bar => barPay g.1.1 e
    | .loc b j => locPay m g.1.1 b j (gOf r j)
    | .snd p d => sndPay m g.1.1 p d
    | .rcv p d => rcvPay m g.1.1 p d
    | .other => iprop(emp)
  amount_pos g _ _ _ := by
    split
    · exact Nat.one_pos
    · exact crK_pos
    · exact crP_pos _
    · exact crP_pos _
    · exact Nat.one_pos

instance barPay_storable (c : Dev nD) (d : Fin 3) : BI.Storable (upEmb : UEmb _ 𝕄) (barPay (F := F) c d) := by
  unfold barPay; infer_instance
instance rcvPay_storable (c : Dev nD) (p : Fin 5) (d : Fin 3) : BI.Storable (upEmb : UEmb _ 𝕄) (rcvPay m c p d) := by
  unfold rcvPay; split <;> infer_instance
instance sndPay_storable (c : Dev nD) (p : Fin 5) (d : Fin 3) : BI.Storable (upEmb : UEmb _ 𝕄) (sndPay m c p d) := by
  unfold sndPay; split <;> infer_instance
instance locPay_storable (c : Dev nD) (b : Bool) (j : Fin 4) (g : Fin 16) : BI.Storable (upEmb : UEmb _ 𝕄) (locPay m c b j g) := by
  unfold locPay; split <;> infer_instance

instance Rd_storable (g : GSem nD τ sig) (r : ℕ) (e : Fin 3) : BI.Storable (upEmb : UEmb _ 𝕄) ((Rd m).payload g r e) := by
  show BI.Storable upEmb (match kd g.2 with
    | .bar => barPay g.1.1 e
    | .loc b j => locPay m g.1.1 b j (gOf r j)
    | .snd p d => sndPay m g.1.1 p d
    | .rcv p d => rcvPay m g.1.1 p d
    | .other => iprop(emp))
  split <;> infer_instance

variable (c : Dev nD) (p : Fin 5) (d : Fin 3) (b : Bool) (j : Fin 4)

theorem duties_bar : (Rd m).duties (barC c) 0 = Finset.univ := by dsimp only [Rd]; rw [if_pos rfl, kd_bar]; rfl
theorem duties_loc (r : ℕ) (hr : r < 4) : (Rd m).duties (locC c b j) r = {0} := by
  dsimp only [Rd]; rw [if_pos rfl, kd_loc]; exact if_pos hr
theorem duties_snd : (Rd m).duties (sndC c p d) 0 = {0} := by dsimp only [Rd]; rw [if_pos rfl, kd_snd]; rfl
theorem duties_rcv : (Rd m).duties (rcvC c p d) 0 = {0} := by dsimp only [Rd]; rw [if_pos rfl, kd_rcv]; rfl

theorem later_bar : ∀ r, 0 + 1 ≤ r → (Rd m).duties (barC c) r = ∅ := fun r hr => by
  dsimp only [Rd]; rw [if_pos rfl, kd_bar]; exact if_neg (by omega)
theorem later_snd : ∀ r, 0 + 1 ≤ r → (Rd m).duties (sndC c p d) r = ∅ := fun r hr => by
  dsimp only [Rd]; rw [if_pos rfl, kd_snd]; exact if_neg (by omega)
theorem later_rcv : ∀ r, 0 + 1 ≤ r → (Rd m).duties (rcvC c p d) r = ∅ := fun r hr => by
  dsimp only [Rd]; rw [if_pos rfl, kd_rcv]; exact if_neg (by omega)
theorem later_loc : ∀ r, 4 ≤ r → (Rd m).duties (locC c b j) r = ∅ := fun r hr => by
  dsimp only [Rd]; rw [if_pos rfl, kd_loc]; exact if_neg (by omega)

theorem amount_bar (e : Fin 3) : (Rd m).amount (barC c) 0 e = 1 := by dsimp only [Rd]; rw [kd_bar]
theorem amount_loc (r : ℕ) (e : Fin 3) : (Rd m).amount (locC c b j) r e = crK := by dsimp only [Rd]; rw [kd_loc]
theorem amount_snd (e : Fin 3) : (Rd m).amount (sndC c p d) 0 e = crP p := by dsimp only [Rd]; rw [kd_snd]
theorem amount_rcv (e : Fin 3) : (Rd m).amount (rcvC c p d) 0 e = crP p := by dsimp only [Rd]; rw [kd_rcv]

theorem payload_bar (e : Fin 3) : (Rd m).payload (barC c) 0 e = barPay c e := by dsimp only [Rd]; rw [kd_bar]
theorem payload_loc (r : ℕ) (e : Fin 3) : (Rd m).payload (locC c b j) r e = locPay m c b j (gOf r j) := by dsimp only [Rd]; rw [kd_loc]
theorem payload_snd (e : Fin 3) : (Rd m).payload (sndC c p d) 0 e = sndPay m c p d := by dsimp only [Rd]; rw [kd_snd]
theorem payload_rcv (e : Fin 3) : (Rd m).payload (rcvC c p d) 0 e = rcvPay m c p d := by dsimp only [Rd]; rw [kd_rcv]

theorem expect_bar : (Rd m).expect (barC c) 0 = 3 := by
  unfold Schedule.expect Schedule.amountOf
  rw [duties_bar, Finset.sum_congr rfl fun e _ => amount_bar m c e, Finset.sum_const, Finset.card_univ, Fintype.card_fin, smul_eq_mul]
theorem expect_loc (r : ℕ) (hr : r < 4) : (Rd m).expect (locC c b j) r = crK := by
  unfold Schedule.expect Schedule.amountOf; rw [duties_loc m c b j r hr, Finset.sum_singleton, amount_loc]
theorem expect_snd : (Rd m).expect (sndC c p d) 0 = crP p := by
  unfold Schedule.expect Schedule.amountOf; rw [duties_snd, Finset.sum_singleton, amount_snd]
theorem expect_rcv : (Rd m).expect (rcvC c p d) 0 = crP p := by
  unfold Schedule.expect Schedule.amountOf; rw [duties_rcv, Finset.sum_singleton, amount_rcv]

theorem bigSep_fin3 {Φ : Fin 3 → sProp 𝕄} : bigSep Finset.univ Φ = iprop(Φ 0 ∗ Φ 1 ∗ Φ 2) := bigSep_univ_eq_bigSepL [0, 1, 2] (by decide) (by decide) Φ
theorem bigSep_fin4 {Φ : Fin 4 → sProp 𝕄} : bigSep Finset.univ Φ = iprop(Φ 0 ∗ Φ 1 ∗ Φ 2 ∗ Φ 3) := bigSep_univ_eq_bigSepL [0, 1, 2, 3] (by decide) (by decide) Φ

theorem rest_bar : bigSep ((Rd m).duties (barC c) 0 \ ∅) (fun e => (Rd m).payload (barC c) 0 e) = iprop(barPay c 0 ∗ barPay c 1 ∗ barPay c 2) := by
  rw [Finset.sdiff_empty, duties_bar, bigSep_fin3, payload_bar, payload_bar, payload_bar]
theorem rest_loc (r : ℕ) (hr : r < 4) : bigSep ((Rd m).duties (locC c b j) r \ ∅) (fun e => (Rd m).payload (locC c b j) r e) = locPay m c b j (gOf r j) := by
  rw [Finset.sdiff_empty, duties_loc m c b j r hr, bigSep_singleton, payload_loc]
theorem rest_snd : bigSep ((Rd m).duties (sndC c p d) 0 \ ∅) (fun e => (Rd m).payload (sndC c p d) 0 e) = sndPay m c p d := by
  rw [Finset.sdiff_empty, duties_snd, bigSep_singleton, payload_snd]
theorem rest_rcv : bigSep ((Rd m).duties (rcvC c p d) 0 \ ∅) (fun e => (Rd m).payload (rcvC c p d) 0 e) = rcvPay m c p d := by
  rw [Finset.sdiff_empty, duties_rcv, bigSep_singleton, payload_rcv]

end Schedule

/-! ## What a device owes, and the levels of the cells -/

/-- The level of a cell: what a device still owes when it waits lies above the cell it waits on. -/
def lvK : Kd → ℕ
  | .bar => 1
  | .loc _ _ => 0
  | .snd _ _ => 0
  | .rcv p _ => if p.val = 0 then 2 else if p.val < 3 then 3 else p.val + 1
  | .other => 0
def lv (g : GSem nD τ sig) (_ : Unit) : ℕ := lvK (kd g.2)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- A debt: how many places after the debtor the cell's device is, the semaphore, the amount. -/
abbrev Debt : Type := ℕ × SemLoc sig × ℕ

/-- A copy of phase `p` over distance `d + 1`, as a debt. -/
abbrev debt (p : Fin 5) (d : Fin 3) : Debt := (d.val + 1, .dma (rcvQ p d), crP p)

/-- All a device owes, in the order it pays. -/
def debts : List Debt :=
  [(1, .reg barS, 1), (2, .reg barS, 1), (3, .reg barS, 1), debt 0 0, debt 0 1, debt 0 2, debt 1 0, debt 2 0, debt 1 1, debt 2 1,
    debt 1 2, debt 2 2, debt 3 0, debt 3 1, debt 3 2, debt 4 0, debt 4 1, debt 4 2]

/-- The tally of a list of debts of device `c`. -/
def tally (c : Dev nD) : List Debt → CellTallies nD τ sig Unit
  | [] => 0
  | x :: l => tally c l + tallyAt ((sh c x.1 : Thread nD τ), x.2.1) () x.2.2

/-- What is left once the first `n` are paid. -/
def left (c : Dev nD) (n : ℕ) : CellTallies nD τ sig Unit := tally c (debts.drop n)

theorem tally_pos {c : Dev nD} {l : List Debt} {g : GSem nD τ sig} {u : Unit} (h : 0 < tally c l g u) :
    ∃ x ∈ l, g = ((sh c x.1 : Thread nD τ), x.2.1) := by
  induction l with
  | nil => exact absurd h (Nat.lt_irrefl 0)
  | cons x l ih =>
    unfold tally at h
    rw [Pi.add_apply, Finsupp.add_apply, tallyAt_apply] at h
    by_cases hx : g = ((sh c x.1 : Thread nD τ), x.2.1)
    · exact ⟨x, List.mem_cons_self, hx⟩
    · rw [if_neg (fun h' => hx h'.1), Nat.add_zero] at h
      obtain ⟨y, hy, e⟩ := ih h
      exact ⟨y, List.mem_cons_of_mem _ hy, e⟩

/-- A device may wait on a cell below everything it still owes. -/
theorem mayWait_list (c : Dev nD) (sm : SemLoc sig) (l : List Debt) (h : ∀ x ∈ l, lvK (kd sm) < lvK (kd x.2.1)) :
    (levAts L lv : sProp 𝕄) ⊢ MayWait (c : Thread nD τ) sm () (tally c l) :=
  MayOwe.of_cut (L := L) (lev := lv) (lvK (kd sm)) (fun p hp => by rw [Finset.mem_singleton.mp hp, L_tc]; exact Finset.mem_singleton_self _)
    (fun g u hg => by obtain ⟨x, _, rfl⟩ := tally_pos hg; rw [L_tc]; exact Finset.mem_singleton_self _)
    (fun p hp => by rw [Finset.mem_singleton.mp hp]; exact Nat.le_refl _)
    (fun g u hg => by obtain ⟨x, hx, rfl⟩ := tally_pos hg; exact h x hx)

/-- The sums of the levels over what is left, in a form to compute. -/
def above (sm : SemLoc sig) (n : ℕ) : Prop := ∀ x ∈ (debts.drop n).map (fun x => lvK (kd x.2.1)), lvK (kd sm) < x
instance (sm : SemLoc sig) (n : ℕ) : Decidable (above sm n) := by unfold above; infer_instance

theorem mayWait_left (c : Dev nD) (sm : SemLoc sig) (n : ℕ) (h : above sm n) :
    (levAts L lv : sProp 𝕄) ⊢ MayWait (c : Thread nD τ) sm () (left c n) :=
  mayWait_list c sm _ fun x hx => h _ (List.mem_map_of_mem hx)

end Cert.Quad
end
-- ==== Proof.Steps.lean ====
/-
One step of the kernel at a time, over memory held as owned memrefs: loads and stores of a piece, the signal, the remote
copies, the local copies and the waits, each in the form that the parts of the body use.
-/
module

public import proofs.«01_k».proof.Proof.Sched
public import Idealize.ShloMosaic.Lib.MemrefSat

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s core. -/
abbrev WP {α : Type} (c : Dev nD) (Q : α → sProp 𝕄) (p : Prog (TpuEff nD τ sig (Elt F) Λ₀ .tc) α) : sProp 𝕄 :=
  wp frame (wpE (defs₀ (F := F)) 𝒱₀ (c : Thread nD τ) none) Set.univ p Q

/-- A program that is done. -/
theorem ret_step (c : Dev nD) {α : Type} {Q : α → sProp 𝕄} (a : α) : Q a ⊢ WP c Q (Prog.ret a) := by
  show Q a ⊢ wp frame (wpE (defs₀ (F := F)) 𝒱₀ (c : Thread nD τ) none) Set.univ (Prog.ret a) Q
  rw [wp_ret]; exact fupd_intro

/-! ## Memrefs at equal places -/

section Owns
variable (c : Thread nD τ) {sp : Space} {s : Shape} {e : EltTy}

/-- A piece at an equal offset is owned at the same contents. -/
theorem owns_off (M : Memref sig c.2.kind sp s e) {off off' size : Fin s.rank → ℕ} (h : off = off') (p : ∀ a, off a + size a ≤ s.size a)
    (p' : ∀ a, off' a + size a ≤ s.size a) (hs hs') (q : PosShare TreeShare) (X : (Rect.unit off size p).shape.Idx → Elt F e) :
    (owns c (M.slice (Rect.unit off size p) hs) q X : sProp 𝕄) = owns c (M.slice (Rect.unit off' size p') hs') q X := by
  subst h; rfl

/-- A squeezed piece is owned at the contents in the squeezed order. -/
theorem owns_sq (M : Memref sig c.2.kind sp s e) {s' : Shape} (h : s.Squeezes s') (q : PosShare TreeShare) (X : s'.Idx → Elt F e) :
    (owns c (M.squeeze s' h) q X : sProp 𝕄) = owns c M q (unsq h X) := by
  have hset : (M.squeeze s' h).view.set = M.view.set := View.set_reshape _ _
  have hr : ∀ f : M.view.ty.Contents (Elt F), Iff ((M.squeeze s' h).view.read (Elt F) f = X) (M.view.read (Elt F) f = unsq h X) := fun f => by
    have hread : (M.squeeze s' h).view.read (Elt F) f = sq h (M.view.read (Elt F) f) := rfl
    rw [hread]
    constructor
    · rintro rfl; rw [unsq_sq]
    · intro h'; rw [h', sq_unsq]
  unfold owns
  rw [hset]
  refine congrArg (fun P : _ → sProp 𝕄 => BIBase.exists P) (funext fun f => ?_)
  rw [show ((M.squeeze s' h).view.read (Elt F) f = X) = (M.view.read (Elt F) f = unsq h X) from propext (hr f)]

theorem owns_sq' (M : Memref sig c.2.kind sp s e) {s' : Shape} (h : s.Squeezes s') (q : PosShare TreeShare) (Y : s.Idx → Elt F e) :
    (owns c (M.squeeze s' h) q (sq h Y) : sProp 𝕄) = owns c M q Y := by rw [owns_sq, unsq_sq]

/-- The share of an owned memref may be dealt in three. -/
theorem owns_thirds (M : Memref sig c.2.kind sp s e) (q : PosShare TreeShare) (X : s.Idx → Elt F e) :
    (owns c M q X : sProp 𝕄) ⊢ iprop(owns c M (Ring.shares3 q 0) X ∗ owns c M (Ring.shares3 q 1) X ∗ owns c M (Ring.shares3 q 2) X) :=
  (owns_halves c M q X).1.trans (sep_mono_right (owns_halves c M q.right X).1)

/-- Three owned thirds are the whole. -/
theorem owns_of_thirds (M : Memref sig c.2.kind sp s e) (q : PosShare TreeShare) (X : s.Idx → Elt F e) :
    iprop(owns c M (Ring.shares3 q 0) X ∗ owns c M (Ring.shares3 q 1) X ∗ owns c M (Ring.shares3 q 2) X) ⊢ (owns c M q X : sProp 𝕄) :=
  (sep_mono_right (owns_halves c M q.right X).2).trans (owns_halves c M q X).2
end Owns

/-! ## Loads and stores -/

section Mem
variable (c : Dev nD) {sp : CoreSpace} {s : Shape} {e : EltTy}

/-- A load of a piece reads what the piece is owned at; -/
theorem load_piece {α : Type} {Q : α → sProp 𝕄} {M : Memref sig .tc sp s e} {off off' size : Fin s.rank → ℕ} {p : ∀ a, off a + size a ≤ s.size a}
    {p' : ∀ a, off' a + size a ≤ s.size a} {hs} {hl} (h : off = off') {q : PosShare TreeShare} (X : (Rect.unit off' size p').shape.Idx → Elt F e)
    {k : ((Rect.unit off size p).shape.Idx → Elt F e) → Prog (TpuEff nD τ sig (Elt F) Λ₀ .tc) α} :
    (owns (c : Thread nD τ) (M.slice (Rect.unit off' size p') hs) q X : sProp 𝕄)
      ⊢ iprop((owns (c : Thread nD τ) (M.slice (Rect.unit off' size p') hs) q X -∗ WP c Q (k X))
        -∗ WP c Q (.op (.load M (Rect.unit off size p).toLoadRect hl) k)) := by
  subst h
  unfold owns
  iintro ⟨%f, %hf, H⟩ Hk
  subst hf
  iapply (wp_load_rect 𝒱₀ (c : Thread nD τ) none Set.univ (m := M) (r := Rect.unit off size p) (hl := hl) (k := k) (S := (M.slice (Rect.unit off size p) hs).view.set) (f := f) (q := q) (Finset.Subset.refl _)) $$ H
  iintro H
  iapply Hk
  iexists f; isplitr; · ipureintro; rfl
  iexact H

/-- a load of part of an owned memref reads that part; -/
theorem load_sub {α : Type} {Q : α → sProp 𝕄} {M : Memref sig .tc sp s e} {r : Rect s} {hl} {q : PosShare TreeShare} (X : s.Idx → Elt F e)
    {k : (r.shape.Idx → Elt F e) → Prog (TpuEff nD τ sig (Elt F) Λ₀ .tc) α} :
    (owns (c : Thread nD τ) M q X : sProp 𝕄)
      ⊢ iprop((owns (c : Thread nD τ) M q X -∗ WP c Q (k fun j => X (r.emb j))) -∗ WP c Q (.op (.load M r.toLoadRect hl) k)) := by
  unfold owns
  iintro ⟨%f, %hf, H⟩ Hk
  subst hf
  iapply (wp_load_rect 𝒱₀ (c : Thread nD τ) none Set.univ (m := M) (r := r) (hl := hl) (k := k) (S := M.view.set) (q := q) (f := f) (by rw [View.set_slice]; exact Finset.map_subset_map.mpr (Finset.subset_univ _))) $$ H
  iintro H
  iapply Hk
  iexists f; isplitr; · ipureintro; rfl
  iexact H

/-- the part named at an equal offset; -/
theorem load_part {α : Type} {Q : α → sProp 𝕄} {M : Memref sig .tc sp s e} {off size : Fin s.rank → ℕ} (off' : Fin s.rank → ℕ) {p : ∀ a, off a + size a ≤ s.size a}
    (p' : ∀ a, off' a + size a ≤ s.size a) {hl} (h : off = off') {q : PosShare TreeShare} (X : s.Idx → Elt F e)
    {k : ((Rect.unit off size p).shape.Idx → Elt F e) → Prog (TpuEff nD τ sig (Elt F) Λ₀ .tc) α} :
    (owns (c : Thread nD τ) M q X : sProp 𝕄)
      ⊢ iprop((owns (c : Thread nD τ) M q X -∗ WP c Q (k fun j => X ((Rect.unit off' size p').emb j))) -∗ WP c Q (.op (.load M (Rect.unit off size p).toLoadRect hl) k)) := by
  subst h
  exact load_sub c X

/-- and a load of the whole reads it all. -/
theorem load_all {α : Type} {Q : α → sProp 𝕄} {M : Memref sig .tc sp s e} {off : Fin s.rank → ℕ} {p : ∀ a, off a + s.size a ≤ s.size a} {hl} {q : PosShare TreeShare}
    (X : s.Idx → Elt F e) {k : (s.Idx → Elt F e) → Prog (TpuEff nD τ sig (Elt F) Λ₀ .tc) α} :
    (owns (c : Thread nD τ) M q X : sProp 𝕄)
      ⊢ iprop((owns (c : Thread nD τ) M q X -∗ WP c Q (k X)) -∗ WP c Q (.op (.load M (Rect.unit off s.size p).toLoadRect hl) k)) := by
  have h0 : (fun j : (Rect.unit off s.size p).shape.Idx => X ((Rect.unit off s.size p).emb j)) = X := funext fun j => congrArg X (funext fun a => Fin.ext (by
    have := p a
    show off a + 1 * (j a).val = (j a).val
    omega))
  have := load_sub (Q := Q) c (M := M) (r := Rect.unit off s.size p) (hl := hl) (q := q) X (k := k)
  rw [h0] at this
  exact this

/-- A store of a piece leaves it owned at what is stored. -/
theorem store_piece {α : Type} {Q : α → sProp 𝕄} {M : Memref sig .tc sp s e} {off off' size : Fin s.rank → ℕ} {p : ∀ a, off a + size a ≤ s.size a}
    {p' : ∀ a, off' a + size a ≤ s.size a} {hs} {hx} {hm} (h : off = off') (X : (Rect.unit off' size p').shape.Idx → Elt F e)
    {w : (Rect.unit off size p).shape.Idx → Elt F e} {k : PUnit → Prog (TpuEff nD τ sig (Elt F) Λ₀ .tc) α} :
    (owns (c : Thread nD τ) (M.slice (Rect.unit off' size p') hs) fullShare X : sProp 𝕄)
      ⊢ iprop((owns (c : Thread nD τ) (M.slice (Rect.unit off' size p') hs) fullShare w -∗ WP c Q (k ⟨⟩))
        -∗ WP c Q (.op (.store M (Rect.unit off size p) w Finset.univ hx hm) k)) := by
  subst h
  unfold owns
  iintro ⟨%f, %hf, H⟩ Hk
  iapply (wp_store 𝒱₀ (c : Thread nD τ) none Set.univ (m := M) (r := Rect.unit off size p) (w := w) (Mk := Finset.univ) (hx := hx) (hm := hm) (k := k) (S := (M.slice (Rect.unit off size p) hs).view.set) (f := f) (Finset.Subset.refl _)) $$ H
  iintro H
  iapply Hk
  iexists _; isplitr
  rotate_left
  · iexact H
  · ipureintro; exact View.read_write_univ _ _

/-- A store of the whole leaves it owned at what is stored. -/
theorem store_all {α : Type} {Q : α → sProp 𝕄} {M : Memref sig .tc sp s e} {off : Fin s.rank → ℕ} {p : ∀ a, off a + s.size a ≤ s.size a} {hx} {hm}
    (X : s.Idx → Elt F e) {w : s.Idx → Elt F e} {k : PUnit → Prog (TpuEff nD τ sig (Elt F) Λ₀ .tc) α} :
    (owns (c : Thread nD τ) M fullShare X : sProp 𝕄)
      ⊢ iprop((owns (c : Thread nD τ) M fullShare w -∗ WP c Q (k ⟨⟩))
        -∗ WP c Q (.op (.store M (Rect.unit off s.size p) w Finset.univ hx hm) k)) := by
  have hemb : ∀ j : s.Idx, (Rect.unit off s.size p).emb j = j := fun j => funext fun a => Fin.ext (by
    have := p a
    show off a + 1 * (j a).val = (j a).val
    omega)
  unfold owns
  iintro ⟨%f, %hf, H⟩ Hk
  iapply (wp_store 𝒱₀ (c : Thread nD τ) none Set.univ (m := M) (r := Rect.unit off s.size p) (w := w) (Mk := Finset.univ) (hx := hx) (hm := hm) (k := k) (S := M.view.set) (f := f) (by rw [View.setOn_univ, View.set_slice]; exact Finset.map_subset_map.mpr (Finset.subset_univ _))) $$ H
  iintro H
  iapply Hk
  iexists _
  isplitr
  rotate_left
  · iexact H
  · ipureintro
    funext j
    have h1 := congrFun (View.read_write_univ (Val := Elt F) (v := M.access (Rect.unit off s.size p)) f w) j
    have h2 : ∀ g : M.view.ty.Contents (Elt F), (M.access (Rect.unit off s.size p)).read (Elt F) g j = M.view.read (Elt F) g ((Rect.unit off s.size p).emb j) := fun g => rfl
    rw [← h1, h2, hemb j]

end Mem

/-! ## The cells' invariants -/

/-- The kernel's own cells of one device: the barrier, the local copies, the sends, the receives. -/
abbrev CIx : Type := Unit ⊕ (Bool × Fin 4) ⊕ (Fin 5 × Fin 3) ⊕ (Fin 5 × Fin 3)

instance : DecidableEq CIx := inferInstanceAs (DecidableEq (Unit ⊕ (Bool × Fin 4) ⊕ (Fin 5 × Fin 3) ⊕ (Fin 5 × Fin 3)))
instance : DecidableEq (Dev nD × CIx) := instDecidableEqProd

def csem : CIx → SemLoc sig
  | .inl _ => .reg barS
  | .inr (.inl x) => .dma (locQ x.1 x.2)
  | .inr (.inr (.inl x)) => .dma (sndQ x.1 x.2)
  | .inr (.inr (.inr x)) => .dma (rcvQ x.1 x.2)

abbrev kcell (ck : Dev nD × CIx) : GSem nD τ sig := ((ck.1 : Thread nD τ), csem ck.2)

section Proto
variable (m : (ℓ : Loc nD τ sig) → Buf (Elt F) ℓ) (K : Dev nD × CIx → ℕ)

/-- Every cell's invariant, and that its round 0 is reached. -/
def recs : sProp 𝕄 := bigSep Finset.univ fun ck : Dev nD × CIx => iprop(cellInv ER (Rd m) (K ck) (kcell ck) ∗ reached ER (kcell ck) 0)

instance recs_persistent : BI.Persistent (recs m K) := by unfold recs; infer_instance

theorem recs_at (ck : Dev nD × CIx) : recs m K ⊢ iprop(cellInv ER (Rd m) (K ck) (kcell ck) ∗ reached ER (kcell ck) 0) :=
  bigSep_elim (Finset.mem_univ ck)

/-- Device `c` owes what is left after `n` payments. -/
def owe (c : Dev nD) (n : ℕ) : sProp 𝕄 := iprop(∃ W, owes (c : Thread nD τ) (left c n) W)

/-- What device `c` holds of phase `p`, distance `d + 1`, before it sends; -/
def pre (c : Dev nD) (p : Fin 5) (d : Fin 3) : sProp 𝕄 :=
  iprop(dutyTok ER (sndC c p d) 0 0 ∗ dutyTok ER (rcvC (sh c (d.val + 1)) p d) 0 0 ∗ atPos ER (sndC c p d) 0 ∅ 0 ∗ atPos ER (rcvC c p d) 0 ∅ 0
    ∗ cred (tallyAt (rcvC c p d) () (crP p)))
/-- once it has sent; -/
def mid (c : Dev nD) (p : Fin 5) (d : Fin 3) : sProp 𝕄 :=
  iprop(atPos ER (sndC c p d) 0 ∅ 0 ∗ cred (tallyAt (sndC c p d) () (crP p)) ∗ atPos ER (rcvC c p d) 0 ∅ 0 ∗ cred (tallyAt (rcvC c p d) () (crP p)))
/-- once the source is back; -/
def snt (c : Dev nD) (p : Fin 5) (d : Fin 3) : sProp 𝕄 :=
  iprop(semVal (sndC c p d) 0 ∗ atPos ER (rcvC c p d) 0 ∅ 0 ∗ cred (tallyAt (rcvC c p d) () (crP p)))
/-- and once the landing is here. -/
def fin (c : Dev nD) (p : Fin 5) (d : Fin 3) : sProp 𝕄 := iprop(semVal (sndC c p d) 0 ∗ semVal (rcvC c p d) 0)

variable (c : Dev nD) (p : Fin 5) (d : Fin 3)

/-- A remote copy of phase `p` over distance `d + 1`: the source and the place on the target go in. -/
theorem send_step {α : Type} {Q : α → sProp 𝕄} {n : Dev nD} (k : ℕ) (hn : n = sh c (d.val + 1)) (hk : debts.drop k = debt p d :: debts.drop (k + 1))
    {sp sp' : Space} {s : Shape} {e : EltTy} {src src' : Memref sig .tc sp s e} {dst dst' : Memref sig .tc sp' s e} (es : src' = src) (ed : dst' = dst) {hsc} {sS sem : SemLoc sig} {hsrc hdst hsem}
    {kont : PUnit → Prog (TpuEff nD τ sig (Elt F) Λ₀ .tc) α} (q : PosShare TreeShare) (X : s.Idx → Elt F e)
    (hsS : sS = .dma (sndQ p d)) (hsem' : sem = .dma (rcvQ p d)) (hN : dst.view.dmaCredit = crP p)
    (hp₁ : owns (c : Thread nD τ) src q X ⊢ sndPay m c p d) (hp₂ : owns (sh c (d.val + 1) : Thread nD τ) dst fullShare X ⊢ rcvPay m (sh c (d.val + 1)) p d) :
    recs m K ⊢ iprop(owns (c : Thread nD τ) src q X -∗ anyAt (sh c (d.val + 1)) dst -∗ owe c k -∗ pre c p d -∗ ((owe c (k + 1) ∗ mid c p d) -∗ WP c Q (kont ⟨⟩))
        -∗ WP c Q (.op (.enqueueDma src' (.remote (n : Thread nD τ) dst' sS hsc) sem hsrc hdst hsem) kont)) := by
  subst hn hsS hsem'
  obtain rfl := es.symm
  obtain rfl := ed.symm
  unfold owe pre mid
  iintro #HR Hs ⟨%Y, Hd⟩ ⟨%W, HO⟩ ⟨HtS, HtV, HaS, HaV, HcV⟩ Hk
  unfold owns
  icases Hs with ⟨%fs, %hfs, Hs⟩
  icases Hd with ⟨%fd, %hfd, Hd⟩
  ihave HI₁ := (recs_at m K (c, .inr (.inr (.inl (p, d))))) $$ HR
  ihave HI₂ := (recs_at m K (sh c (d.val + 1), .inr (.inr (.inr (p, d))))) $$ HR
  icases HI₁ with ⟨HI₁, Hr₁⟩
  icases HI₂ with ⟨HI₂, Hr₂⟩
  have hpay₁ : (src.view.loc (c : Thread nD τ) ↦[src.view.set]{q} fs : sProp 𝕄) ⊢ (Rd m).payload (sndC c p d) 0 0 := by
    rw [payload_snd]; refine BIBase.Entails.trans ?_ hp₁; unfold owns; iintro H; iexists fs
    isplitr; · ipureintro; exact hfs
    iexact H
  have hpay₂ : (dst.view.loc (sh c (d.val + 1) : Thread nD τ) ↦[dst.view.set]{fullShare} (dst.view.write (Elt F) fd (src.view.read (Elt F) fs) Finset.univ) : sProp 𝕄)
      ⊢ (Rd m).payload (rcvC (sh c (d.val + 1)) p d) 0 0 := by
    rw [payload_rcv]; refine BIBase.Entails.trans ?_ hp₂; unfold owns; iintro H; iexists _
    isplitr
    rotate_left
    · iexact H
    · ipureintro; rw [View.read_write_univ]; exact hfs
  have hO : left c k = left c (k + 1) + tallyAt (rcvC (sh c (d.val + 1)) p d) () (crP p) := by unfold left; rw [hk]; rfl
  iapply (Rounds.wp_send_pointsTo 𝒱₀ ER (Rd m) (c : Thread nD τ) none (c' := (sh c (d.val + 1) : Thread nD τ)) (κ₁ := K (c, .inr (.inr (.inl (p, d)))))
      (κ₂ := K (sh c (d.val + 1), .inr (.inr (.inr (p, d))))) (r₁ := 0) (r₂ := 0) (d₁ := 0) (d₂ := 0) (sS := .dma (sndQ p d)) (sem := .dma (rcvQ p d)) (hsc := hsc) (hsrc := hsrc) (hdst := hdst) (hsem := hsem) (k := kont) (q := q) (fs := fs) (fd := fd) (W := W)
      (by rw [duties_snd]; exact Finset.mem_singleton_self _) (by rw [duties_rcv]; exact Finset.mem_singleton_self _)
      () () (crP p) hN (amount_snd m c p d 0) (amount_rcv m _ p d 0) (left c (k + 1)) hO hpay₁ hpay₂)
    $$ [HI₁ HI₂ Hr₁ Hr₂ Hs Hd HO HtS HtV]
  · isplitl [HI₁]; · iexact HI₁
    isplitl [HI₂]; · iexact HI₂
    isplitl [Hs]; · iexact Hs
    isplitl [Hd]; · iexact Hd
    isplitl [HO]; · iexact HO
    isplitl [HtS]; · iexact HtS
    isplitl [Hr₁]; · iexact Hr₁
    isplitl [HtV]; · iexact HtV
    iexact Hr₂
  iintro ⟨HcS, HO⟩
  iapply Hk
  isplitl [HO]; · iexists W; iexact HO
  isplitl [HaS]; · iexact HaS
  isplitl [HcS]; · iexact HcS
  isplitl [HaV] <;> iassumption

/-- The wait on a send cell: the source comes back and the cell closes. -/
theorem wait_snd {α : Type} {Q : α → sProp 𝕄} (k : ℕ) (hab : above (.dma (sndQ p d)) k) {sp sp' : Space} {s s' : Shape} {e e' : EltTy} {a : Memref sig .tc sp s e} {b : Memref sig .tc sp' s' e'}
    {sem : DmaSem sig} {ha hb} {kont : PUnit → Prog (TpuEff nD τ sig (Elt F) Λ₀ .tc) α} (hsem : sem = sndQ p d) (hN : b.view.dmaCredit = crP p) :
    recs m K ⊢ iprop(levAts L lv -∗ owe c k -∗ mid c p d -∗ ((owe c k ∗ snt c p d ∗ sndPay m c p d) -∗ WP c Q (kont ⟨⟩)) -∗ WP c Q (.op (.waitDma2 sem a b ha hb) kont)) := by
  subst hsem
  unfold owe mid snt
  iintro #HR #HL ⟨%W, HO⟩ ⟨HaS, HcS, HaV, HcV⟩ Hk
  ihave HI₁ := (recs_at m K (c, .inr (.inr (.inl (p, d))))) $$ HR
  icases HI₁ with ⟨#HI₁, -⟩
  iapply (Rounds.wp_wait_rest_token 𝒱₀ ER (Rd m) (c : Thread nD τ) none (κ := K (c, .inr (.inr (.inl (p, d)))))
      (wpE_waitDma2_eq 𝒱₀ (c : Thread nD τ) none Set.univ) (Set.mem_univ _) () (O := left c k) (W := W) (R := 0) (m := 0) (T := ∅)
      (by rw [Nat.zero_add]; exact hN.trans (expect_snd m c p d).symm)) $$ [HcS HO HaS]
  · isplitr; · iexact HI₁
    isplitl [HcS]; · rw [hN]; iexact HcS
    isplitl [HO]; · iexact HO
    isplitr; · iapply (mayWait_left c _ k hab); iexact HL
    iexact HaS
  iintro ⟨HO, HaS, -, Hpay⟩
  ihave Hpay := (Entails.of_eq (rest_snd m c p d)) $$ Hpay
  imod (Rounds.cell_close ER (Rd m) (Set.mem_univ (K (c, .inr (.inr (.inl (p, d)))))) (fun h => h) (R := 0 + 1) (later_snd m c p d)) $$ [HaS] with Hz
  · isplitr; · iexact HI₁
    iexact HaS
  iapply Hk
  isplitl [HO]; · iexists _; iexact HO
  isplitl [Hz HaV HcV]
  · isplitl [Hz]; · iexact Hz
    isplitl [HaV] <;> iassumption
  iexact Hpay

/-- The wait on a receive cell: what was sent is here and the cell closes. -/
theorem wait_rcv {α : Type} {Q : α → sProp 𝕄} (k : ℕ) (hab : above (.dma (rcvQ p d)) k) {sp sp' : Space} {s s' : Shape} {e e' : EltTy} {a : Memref sig .tc sp s e} {b : Memref sig .tc sp' s' e'}
    {sem : DmaSem sig} {ha hb} {kont : PUnit → Prog (TpuEff nD τ sig (Elt F) Λ₀ .tc) α} (hsem : sem = rcvQ p d) (hN : b.view.dmaCredit = crP p) :
    recs m K ⊢ iprop(levAts L lv -∗ owe c k -∗ snt c p d -∗ ((owe c k ∗ fin c p d ∗ rcvPay m c p d) -∗ WP c Q (kont ⟨⟩)) -∗ WP c Q (.op (.waitDma2 sem a b ha hb) kont)) := by
  subst hsem
  unfold owe snt fin
  iintro #HR #HL ⟨%W, HO⟩ ⟨HzS, HaV, HcV⟩ Hk
  ihave HI₁ := (recs_at m K (c, .inr (.inr (.inr (p, d))))) $$ HR
  icases HI₁ with ⟨#HI₁, -⟩
  iapply (Rounds.wp_wait_rest_token 𝒱₀ ER (Rd m) (c : Thread nD τ) none (κ := K (c, .inr (.inr (.inr (p, d)))))
      (wpE_waitDma2_eq 𝒱₀ (c : Thread nD τ) none Set.univ) (Set.mem_univ _) () (O := left c k) (W := W) (R := 0) (m := 0) (T := ∅)
      (by rw [Nat.zero_add]; exact hN.trans (expect_rcv m c p d).symm)) $$ [HcV HO HaV]
  · isplitr; · iexact HI₁
    isplitl [HcV]; · rw [hN]; iexact HcV
    isplitl [HO]; · iexact HO
    isplitr; · iapply (mayWait_left c _ k hab); iexact HL
    iexact HaV
  iintro ⟨HO, HaV, -, Hpay⟩
  ihave Hpay := (Entails.of_eq (rest_rcv m c p d)) $$ Hpay
  imod (Rounds.cell_close ER (Rd m) (Set.mem_univ (K (c, .inr (.inr (.inr (p, d)))))) (fun h => h) (R := 0 + 1) (later_rcv m c p d)) $$ [HaV] with Hz
  · isplitr; · iexact HI₁
    iexact HaV
  iapply Hk
  isplitl [HO]; · iexists _; iexact HO
  isplitl [Hz HzS]
  · isplitl [HzS] <;> iassumption
  iexact Hpay

/-- The signal to the device `d' + 1` places after: it pays that device's barrier duty `2 - d'`. -/
theorem signal_step {α : Type} {Q : α → sProp 𝕄} {n : Dev nD} (k : ℕ) (j : ℕ) (e : Fin 3) (hn : n = sh c j) (he : j + (e.val + 1) = 4)
    (hk : debts.drop k = (j, .reg barS, 1) :: debts.drop (k + 1)) {kont : PUnit → Prog (TpuEff nD τ sig (Elt F) Λ₀ .tc) α} {sem : Sem sig} (hs : sem = barS)
    {amt : ℕ} (ha : amt = 1) :
    recs m K ⊢ iprop(owe c k -∗ dutyTok ER (barC (sh c j)) 0 e
        -∗ (anyAt c (qS (sh c j)) ∗ anyAt c (coS e) ∗ anyAt c (clS e) ∗ anyAt c (arS e) ∗ anyAt c (grS e)) -∗ (owe c (k + 1) -∗ WP c Q (kont ⟨⟩)) -∗ WP c Q (.op (.semSignal (n : Thread nD τ) sem amt) kont)) := by
  subst hn hs ha
  have hback : sh (sh c j) (e.val + 1) = c := by rw [sh_sh, he, sh_four]
  unfold owe
  iintro #HR ⟨%W, HO⟩ Ht Hp Hk
  ihave HI₁ := (recs_at m K (sh c j, .inl ())) $$ HR
  icases HI₁ with ⟨#HI₁, #Hr₁⟩
  have hO : left c k = left c (k + 1) + tallyAt (barC (sh c j)) () 1 := by unfold left; rw [hk]; rfl
  iapply (Rounds.wp_signal 𝒱₀ ER (Rd m) (c : Thread nD τ) none (dst := (sh c j : Thread nD τ)) (κ := K (sh c j, .inl ()))
      (d := e) (W := W) (by rw [duties_bar]; exact Finset.mem_univ _) (amount_bar m (sh c j) e) () (left c (k + 1)) hO)
    $$ [HO Ht Hp]
  · isplitr; · iexact HI₁
    isplitl [HO]; · iexact HO
    isplitl [Ht]; · iexact Ht
    isplitl [Hp]
    · rw [payload_bar]; unfold barPay; rw [hback]; iexact Hp
    iexact Hr₁
  iintro HO
  iapply Hk
  iexists W; iexact HO

/-- The wait at the barrier: the places on the other devices are here and the cell closes. -/
theorem wait_bar {α : Type} {Q : α → sProp 𝕄} (k : ℕ) (hab : above (.reg barS) k) {kont : PUnit → Prog (TpuEff nD τ sig (Elt F) Λ₀ .tc) α} {sem : Sem sig} (hs : sem = barS)
    {amt : ℕ} (ha : amt = 3) :
    recs m K ⊢ iprop(levAts L lv -∗ owe c k -∗ (atPos ER (barC c) 0 ∅ 0 ∗ cred (tallyAt (barC c) () 3)) -∗ ((owe c k ∗ semVal (barC c) 0 ∗ barPay c 0 ∗ barPay c 1 ∗ barPay c 2) -∗ WP c Q (kont ⟨⟩)) -∗ WP c Q (.op (.semWait sem amt) kont)) := by
  subst hs ha
  unfold owe
  iintro #HR #HL ⟨%W, HO⟩ ⟨Ha, Hc⟩ Hk
  ihave HI₁ := (recs_at m K (c, .inl ())) $$ HR
  icases HI₁ with ⟨#HI₁, -⟩
  iapply (Rounds.wp_wait_rest_token 𝒱₀ ER (Rd m) (c : Thread nD τ) none (κ := K (c, .inl ()))
      (wpE_semWait_eq 𝒱₀ (c : Thread nD τ) none Set.univ) (Set.mem_univ _) () (O := left c k) (W := W) (R := 0) (m := 0) (T := ∅)
      (by rw [Nat.zero_add]; exact (expect_bar m c).symm)) $$ [Hc HO Ha]
  · isplitr; · iexact HI₁
    isplitl [Hc]; · iexact Hc
    isplitl [HO]; · iexact HO
    isplitr; · iapply (mayWait_left c _ k hab); iexact HL
    iexact Ha
  iintro ⟨HO, Ha, -, Hpay⟩
  ihave Hpay := (Entails.of_eq (rest_bar m c)) $$ Hpay
  imod (Rounds.cell_close ER (Rd m) (Set.mem_univ (K (c, .inl ()))) (fun h => h) (R := 0 + 1) (later_bar m c)) $$ [Ha] with Hz
  · isplitr; · iexact HI₁
    iexact Ha
  iapply Hk
  isplitl [HO]; · iexists _; iexact HO
  isplitl [Hz]; · iexact Hz
  iexact Hpay

/-! ## The local copies -/

/-- The memrefs of a slot and of a block, keys or values. -/
abbrev slot (b : Bool) (j : Fin 4) : Memref sig .tc .vmem S256x32x128 .f32 := match b with | false => kS j | true => vS j
abbrev block (b : Bool) (g : Fin 16) : Memref sig .tc .hbm S256x32x128 .f32 := match b with | false => kB g | true => vB g
/-- Block `g`'s contents. -/
def blkV (c : Dev nD) (b : Bool) (g : Fin 16) : Vec F S256x32x128 .f32 := match b with | false => kG m c g | true => vG m c g

theorem locPay_eq (c : Dev nD) (b : Bool) (j : Fin 4) (g : Fin 16) :
    locPay m c b j g = iprop(owns (c : Thread nD τ) (slot b j) fullShare (blkV m c b g) ∗ owns (c : Thread nD τ) (block b g) fullShare (blkV m c b g)) := by
  cases b <;> rfl

/-- The tokens of the last `n` rounds of a slot's cell. -/
def toks (c : Dev nD) (b : Bool) (j : Fin 4) : ℕ → sProp 𝕄
  | 0 => iprop(emp)
  | n + 1 => iprop(dutyTok ER (locC c b j) (3 - n) 0 ∗ toks c b j n)

theorem toks_take (c : Dev nD) (b : Bool) (j : Fin 4) (r : ℕ) (hr : r < 4) :
    (toks (F := F) c b j (4 - r)) = iprop(dutyTok ER (locC c b j) r 0 ∗ toks c b j (4 - (r + 1))) := by
  obtain ⟨n, hn⟩ : ∃ n, 4 - r = n + 1 := ⟨3 - r, by omega⟩
  have h1 : 4 - (r + 1) = n := by omega
  have h2 : 3 - n = r := by omega
  rw [hn, h1]
  show iprop(dutyTok ER (locC c b j) (3 - n) 0 ∗ toks c b j n) = _
  rw [h2]

/-- A slot's cell at rest before round `r`. -/
def atR (c : Dev nD) (b : Bool) (j : Fin 4) (r : ℕ) : sProp 𝕄 :=
  iprop(atPos ER (locC c b j) r ∅ 0 ∗ reached ER (locC c b j) r ∗ toks c b j (4 - r))

/-- Slot `j`'s copy of round `r` in flight. -/
def flight (c : Dev nD) (b : Bool) (j : Fin 4) (r : ℕ) : sProp 𝕄 :=
  iprop(atPos ER (locC c b j) r ∅ 0 ∗ cred (tallyAt (locC c b j) () crK) ∗ toks c b j (4 - (r + 1)))

/-- A local copy: block `gOf r j` into slot `j`. -/
theorem copy_step {α : Type} {Q : α → sProp 𝕄} (b : Bool) (j : Fin 4) (r : ℕ) (hr : r < 4) {src : Memref sig .tc .hbm S256x32x128 .f32} {dst : Memref sig .tc .vmem S256x32x128 .f32}
    {sem : SemLoc sig} {hsrc hdst hsem} {kont : PUnit → Prog (TpuEff nD τ sig (Elt F) Λ₀ .tc) α} (g : Fin 16) (hg : gOf r j = g)
    (h1 : src = block b g) (h2 : dst = slot b j) (h3 : sem = .dma (locQ b j)) :
    recs m K ⊢ iprop(owns (c : Thread nD τ) (block b g) fullShare (blkV m c b g) -∗ anyAt c (slot b j) -∗ atR c b j r -∗ (flight c b j r -∗ WP c Q (kont ⟨⟩)) -∗ WP c Q (.op (.enqueueDma src (.here dst) sem hsrc hdst hsem) kont)) := by
  subst h1 h2 h3 hg
  unfold atR flight
  rw [toks_take c b j r hr]
  iintro #HR Hs ⟨%Y, Hd⟩ ⟨Ha, #Hr, Ht, Htk⟩ Hk
  unfold owns
  icases Hs with ⟨%fs, %hfs, Hs⟩
  icases Hd with ⟨%fd, %hfd, Hd⟩
  ihave HI₁ := (recs_at m K (c, .inr (.inl (b, j)))) $$ HR
  icases HI₁ with ⟨#HI₁, -⟩
  have hpay : iprop(((slot b j).view.loc (c : Thread nD τ) ↦[(slot b j).view.set]{fullShare} ((slot b j).view.write (Elt F) fd ((block b (gOf r j)).view.read (Elt F) fs) Finset.univ))
      ∗ ((block b (gOf r j)).view.loc (c : Thread nD τ) ↦[(block b (gOf r j)).view.set]{fullShare} fs)) ⊢ (Rd m).payload (locC c b j) r 0 := by
    rw [payload_loc, locPay_eq]; unfold owns; iintro ⟨H1, H2⟩
    isplitl [H1]
    · iexists _; isplitr
      rotate_left
      · iexact H1
      · ipureintro; rw [View.read_write_univ]; exact hfs
    · iexists fs; isplitr; · ipureintro; exact hfs
      iexact H2
  have hN : (slot b j).view.dmaCredit = crK := by cases b <;> rfl
  iapply (Rounds.wp_copy_pointsTo 𝒱₀ ER (Rd m) (c : Thread nD τ) none (κ := K (c, .inr (.inl (b, j)))) (r := r) (d := 0) (src := block b (gOf r j)) (dst := slot b j) (sem := .dma (locQ b j)) (hsrc := hsrc) (hdst := hdst) (hsem := hsem) (k := kont) (q := fullShare) (fs := fs) (fd := fd)
      (by rw [duties_loc m c b j r hr]; exact Finset.mem_singleton_self _) () crK hN (amount_loc m c b j r 0) hpay)
    $$ [Hs Hd Ht]
  · isplitr; · iexact HI₁
    isplitl [Hs]; · iexact Hs
    isplitl [Hd]; · iexact Hd
    isplitl [Ht]; · iexact Ht
    iexact Hr
  iintro Hc
  iapply Hk
  isplitl [Ha]; · iexact Ha
  isplitl [Hc] <;> iassumption

/-- The wait for a local copy: the slot holds the block, and the block's place is back. -/
theorem wait_loc {α : Type} {Q : α → sProp 𝕄} (b : Bool) (j : Fin 4) (r : ℕ) (hr : r < 4) (k : ℕ) (hab : above (.dma (locQ b j)) k) {sp sp' : Space} {s s' : Shape} {e e' : EltTy}
    {x : Memref sig .tc sp s e} {y : Memref sig .tc sp' s' e'} {sem : DmaSem sig} {hx hy} {kont : PUnit → Prog (TpuEff nD τ sig (Elt F) Λ₀ .tc) α}
    (g : Fin 16) (hg : gOf r j = g) (hsem : sem = locQ b j) (hN : y.view.dmaCredit = crK) :
    recs m K ⊢ iprop(levAts L lv -∗ owe c k -∗ flight c b j r -∗ ((owe c k ∗ atR c b j (r + 1) ∗ owns (c : Thread nD τ) (slot b j) fullShare (blkV m c b g)
            ∗ owns (c : Thread nD τ) (block b g) fullShare (blkV m c b g)) -∗ WP c Q (kont ⟨⟩))
        -∗ WP c Q (.op (.waitDma2 sem x y hx hy) kont)) := by
  subst hsem hg
  unfold owe flight atR
  iintro #HR #HL ⟨%W, HO⟩ ⟨Ha, Hc, Htk⟩ Hk
  ihave HI₁ := (recs_at m K (c, .inr (.inl (b, j)))) $$ HR
  icases HI₁ with ⟨#HI₁, -⟩
  iapply (Rounds.wp_wait_rest_token 𝒱₀ ER (Rd m) (c : Thread nD τ) none (κ := K (c, .inr (.inl (b, j))))
      (wpE_waitDma2_eq 𝒱₀ (c : Thread nD τ) none Set.univ) (Set.mem_univ _) () (O := left c k) (W := W) (R := r) (m := 0) (T := ∅)
      (by rw [Nat.zero_add]; exact hN.trans (expect_loc m c b j r hr).symm)) $$ [Hc HO Ha]
  · isplitr; · iexact HI₁
    isplitl [Hc]; · rw [hN]; iexact Hc
    isplitl [HO]; · iexact HO
    isplitr; · iapply (mayWait_left c _ k hab); iexact HL
    iexact Ha
  iintro ⟨HO, Ha, Hr, Hpay⟩
  ihave Hpay := (Entails.of_eq ((rest_loc m c b j r hr).trans (locPay_eq m c b j _))) $$ Hpay
  iapply Hk
  isplitl [HO]; · iexists _; iexact HO
  isplitl [Ha Hr Htk]
  · isplitl [Ha]; · iexact Ha
    isplitl [Hr] <;> iassumption
  iexact Hpay

/-- After its four rounds a slot's cell closes. -/
theorem close_loc (b : Bool) (j : Fin 4) : iprop(recs m K ∗ atR c b j 4) ⊢ |={Set.univ}=> semVal (locC c b j) 0 := by
  unfold atR
  iintro ⟨#HR, Ha, -, -⟩
  ihave HI₁ := (recs_at m K (c, .inr (.inl (b, j)))) $$ HR
  icases HI₁ with ⟨#HI₁, -⟩
  iapply (Rounds.cell_close ER (Rd m) (Set.mem_univ (K (c, .inr (.inl (b, j))))) (fun h => h) (R := 4) (later_loc m c b j))
  isplitr; · iexact HI₁
  iexact Ha

end Proto

end Cert.Quad
end
-- ==== Proof.Ghost.lean ====
/-
The launch's ghost state: the kernel's own cells and their duty tokens as minted, the cells' invariants allocated for all
devices at once, the tokens dealt to the devices that pay, and the launch credit of what the devices owe one another.
-/
module

public import proofs.«01_k».proof.Proof.Steps

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

/-- What each of the kernel's cells is for. -/
def kdIx : CIx → Kd
  | .inl _ => .bar
  | .inr (.inl x) => .loc x.1 x.2
  | .inr (.inr (.inl x)) => .snd x.1 x.2
  | .inr (.inr (.inr x)) => .rcv x.1 x.2

theorem kd_csem (k : CIx) : kd (csem k) = kdIx k := by
  rcases k with _ | ⟨b, j⟩ | ⟨p, d⟩ | ⟨p, d⟩
  · exact kd_bar
  · exact kd_loc b j
  · exact kd_snd p d
  · exact kd_rcv p d

theorem kdIx_injective : Function.Injective kdIx := by
  rintro (_ | ⟨b, j⟩ | ⟨p, d⟩ | ⟨p, d⟩) (_ | ⟨b', j'⟩ | ⟨p', d'⟩ | ⟨p', d'⟩) h <;> first | rfl | (cases h; rfl) | cases h

theorem csem_injective : Function.Injective csem := fun k k' h => kdIx_injective (by rw [← kd_csem, ← kd_csem, h])

theorem kcell_injective : Function.Injective (kcell : Dev nD × CIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- A device's duty tokens: the barrier's three, four rounds of every local copy's cell, one of every send and receive cell. -/
abbrev TIx : Type := Fin 3 ⊕ ((Bool × Fin 4) × Fin 4) ⊕ (Fin 5 × Fin 3) ⊕ (Fin 5 × Fin 3)

instance : DecidableEq TIx := inferInstanceAs (DecidableEq (Fin 3 ⊕ ((Bool × Fin 4) × Fin 4) ⊕ (Fin 5 × Fin 3) ⊕ (Fin 5 × Fin 3)))
instance : DecidableEq (Dev nD × TIx) := instDecidableEqProd

/-- The cell, the round and the duty of a token. -/
def tCell : TIx → CIx
  | .inl _ => .inl ()
  | .inr (.inl x) => .inr (.inl x.1)
  | .inr (.inr (.inl x)) => .inr (.inr (.inl x))
  | .inr (.inr (.inr x)) => .inr (.inr (.inr x))
def tRound : TIx → ℕ
  | .inr (.inl x) => x.2.val
  | _ => 0
def tDuty : TIx → Fin 3
  | .inl e => e
  | _ => 0

abbrev tokOf (ct : Dev nD × TIx) : GSem nD τ sig × ℕ × Fin 3 := (kcell (ct.1, tCell ct.2), tRound ct.2, tDuty ct.2)

theorem tIx_injective {t t' : TIx} (h1 : tCell t = tCell t') (h2 : tRound t = tRound t') (h3 : tDuty t = tDuty t') : t = t' := by
  rcases t with e | ⟨x, r⟩ | x | x <;> rcases t' with e' | ⟨x', r'⟩ | x' | x' <;>
    simp only [tCell, tRound, tDuty, Sum.inr.injEq, Sum.inl.injEq, reduceCtorEq] at h1 h2 h3
  · rw [h3]
  · rw [h1, Fin.ext h2]
  · rw [h1]
  · rw [h1]

theorem tokOf_injective : Function.Injective (tokOf : Dev nD × TIx → GSem nD τ sig × ℕ × Fin 3) := by
  rintro ⟨c, t⟩ ⟨c', t'⟩ h
  have h1 : (c, tCell t) = (c', tCell t') := kcell_injective (congrArg Prod.fst h)
  have h2 : tRound t = tRound t' := congrArg (fun x : GSem nD τ sig × ℕ × Fin 3 => x.2.1) h
  have h3 : tDuty t = tDuty t' := congrArg (fun x : GSem nD τ sig × ℕ × Fin 3 => x.2.2) h
  have hc : c = c' := congrArg Prod.fst h1
  have ht : t = t' := tIx_injective (congrArg Prod.snd h1) h2 h3
  rw [hc, ht]

def ringCells : Finset (GSem nD τ sig) := Finset.univ.map ⟨kcell, kcell_injective⟩
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-! ## Dealing the tokens -/

/-- How far after its payer a token's cell is. -/
def shf : TIx → ℕ
  | .inl e => 3 - e.val
  | .inr (.inl _) => 0
  | .inr (.inr (.inl _)) => 0
  | .inr (.inr (.inr x)) => x.2.val + 1

theorem shf_le (t : TIx) : shf t ≤ 4 := by
  rcases t with e | x | x | x
  · show 3 - e.val ≤ 4; omega
  · exact Nat.zero_le _
  · exact Nat.zero_le _
  · show x.2.val + 1 ≤ 4; have := x.2.isLt; omega

theorem sh_back (c : Dev nD) (k : ℕ) (hk : k ≤ 4) : sh (sh c k) (4 - k) = c := by
  rw [sh_sh, show k + (4 - k) = 4 by omega, sh_four]
theorem sh_back' (c : Dev nD) (k : ℕ) (hk : k ≤ 4) : sh (sh c (4 - k)) k = c := by
  rw [sh_sh, show 4 - k + k = 4 by omega, sh_four]

/-- From a payer and a token to the token's device. -/
def deal : Dev nD × TIx ≃ Dev nD × TIx where
  toFun x := (sh x.1 (shf x.2), x.2)
  invFun x := (sh x.1 (4 - shf x.2), x.2)
  left_inv x := Prod.ext (sh_back x.1 _ (shf_le x.2)) rfl
  right_inv x := Prod.ext (sh_back' x.1 _ (shf_le x.2)) rfl

/-- The tokens of device `c`'s own cells, -/
def ownToks (c : Dev nD) : sProp 𝕄 := bigSep Finset.univ fun t : TIx => dutyTok ER (tokOf (c, t)).1 (tokOf (c, t)).2.1 (tokOf (c, t)).2.2
/-- and those of the duties it pays. -/
def payToks (c : Dev nD) : sProp 𝕄 := bigSep Finset.univ fun t : TIx => dutyTok ER (tokOf (sh c (shf t), t)).1 (tokOf (sh c (shf t), t)).2.1 (tokOf (sh c (shf t), t)).2.2

theorem toks_around : (bigSep Finset.univ fun c : Dev nD => (ownToks c : sProp 𝕄)) ⊢ bigSep Finset.univ fun c : Dev nD => payToks c := by
  unfold ownToks payToks
  rw [← bigSep_univ_prod (fun x : Dev nD × TIx => (dutyTok ER (tokOf x).1 (tokOf x).2.1 (tokOf x).2.2 : sProp 𝕄)),
    bigSep_univ_equiv deal (fun x : Dev nD × TIx => (dutyTok ER (tokOf x).1 (tokOf x).2.1 (tokOf x).2.2 : sProp 𝕄)), bigSep_univ_prod]
  exact entails_refl _

section
variable (m : (ℓ : Loc nD τ sig) → Buf (Elt F) ℓ)

/-- What the launch deals device `c`, -/
def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ ownToks c)

/-- its positions and the tokens it pays with, -/
def lin (c : Dev nD) : sProp 𝕄 := iprop((bigSep Finset.univ fun k : CIx => atPos ER (kcell (c, k)) 0 ∅ 0) ∗ payToks c)
/-- and what the allocation of the invariants makes of it. -/
def G' (c : Dev nD) : sProp 𝕄 := iprop(∃ K, recs m K ∗ lin c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end

/-! ## The semaphores -/

/-- The kernel's own semaphores: all DMA semaphores but the staging ones. -/
def osem : Fin 38 → SemLoc sig := fun i => .dma (dq (i.val + 4) (by have := i.isLt; omega))

theorem osem_injective : Function.Injective osem := fun i i' h => by
  have h1 : (dq (i.val + 4) (by have := i.isLt; omega)) = (dq (i'.val + 4) (by have := i'.isLt; omega)) := SemLoc.dma.inj h
  have h2 := congrArg Fin.val h1
  exact Fin.ext (by have : i.val + 4 = i'.val + 4 := h2; omega)

/-- They are the cells' other than the barrier. -/
abbrev DIx : Type := (Bool × Fin 4) ⊕ (Fin 5 × Fin 3) ⊕ (Fin 5 × Fin 3)
instance : DecidableEq DIx := inferInstanceAs (DecidableEq ((Bool × Fin 4) ⊕ (Fin 5 × Fin 3) ⊕ (Fin 5 × Fin 3)))
def dsem (x : DIx) : SemLoc sig := csem (.inr x)
theorem dsem_injective : Function.Injective dsem := fun x y h => Sum.inr.inj (csem_injective h)

theorem osem_dsem : (Finset.univ : Finset (Fin 38)).map ⟨osem, osem_injective⟩ = (Finset.univ : Finset DIx).map ⟨dsem, dsem_injective⟩ := by
  have hsub : (Finset.univ : Finset DIx).map ⟨dsem, dsem_injective⟩ ⊆ (Finset.univ : Finset (Fin 38)).map ⟨osem, osem_injective⟩ := fun g hg => by
    obtain ⟨x, _, rfl⟩ := Finset.mem_map.mp hg
    have hx : ∃ q : DmaSem sig, dsem x = .dma q ∧ 4 ≤ q.val := by
      rcases x with ⟨b, j⟩ | ⟨p, d⟩ | ⟨p, d⟩
      · exact ⟨locQ b j, rfl, by revert b j; decide⟩
      · exact ⟨sndQ p d, rfl, by revert p d; decide⟩
      · exact ⟨rcvQ p d, rfl, by revert p d; decide⟩
    obtain ⟨q, hq, h4⟩ := hx
    have hlt : q.val < 42 := q.isLt
    refine Finset.mem_map.mpr ⟨⟨q.val - 4, by omega⟩, Finset.mem_univ _, ?_⟩
    show osem ⟨q.val - 4, _⟩ = dsem x
    rw [hq]; unfold osem
    exact congrArg SemLoc.dma (Fin.ext (by show q.val - 4 + 4 = q.val; omega))
  refine (Finset.eq_of_subset_of_card_le hsub ?_).symm
  rw [Finset.card_map, Finset.card_map]; decide

theorem ownSems0_eq (c : Dev nD) : (Pipeline.ownSems0 (Ix := Unit) (Name := ℕ) (U := UU) (Lvl := ℕ) (Val := Elt F) (τ := τ) osem c : sProp 𝕄)
    = bigSep Finset.univ fun x : DIx => semVal (kcell (c, .inr x)) 0 := by
  unfold Pipeline.ownSems0
  have h1 : (bigSep Finset.univ fun k : Fin 38 => (semVal ((c : Thread nD τ), osem k) 0 : sProp 𝕄))
      = bigSep ((Finset.univ : Finset (Fin 38)).map ⟨osem, osem_injective⟩) fun s => semVal ((c : Thread nD τ), s) 0 := by
    rw [bigSep_map]; rfl
  have h2 : (bigSep Finset.univ fun x : DIx => (semVal (kcell (c, .inr x)) 0 : sProp 𝕄))
      = bigSep ((Finset.univ : Finset DIx).map ⟨dsem, dsem_injective⟩) fun s => semVal ((c : Thread nD τ), s) 0 := by
    rw [bigSep_map]; rfl
  rw [h1, h2, osem_dsem]

theorem unscopedSems0_eq (c : Dev nD) : (unscopedSems0 c : sProp 𝕄) = semVal (barC c) 0 := by
  unfold unscopedSems0; rw [bigSep_eq_bigSepL_of_eq [SemLoc.reg barS] (by decide) (by decide)]; rfl

theorem bigSep_cix (Φ : CIx → sProp 𝕄) : bigSep Finset.univ Φ = iprop(Φ (.inl ()) ∗ bigSep Finset.univ fun x : DIx => Φ (.inr x)) := by
  rw [bigSep_univ_sum, show (Finset.univ : Finset Unit) = {()} from rfl, bigSep_singleton]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cix]
  iintro ⟨HS, HB⟩
  isplitl [HB]; · iexact HB
  iexact HS

/-! ## The invariants -/

section
variable (m : (ℓ : Loc nD τ sig) → Buf (Elt F) ℓ)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CIx → ℕ) (c : Dev nD) : iprop(recs m K ∗ lin c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (bigSep_beside (R := recs m K) fun c _ => G'_intro m K c)
  isplitr
  · unfold recs
    rw [bigSep_sep']
    isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

/-- The invariants of every device's cells allocated together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end

/-! ## The launch credit -/

/-- What all devices together owe a cell, from a list of debts. -/
theorem sum_tally (l : List Debt) (hl : ∀ x ∈ l, x.1 ≤ 4) (c : Dev nD) (s : SemLoc sig) :
    (∑ d : Dev nD, tally d l ((c : Thread nD τ), s) ()) = (l.map fun x => if s = x.2.1 then x.2.2 else 0).sum := by
  induction l with
  | nil => exact Finset.sum_const_zero
  | cons x l ih =>
    have hx : ∀ d : Dev nD, tally d (x :: l) ((c : Thread nD τ), s) ()
        = tally d l ((c : Thread nD τ), s) () + (if d = sh c (4 - x.1) then (if s = x.2.1 then x.2.2 else 0) else 0) := fun d => by
      show (tally d l + tallyAt ((sh d x.1 : Thread nD τ), x.2.1) () x.2.2) ((c : Thread nD τ), s) () = _
      rw [Pi.add_apply, Finsupp.add_apply, tallyAt_apply]
      congr 1
      have h4 := hl x List.mem_cons_self
      by_cases hd : d = sh c (4 - x.1)
      · rw [if_pos hd, hd, sh_back' c x.1 h4]
        by_cases hs : s = x.2.1
        · rw [if_pos hs, hs, if_pos ⟨rfl, rfl⟩]
        · rw [if_neg hs, if_neg (fun h => hs (congrArg Prod.snd h.1))]
      · rw [if_neg hd, if_neg (fun h => hd ?_)]
        have hc : c = sh d x.1 := congrArg (fun g : GSem nD τ sig => g.1.1) h.1
        rw [hc, sh_back d x.1 h4]
    rw [Finset.sum_congr rfl fun d _ => hx d, Finset.sum_add_distrib, ih (fun y hy => hl y (List.mem_cons_of_mem _ hy)),
      Finset.sum_ite_eq' Finset.univ _ _, if_pos (Finset.mem_univ _), List.map_cons, List.sum_cons, Nat.add_comm]

/-- The debts by what their cells are for. -/
theorem due_at (s : SemLoc sig) (k : CIx) (hs : s = csem k) :
    (debts.map fun x => if s = x.2.1 then x.2.2 else 0).sum = match k with
      | .inl _ => 3
      | .inr (.inr (.inr x)) => crP x.1
      | _ => 0 := by
  have hb : Iff (s = .reg barS) (kdIx k = .bar) :=
    ⟨fun h => by rw [← kd_csem, ← hs, h, kd_bar], fun h => by rw [hs]; exact congrArg csem (kdIx_injective (a₂ := .inl ()) h)⟩
  have hr : ∀ (p : Fin 5) (d : Fin 3), Iff (s = .dma (rcvQ p d)) (kdIx k = .rcv p d) := fun p d =>
    ⟨fun h => by rw [← kd_csem, ← hs, h, kd_rcv], fun h => by rw [hs]; exact congrArg csem (kdIx_injective (a₂ := .inr (.inr (.inr (p, d)))) h)⟩
  simp only [debts, debt, List.map_cons, List.map_nil, List.sum_cons, List.sum_nil, hb, hr]
  rcases k with _ | ⟨b, j⟩ | ⟨p, d⟩ | ⟨p, d⟩
  · simp [kdIx]
  · simp [kdIx]
  · simp [kdIx]
  · simp only [kdIx, Kd.rcv.injEq]
    fin_cases p <;> fin_cases d <;> simp

theorem debts_le : ∀ x ∈ debts, x.1 ≤ 4 := fun x hx => by
  have h : ∀ k ∈ debts.map Prod.fst, k ≤ 4 := by decide
  exact h _ (List.mem_map_of_mem hx)

/-- What the devices owe at the launch. -/
def O₀ (c : Dev nD) : CellTallies nD τ sig Unit := left c 0

/-- A cell's launch credit. -/
def amt : CIx → ℕ
  | .inl _ => 3
  | .inr (.inr (.inr x)) => crP x.1
  | _ => 0

theorem launch_amt (c : Dev nD) (k : CIx) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same]
  refine (sum_tally debts debts_le c (csem k)).trans ((due_at (csem k) k rfl).trans ?_)
  rcases k with _ | ⟨b, j⟩ | ⟨p, d⟩ | ⟨p, d⟩ <;> rfl

theorem creds (c : Dev nD) :
    (Pipeline.launchCred O₀ c : sProp 𝕄) ⊢ bigSep Finset.univ fun k : CIx => cred (tallyAt (kcell (c, k)) () (amt k)) := by
  unfold Pipeline.launchCred
  refine BIBase.Entails.trans (BI.bigSep_subset (t := (Finset.univ : Finset CIx).map ⟨csem, csem_injective⟩) (Finset.subset_univ _)) ?_
  rw [bigSep_map]
  exact bigSep_mono fun k _ => Entails.of_eq (congrArg cred (launch_amt c k))

end Cert.Quad
end
-- ==== Proof.Pieces.lean ====
/-
The pieces that the copies move, owned in the unsqueezed order: what a landing or a finished copy hands over, and how the
waits hand it over.
-/
module

public import proofs.«01_k».proof.Proof.Steps

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces before squeezing -/

abbrev coP (d : Fin 3) := coM.slice (coR d) (fun _ => rfl)
abbrev clP (d : Fin 3) := clM.slice (clR d) (fun _ => rfl)
abbrev soP (d : Fin 3) := soM.slice (coR d) (fun _ => rfl)
abbrev slP (d : Fin 3) := slM.slice (clR d) (fun _ => rfl)
abbrev arP (d : Fin 3) := arM.slice (arR d) (fun _ => rfl)
abbrev asP (d : Fin 3) := asM.slice (arR d) (fun _ => rfl)
abbrev grP (d : Fin 3) := grM.slice (arR d) (fun _ => rfl)
abbrev gsP := gsM.slice gsR (fun _ => rfl)

theorem debts_3 : debts.drop 3 = debt 0 0 :: debts.drop (3 + 1) := rfl
theorem debts_4 : debts.drop 4 = debt 0 1 :: debts.drop (4 + 1) := rfl
theorem debts_5 : debts.drop 5 = debt 0 2 :: debts.drop (5 + 1) := rfl
theorem debts_6 : debts.drop 6 = debt 1 0 :: debts.drop (6 + 1) := rfl
theorem debts_7 : debts.drop 7 = debt 2 0 :: debts.drop (7 + 1) := rfl
theorem debts_8 : debts.drop 8 = debt 1 1 :: debts.drop (8 + 1) := rfl
theorem debts_9 : debts.drop 9 = debt 2 1 :: debts.drop (9 + 1) := rfl
theorem debts_10 : debts.drop 10 = debt 1 2 :: debts.drop (10 + 1) := rfl
theorem debts_11 : debts.drop 11 = debt 2 2 :: debts.drop (11 + 1) := rfl
theorem debts_12 : debts.drop 12 = debt 3 0 :: debts.drop (12 + 1) := rfl
theorem debts_13 : debts.drop 13 = debt 3 1 :: debts.drop (13 + 1) := rfl
theorem debts_14 : debts.drop 14 = debt 3 2 :: debts.drop (14 + 1) := rfl
theorem debts_15 : debts.drop 15 = debt 4 0 :: debts.drop (15 + 1) := rfl
theorem debts_16 : debts.drop 16 = debt 4 1 :: debts.drop (16 + 1) := rfl
theorem debts_17 : debts.drop 17 = debt 4 2 :: debts.drop (17 + 1) := rfl
theorem dev4_sh (c : Dev nD) : (⟨k0_dev4 c, k0_dev4_lt c⟩ : Dev nD) = sh c ((0 : Fin 3).val + 1) := Fin.ext (k0_dev4_eq c)
theorem dev5_sh (c : Dev nD) : (⟨k0_dev5 c, k0_dev5_lt c⟩ : Dev nD) = sh c ((1 : Fin 3).val + 1) := Fin.ext (k0_dev5_eq c)
theorem dev6_sh (c : Dev nD) : (⟨k0_dev6 c, k0_dev6_lt c⟩ : Dev nD) = sh c ((2 : Fin 3).val + 1) := Fin.ext (k0_dev6_eq c)
theorem dev7_sh (c : Dev nD) : (⟨k0_dev7 c, k0_dev7_lt c⟩ : Dev nD) = sh c ((0 : Fin 3).val + 1) := Fin.ext (k0_dev7_eq c)
theorem dev8_sh (c : Dev nD) : (⟨k0_dev8 c, k0_dev8_lt c⟩ : Dev nD) = sh c ((0 : Fin 3).val + 1) := Fin.ext (k0_dev8_eq c)
theorem dev9_sh (c : Dev nD) : (⟨k0_dev9 c, k0_dev9_lt c⟩ : Dev nD) = sh c ((1 : Fin 3).val + 1) := Fin.ext (k0_dev9_eq c)
theorem dev10_sh (c : Dev nD) : (⟨k0_dev10 c, k0_dev10_lt c⟩ : Dev nD) = sh c ((1 : Fin 3).val + 1) := Fin.ext (k0_dev10_eq c)
theorem dev11_sh (c : Dev nD) : (⟨k0_dev11 c, k0_dev11_lt c⟩ : Dev nD) = sh c ((2 : Fin 3).val + 1) := Fin.ext (k0_dev11_eq c)
theorem dev12_sh (c : Dev nD) : (⟨k0_dev12 c, k0_dev12_lt c⟩ : Dev nD) = sh c ((2 : Fin 3).val + 1) := Fin.ext (k0_dev12_eq c)
theorem dev13_sh (c : Dev nD) : (⟨k0_dev13 c, k0_dev13_lt c⟩ : Dev nD) = sh c ((0 : Fin 3).val + 1) := Fin.ext (k0_dev13_eq c)
theorem dev14_sh (c : Dev nD) : (⟨k0_dev14 c, k0_dev14_lt c⟩ : Dev nD) = sh c ((1 : Fin 3).val + 1) := Fin.ext (k0_dev14_eq c)
theorem dev15_sh (c : Dev nD) : (⟨k0_dev15 c, k0_dev15_lt c⟩ : Dev nD) = sh c ((2 : Fin 3).val + 1) := Fin.ext (k0_dev15_eq c)
theorem dev16_sh (c : Dev nD) : (⟨k0_dev16 c, k0_dev16_lt c⟩ : Dev nD) = sh c ((0 : Fin 3).val + 1) := Fin.ext (k0_dev16_eq c)
theorem dev17_sh (c : Dev nD) : (⟨k0_dev17 c, k0_dev17_lt c⟩ : Dev nD) = sh c ((1 : Fin 3).val + 1) := Fin.ext (k0_dev17_eq c)
theorem dev18_sh (c : Dev nD) : (⟨k0_dev18 c, k0_dev18_lt c⟩ : Dev nD) = sh c ((2 : Fin 3).val + 1) := Fin.ext (k0_dev18_eq c)
theorem off2S (c : Dev nD) : @Eq (Memref sig .tc .vmem S8x256x128 .bf16) (qM.slice (Rect.unit (s := S32x256x128) (k0_off2 c) S8x256x128.size (k0_off2_inb c)) (fun _ => rfl)) (qS c) :=
  Memref.slice_unit_congr qM (k0_off2_eq c) _ _ _ _
theorem credit0 (v : View sig .tc .vmem S8x256x128 .bf16) : v.dmaCredit = crP 0 := rfl
theorem credit1 (v : View sig .tc .vmem S8x256x128 .bf16) : v.dmaCredit = crP 1 := rfl
theorem credit2 (v : View sig .tc .vmem S8x256 .bf16) : v.dmaCredit = crP 2 := rfl
theorem credit3 (v : View sig .tc .vmem S64x1024 .bf16) : v.dmaCredit = crP 3 := rfl
theorem credit4 (v : View sig .tc .vmem S64x1024 .bf16) : v.dmaCredit = crP 4 := rfl

/-- A program run first, the rest after it. -/
theorem bind_step (c : Dev nD) {α β : Type} {Q : α → sProp 𝕄} {p : Prog (TpuEff nD τ sig (Elt F) Λ₀ .tc) β} {kk : β → Prog (TpuEff nD τ sig (Elt F) Λ₀ .tc) α} :
    WP c (fun x => WP c Q (kk x)) p ⊢ WP c Q (p >>= kk) := by
  have h : WP c Q (p >>= kk) = WP c (fun x => WP c Q (kk x)) p := wp_bind ..
  rw [h]

theorem bk_sh (c : Dev nD) (d : Fin 3) : bk (sh c (d.val + 1)) d = c := by revert c d; decide

section
variable (m : (ℓ : Loc nD τ sig) → Buf (Elt F) ℓ) (c : Dev nD) (d : Fin 3)

theorem any_sq {sp : Space} {s : Shape} {e : EltTy} (M : Memref sig .tc sp s e) {s' : Shape} (h : s.Squeezes s') :
    (anyAt c (M.squeeze s' h) : sProp 𝕄) ⊢ anyAt c M := by
  iintro ⟨%X, H⟩; iexists (unsq h X); rw [← owns_sq]; iexact H

theorem any_sq' {sp : Space} {s : Shape} {e : EltTy} (M : Memref sig .tc sp s e) {s' : Shape} (h : s.Squeezes s') :
    (anyAt c M : sProp 𝕄) ⊢ anyAt c (M.squeeze s' h) := by
  iintro ⟨%X, H⟩; iexists (sq h X); rw [owns_sq']; iexact H

theorem any_off {sp : Space} {s : Shape} {e : EltTy} (M : Memref sig .tc sp s e) {off off' size : Fin s.rank → ℕ} (h : off = off') (p : ∀ a, off a + size a ≤ s.size a)
    (p' : ∀ a, off' a + size a ≤ s.size a) (hs hs') :
    (anyAt c (M.slice (Rect.unit off size p) hs) : sProp 𝕄) ⊢ anyAt c (M.slice (Rect.unit off' size p') hs') := by
  subst h; exact Entails.rfl

theorem any_intro {sp : Space} {s : Shape} {e : EltTy} (M : Memref sig .tc sp s e) (X : s.Idx → Elt F e) :
    (owns (c : Thread nD τ) M fullShare X : sProp 𝕄) ⊢ anyAt c M := by
  iintro H; iexists X; iexact H

theorem snd1_eq : sndPay m c 1 d = owns (c : Thread nD τ) (soP d) fullShare (soW m c d) := owns_sq' _ _ _ _ _
theorem rcv1_eq : rcvPay m c 1 d = owns (c : Thread nD τ) (coP d) fullShare (soW m (bk c d) d) := owns_sq' _ _ _ _ _
theorem src1 : (owns (c : Thread nD τ) (soP d) fullShare (soW m c d) : sProp 𝕄) ⊢ owns (c : Thread nD τ) (soS d) fullShare (sq ho1 (soW m c d)) :=
  Entails.of_eq (owns_sq' _ _ _ _ _).symm
theorem dst1 : (owns ((sh c (d.val + 1) : Dev nD) : Thread nD τ) (coS d) fullShare (sq ho1 (soW m c d)) : sProp 𝕄) ⊢ rcvPay m (sh c (d.val + 1)) 1 d :=
  Entails.of_eq (by rw [rcv1_eq, bk_sh]; exact owns_sq' _ _ _ _ _)
theorem snd2_eq : sndPay m c 2 d = owns (c : Thread nD τ) (slP d) fullShare (slW m c d) := owns_sq' _ _ _ _ _
theorem rcv2_eq : rcvPay m c 2 d = owns (c : Thread nD τ) (clP d) fullShare (slW m (bk c d) d) := owns_sq' _ _ _ _ _
theorem src2 : (owns (c : Thread nD τ) (slP d) fullShare (slW m c d) : sProp 𝕄) ⊢ owns (c : Thread nD τ) (slS d) fullShare (sq hl1 (slW m c d)) :=
  Entails.of_eq (owns_sq' _ _ _ _ _).symm
theorem dst2 : (owns ((sh c (d.val + 1) : Dev nD) : Thread nD τ) (clS d) fullShare (sq hl1 (slW m c d)) : sProp 𝕄) ⊢ rcvPay m (sh c (d.val + 1)) 2 d :=
  Entails.of_eq (by rw [rcv2_eq, bk_sh]; exact owns_sq' _ _ _ _ _)
theorem snd3_eq : sndPay m c 3 d = owns (c : Thread nD τ) (asP d) fullShare (asW m c d) := owns_sq' _ _ _ _ _
theorem rcv3_eq : rcvPay m c 3 d = owns (c : Thread nD τ) (arP d) fullShare (asW m (bk c d) d) := owns_sq' _ _ _ _ _
theorem src3 : (owns (c : Thread nD τ) (asP d) fullShare (asW m c d) : sProp 𝕄) ⊢ owns (c : Thread nD τ) (asS d) fullShare (sq ha1 (asW m c d)) :=
  Entails.of_eq (owns_sq' _ _ _ _ _).symm
theorem dst3 : (owns ((sh c (d.val + 1) : Dev nD) : Thread nD τ) (arS d) fullShare (sq ha1 (asW m c d)) : sProp 𝕄) ⊢ rcvPay m (sh c (d.val + 1)) 3 d :=
  Entails.of_eq (by rw [rcv3_eq, bk_sh]; exact owns_sq' _ _ _ _ _)
theorem give0 : (owns (c : Thread nD τ) (qS c) (Ring.shares3 fullShare d) (qv m c) : sProp 𝕄) ⊢ sndPay m c 0 d := Entails.of_eq rfl
theorem give1 : (owns (c : Thread nD τ) (soS d) fullShare (sq ho1 (soW m c d)) : sProp 𝕄) ⊢ sndPay m c 1 d := Entails.of_eq rfl
theorem give2 : (owns (c : Thread nD τ) (slS d) fullShare (sq hl1 (slW m c d)) : sProp 𝕄) ⊢ sndPay m c 2 d := Entails.of_eq rfl
theorem give3 : (owns (c : Thread nD τ) (asS d) fullShare (sq ha1 (asW m c d)) : sProp 𝕄) ⊢ sndPay m c 3 d := Entails.of_eq rfl
theorem give4 : (owns (c : Thread nD τ) gsS (Ring.shares3 fullShare d) (sq ha1 (gsW m c)) : sProp 𝕄) ⊢ sndPay m c 4 d := Entails.of_eq rfl
theorem rcv0_eq : rcvPay m c 0 d = owns (c : Thread nD τ) (qS (bk c d)) fullShare (qv m (bk c d)) := rfl
theorem dst0 : (owns ((sh c (d.val + 1) : Dev nD) : Thread nD τ) (qS c) fullShare (qv m c) : sProp 𝕄) ⊢ rcvPay m (sh c (d.val + 1)) 0 d :=
  Entails.of_eq (by rw [rcv0_eq, bk_sh])
theorem rcv4_eq : rcvPay m c 4 d = owns (c : Thread nD τ) (grP d) fullShare (gsW m (bk c d)) := owns_sq' _ _ _ _ _
theorem src4 (q : PosShare TreeShare) : (owns (c : Thread nD τ) gsP q (gsW m c) : sProp 𝕄) ⊢ owns (c : Thread nD τ) gsS q (sq ha1 (gsW m c)) :=
  Entails.of_eq (owns_sq' _ _ _ _ _).symm
theorem dst4 : (owns ((sh c (d.val + 1) : Dev nD) : Thread nD τ) (grS d) fullShare (sq ha1 (gsW m c)) : sProp 𝕄) ⊢ rcvPay m (sh c (d.val + 1)) 4 d :=
  Entails.of_eq (by rw [rcv4_eq, bk_sh]; exact owns_sq' _ _ _ _ _)

end

section
variable (m : (ℓ : Loc nD τ sig) → Buf (Elt F) ℓ) (K : Dev nD × CIx → ℕ) (c : Dev nD)

/-- A query slice is sent. -/
theorem send0 {α : Type} {Q : α → sProp 𝕄} {n : Dev nD} (d : Fin 3) (k : ℕ) (hn : n = sh c (d.val + 1)) (hk : debts.drop k = debt 0 d :: debts.drop (k + 1))
    {hsc} {sS sem : SemLoc sig} {hsrc hdst hsem}
    {kont : PUnit → Prog (TpuEff nD τ sig (Elt F) Λ₀ .tc) α}
    (hsS : sS = .dma (sndQ 0 d)) (hsem' : sem = .dma (rcvQ 0 d)) :
    recs m K ⊢ iprop(owns (c : Thread nD τ) (qS c) (Ring.shares3 fullShare d) (qv m c) -∗ anyAt (sh c (d.val + 1)) (qS c) -∗ owe c k -∗ pre c 0 d -∗ ((owe c (k + 1) ∗ mid c 0 d) -∗ WP c Q (kont ⟨⟩))
        -∗ WP c Q (.op (.enqueueDma (qM.slice (Rect.unit (s := S32x256x128) (k0_off2 c) S8x256x128.size (k0_off2_inb c)) (fun _ => rfl)) (.remote (n : Thread nD τ) (qM.slice (Rect.unit (s := S32x256x128) (k0_off2 c) S8x256x128.size (k0_off2_inb c)) (fun _ => rfl)) sS hsc) sem hsrc hdst hsem) kont)) := by
  exact send_step m K c 0 d k hn hk (off2S c) (off2S c) _ _ hsS hsem' (credit0 _) (give0 m c d) (dst0 m c d)

/-- A block of partial outputs is sent. -/
theorem send1 {α : Type} {Q : α → sProp 𝕄} {n : Dev nD} (d : Fin 3) (k : ℕ) (hn : n = sh c (d.val + 1)) (hk : debts.drop k = debt 1 d :: debts.drop (k + 1))
    {hsc} {sS sem : SemLoc sig} {hsrc hdst hsem}
    {kont : PUnit → Prog (TpuEff nD τ sig (Elt F) Λ₀ .tc) α}
    (hsS : sS = .dma (sndQ 1 d)) (hsem' : sem = .dma (rcvQ 1 d)) :
    recs m K ⊢ iprop(owns (c : Thread nD τ) (soP d) fullShare (soW m c d) -∗ anyAt (sh c (d.val + 1)) (coS d) -∗ owe c k -∗ pre c 1 d -∗ ((owe c (k + 1) ∗ mid c 1 d) -∗ WP c Q (kont ⟨⟩))
        -∗ WP c Q (.op (.enqueueDma (soS d) (.remote (n : Thread nD τ) (coS d) sS hsc) sem hsrc hdst hsem) kont)) := by
  have H := send_step m K c 1 d k (Q := Q) (kont := kont) (hsc := hsc) (hsrc := hsrc) (hdst := hdst) (hsem := hsem) (src' := (soS d)) (dst' := (coS d)) hn hk rfl rfl _ _ hsS hsem' (credit1 _) (give1 m c d) (dst1 m c d)
  iintro HR Hs
  ihave Hs := (src1 m c d) $$ Hs
  ihave HW := H $$ HR Hs
  iexact HW

/-- A block of partial sums is sent. -/
theorem send2 {α : Type} {Q : α → sProp 𝕄} {n : Dev nD} (d : Fin 3) (k : ℕ) (hn : n = sh c (d.val + 1)) (hk : debts.drop k = debt 2 d :: debts.drop (k + 1))
    {hsc} {sS sem : SemLoc sig} {hsrc hdst hsem}
    {kont : PUnit → Prog (TpuEff nD τ sig (Elt F) Λ₀ .tc) α}
    (hsS : sS = .dma (sndQ 2 d)) (hsem' : sem = .dma (rcvQ 2 d)) :
    recs m K ⊢ iprop(owns (c : Thread nD τ) (slP d) fullShare (slW m c d) -∗ anyAt (sh c (d.val + 1)) (clS d) -∗ owe c k -∗ pre c 2 d -∗ ((owe c (k + 1) ∗ mid c 2 d) -∗ WP c Q (kont ⟨⟩))
        -∗ WP c Q (.op (.enqueueDma (slS d) (.remote (n : Thread nD τ) (clS d) sS hsc) sem hsrc hdst hsem) kont)) := by
  have H := send_step m K c 2 d k (Q := Q) (kont := kont) (hsc := hsc) (hsrc := hsrc) (hdst := hdst) (hsem := hsem) (src' := (slS d)) (dst' := (clS d)) hn hk rfl rfl _ _ hsS hsem' (credit2 _) (give2 m c d) (dst2 m c d)
  iintro HR Hs
  ihave Hs := (src2 m c d) $$ Hs
  ihave HW := H $$ HR Hs
  iexact HW

/-- A part of the projected rows is sent. -/
theorem send3 {α : Type} {Q : α → sProp 𝕄} {n : Dev nD} (d : Fin 3) (k : ℕ) (hn : n = sh c (d.val + 1)) (hk : debts.drop k = debt 3 d :: debts.drop (k + 1))
    {hsc} {sS sem : SemLoc sig} {hsrc hdst hsem}
    {kont : PUnit → Prog (TpuEff nD τ sig (Elt F) Λ₀ .tc) α}
    (hsS : sS = .dma (sndQ 3 d)) (hsem' : sem = .dma (rcvQ 3 d)) :
    recs m K ⊢ iprop(owns (c : Thread nD τ) (asP d) fullShare (asW m c d) -∗ anyAt (sh c (d.val + 1)) (arS d) -∗ owe c k -∗ pre c 3 d -∗ ((owe c (k + 1) ∗ mid c 3 d) -∗ WP c Q (kont ⟨⟩))
        -∗ WP c Q (.op (.enqueueDma (asS d) (.remote (n : Thread nD τ) (arS d) sS hsc) sem hsrc hdst hsem) kont)) := by
  have H := send_step m K c 3 d k (Q := Q) (kont := kont) (hsc := hsc) (hsrc := hsrc) (hdst := hdst) (hsem := hsem) (src' := (asS d)) (dst' := (arS d)) hn hk rfl rfl _ _ hsS hsem' (credit3 _) (give3 m c d) (dst3 m c d)
  iintro HR Hs
  ihave Hs := (src3 m c d) $$ Hs
  ihave HW := H $$ HR Hs
  iexact HW

/-- The device's own reduced rows are sent. -/
theorem send4 {α : Type} {Q : α → sProp 𝕄} {n : Dev nD} (d : Fin 3) (k : ℕ) (hn : n = sh c (d.val + 1)) (hk : debts.drop k = debt 4 d :: debts.drop (k + 1))
    {hsc} {sS sem : SemLoc sig} {hsrc hdst hsem}
    {kont : PUnit → Prog (TpuEff nD τ sig (Elt F) Λ₀ .tc) α}
    (hsS : sS = .dma (sndQ 4 d)) (hsem' : sem = .dma (rcvQ 4 d)) :
    recs m K ⊢ iprop(owns (c : Thread nD τ) gsP (Ring.shares3 fullShare d) (gsW m c) -∗ anyAt (sh c (d.val + 1)) (grS d) -∗ owe c k -∗ pre c 4 d -∗ ((owe c (k + 1) ∗ mid c 4 d) -∗ WP c Q (kont ⟨⟩))
        -∗ WP c Q (.op (.enqueueDma gsS (.remote (n : Thread nD τ) (grS d) sS hsc) sem hsrc hdst hsem) kont)) := by
  have H := send_step m K c 4 d k (Q := Q) (kont := kont) (hsc := hsc) (hsrc := hsrc) (hdst := hdst) (hsem := hsem) (src' := gsS) (dst' := (grS d)) hn hk rfl rfl _ _ hsS hsem' (credit4 _) (give4 m c d) (dst4 m c d)
  iintro HR Hs
  ihave Hs := (src4 m c _) $$ Hs
  ihave HW := H $$ HR Hs
  iexact HW

end

end Cert.Quad
end
-- ==== Proof.Parts1.lean ====
/-
The first parts of the body: the first key and value blocks, the device's query heads, the barrier, and the exchange of the
query slices.
-/
module

public import proofs.«01_k».proof.Proof.Pieces

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (K : Dev nD × CIx → ℕ) (c : Dev nD)

/-- The first part: the copies of key and value block 0 and of key block 1 start. -/
theorem part4 {Q : _ → sProp 𝕄} :
    recs m K ⊢ iprop(levAts L lv -∗ owns (c : Thread nD τ) (block false 0) fullShare (blkV m c false 0) -∗ anyAt c (slot false 0) -∗ atR c false 0 0 -∗ owns (c : Thread nD τ) (block true 0) fullShare (blkV m c true 0) -∗ anyAt c (slot true 0) -∗ atR c true 0 0 -∗ owns (c : Thread nD τ) (block false 1) fullShare (blkV m c false 1) -∗ anyAt c (slot false 1) -∗ atR c false 1 0 -∗ (∀ v2 v4 v6 v8, (flight c false 0 0 ∗ flight c true 0 0 ∗ flight c false 1 0) -∗ Q ⟨c, v2, v4, v6, v8⟩)
      -∗ WP c Q (k0_part4 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 )) := by
  rw [k0_part4_eq_skeleton]; unfold k0_part4_skel
  simp only [semSignalWord, semWaitWord, Prog.lift, Prog.bind_op, Prog.bind_ret, Prog.pure_eq_ret, wp_deviceId]
  iintro #HR #HL HBk0 HSk0 HFk0 HBv0 HSv0 HFv0 HBk1 HSk1 HFk1 Hk
  iapply (copy_step m K c false 0 0 (by decide) 0 rfl rfl rfl rfl) $$ HR HBk0 HSk0 HFk0; iintro HFk0
  iapply (copy_step m K c true 0 0 (by decide) 0 rfl rfl rfl rfl) $$ HR HBv0 HSv0 HFv0; iintro HFv0
  iapply (copy_step m K c false 1 0 (by decide) 1 rfl rfl rfl rfl) $$ HR HBk1 HSk1 HFk1; iintro HFk1
  iapply (ret_step c _); iapply Hk
  isplitl [HFk0]; · iexact HFk0
  isplitl [HFv0]; · iexact HFv0
  iexact HFk1

/-- The copies of value block 1, of key and value block 2 and of key block 3 start. -/
theorem part5 {Q : _ → sProp 𝕄} :
    recs m K ⊢ iprop(levAts L lv -∗ owns (c : Thread nD τ) (block true 1) fullShare (blkV m c true 1) -∗ anyAt c (slot true 1) -∗ atR c true 1 0 -∗ owns (c : Thread nD τ) (block false 2) fullShare (blkV m c false 2) -∗ anyAt c (slot false 2) -∗ atR c false 2 0 -∗ owns (c : Thread nD τ) (block true 2) fullShare (blkV m c true 2) -∗ anyAt c (slot true 2) -∗ atR c true 2 0 -∗ owns (c : Thread nD τ) (block false 3) fullShare (blkV m c false 3) -∗ anyAt c (slot false 3) -∗ atR c false 3 0 -∗ ((flight c true 1 0 ∗ flight c false 2 0 ∗ flight c true 2 0 ∗ flight c false 3 0) -∗ Q ⟨⟩)
      -∗ WP c Q (k0_part5 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 )) := by
  rw [k0_part5_eq_skeleton]; unfold k0_part5_skel
  simp only [semSignalWord, semWaitWord, Prog.lift, Prog.bind_op, Prog.bind_ret, Prog.pure_eq_ret, wp_deviceId]
  iintro #HR #HL HBv1 HSv1 HFv1 HBk2 HSk2 HFk2 HBv2 HSv2 HFv2 HBk3 HSk3 HFk3 Hk
  iapply (copy_step m K c true 1 0 (by decide) 1 rfl rfl rfl rfl) $$ HR HBv1 HSv1 HFv1; iintro HFv1
  iapply (copy_step m K c false 2 0 (by decide) 2 rfl rfl rfl rfl) $$ HR HBk2 HSk2 HFk2; iintro HFk2
  iapply (copy_step m K c true 2 0 (by decide) 2 rfl rfl rfl rfl) $$ HR HBv2 HSv2 HFv2; iintro HFv2
  iapply (copy_step m K c false 3 0 (by decide) 3 rfl rfl rfl rfl) $$ HR HBk3 HSk3 HFk3; iintro HFk3
  iapply (ret_step c _); iapply Hk
  isplitl [HFv1]; · iexact HFv1
  isplitl [HFk2]; · iexact HFk2
  isplitl [HFv2]; · iexact HFv2
  iexact HFk3

/-- The copy of value block 3 starts, the device's query heads are computed, and the barrier is passed. -/
theorem part6 (v2 : BitVec 32) (v4 : BitVec 32) (v6 : BitVec 32) (v8 : BitVec 32) {Q : _ → sProp 𝕄} :
    recs m K ⊢ iprop(levAts L lv -∗ owns (c : Thread nD τ) (block true 3) fullShare (blkV m c true 3) -∗ anyAt c (slot true 3) -∗ atR c true 3 0 -∗ owns (c : Thread nD τ) xM fullShare (xv m c) -∗ owns (c : Thread nD τ) wqM fullShare (wqv m c) -∗ anyAt c (qS c) -∗ owe c 0 -∗ dutyTok ER (barC (sh c 1)) 0 2 -∗ (anyAt c (qS (sh c 1)) ∗ anyAt c (coS 2) ∗ anyAt c (clS 2) ∗ anyAt c (arS 2) ∗ anyAt c (grS 2)) -∗ dutyTok ER (barC (sh c 2)) 0 1 -∗ (anyAt c (qS (sh c 2)) ∗ anyAt c (coS 1) ∗ anyAt c (clS 1) ∗ anyAt c (arS 1) ∗ anyAt c (grS 1)) -∗ dutyTok ER (barC (sh c 3)) 0 0 -∗ (anyAt c (qS (sh c 3)) ∗ anyAt c (coS 0) ∗ anyAt c (clS 0) ∗ anyAt c (arS 0) ∗ anyAt c (grS 0)) -∗ (atPos ER (barC c) 0 ∅ 0 ∗ cred (tallyAt (barC c) () 3)) -∗ ((flight c true 3 0 ∗ owns (c : Thread nD τ) xM fullShare (xv m c) ∗ owns (c : Thread nD τ) wqM fullShare (wqv m c) ∗ owns (c : Thread nD τ) (qS c) fullShare (qv m c) ∗ owe c 3 ∗ semVal (barC c) 0 ∗ barPay c 0 ∗ barPay c 1 ∗ barPay c 2) -∗ Q ⟨⟩)
      -∗ WP c Q (k0_part6 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v2 v4 v6 v8)) := by
  rw [k0_part6_eq_skeleton]; unfold k0_part6_skel
  simp only [semSignalWord, semWaitWord, Prog.lift, Prog.bind_op, Prog.bind_ret, Prog.pure_eq_ret, wp_deviceId]
  iintro #HR #HL HBv3 HSv3 HFv3 Hx Hwq Hq HO Hb1 HG2 Hb2 HG1 Hb3 HG0 Hbw Hk
  iapply (copy_step m K c true 3 0 (by decide) 3 rfl rfl rfl rfl) $$ HR HBv3 HSv3 HFv3; iintro HFv3
  iapply (load_all c _) $$ Hx; iintro Hx
  iapply (load_all c _) $$ Hwq; iintro Hwq
  icases Hq with ⟨%XHq, Hq⟩
  iapply (load_piece c (k0_off1_eq c) _) $$ Hq; iintro Hq
  iapply (store_piece c (k0_off1_eq c) _) $$ Hq; iintro Hq
  iapply (signal_step m K c 0 1 2 (Fin.ext (k0_dev1_eq c)) (by decide) rfl rfl rfl) $$ HR HO Hb1 HG2; iintro HO
  iapply (signal_step m K c 1 2 1 (Fin.ext (k0_dev2_eq c)) (by decide) rfl rfl rfl) $$ HR HO Hb2 HG1; iintro HO
  iapply (signal_step m K c 2 3 0 (Fin.ext (k0_dev3_eq c)) (by decide) rfl rfl rfl) $$ HR HO Hb3 HG0; iintro HO
  iapply (wait_bar m K c 3 (by decide) rfl rfl) $$ HR HL HO Hbw; iintro ⟨HO, Hbz, HT0, HT1, HT2⟩
  iapply (ret_step c _); iapply Hk
  isplitl [HFv3]; · iexact HFv3
  isplitl [Hx]; · iexact Hx
  isplitl [Hwq]; · iexact Hwq
  isplitl [Hq]; · iexact Hq
  isplitl [HO]; · iexact HO
  isplitl [Hbz]; · iexact Hbz
  isplitl [HT0]; · iexact HT0
  isplitl [HT1]; · iexact HT1
  iexact HT2

/-- The query heads go to the three other devices. -/
theorem part7 (v2 : BitVec 32) (v4 : BitVec 32) (v6 : BitVec 32) (v8 : BitVec 32) {Q : _ → sProp 𝕄} :
    recs m K ⊢ iprop(levAts L lv -∗ owe c 3 -∗ owns (c : Thread nD τ) (qS c) (Ring.shares3 fullShare 0) (qv m c) -∗ anyAt (sh c ((0 : Fin 3).val + 1)) (qS c) -∗ pre c 0 0 -∗ owns (c : Thread nD τ) (qS c) (Ring.shares3 fullShare 1) (qv m c) -∗ anyAt (sh c ((1 : Fin 3).val + 1)) (qS c) -∗ pre c 0 1 -∗ owns (c : Thread nD τ) (qS c) (Ring.shares3 fullShare 2) (qv m c) -∗ anyAt (sh c ((2 : Fin 3).val + 1)) (qS c) -∗ pre c 0 2 -∗ ((owe c 6 ∗ mid c 0 0 ∗ mid c 0 1 ∗ mid c 0 2) -∗ Q ⟨⟩)
      -∗ WP c Q (k0_part7 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v2 v4 v6 v8)) := by
  rw [k0_part7_eq_skeleton]; unfold k0_part7_skel
  simp only [semSignalWord, semWaitWord, Prog.lift, Prog.bind_op, Prog.bind_ret, Prog.pure_eq_ret, wp_deviceId]
  iintro #HR #HL HO Hs00 HD00 HP00 Hs01 HD01 HP01 Hs02 HD02 HP02 Hk
  iapply (send0 m K c 0 3 (dev4_sh c) debts_3 rfl rfl) $$ HR Hs00 HD00 HO HP00; iintro ⟨HO, HP00⟩
  iapply (send0 m K c 1 4 (dev5_sh c) debts_4 rfl rfl) $$ HR Hs01 HD01 HO HP01; iintro ⟨HO, HP01⟩
  iapply (send0 m K c 2 5 (dev6_sh c) debts_5 rfl rfl) $$ HR Hs02 HD02 HO HP02; iintro ⟨HO, HP02⟩
  iapply (ret_step c _); iapply Hk
  isplitl [HO]; · iexact HO
  isplitl [HP00]; · iexact HP00
  isplitl [HP01]; · iexact HP01
  iexact HP02

/-- Two of the query slices are sent and two have landed. -/
theorem part8 (v4 : BitVec 32) (v6 : BitVec 32) {Q : _ → sProp 𝕄} :
    recs m K ⊢ iprop(levAts L lv -∗ owe c 6 -∗ mid c 0 0 -∗ mid c 0 1 -∗ ((owe c 6 ∗ sndPay m c 0 0 ∗ fin c 0 0 ∗ rcvPay m c 0 0 ∗ sndPay m c 0 1 ∗ fin c 0 1 ∗ rcvPay m c 0 1) -∗ Q ⟨⟩)
      -∗ WP c Q (k0_part8 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v6)) := by
  rw [k0_part8_eq_skeleton]; unfold k0_part8_skel
  simp only [semSignalWord, semWaitWord, Prog.lift, Prog.bind_op, Prog.bind_ret, Prog.pure_eq_ret, wp_deviceId]
  iintro #HR #HL HO HP00 HP01 Hk
  iapply (wait_snd m K c 0 0 6 (by decide) rfl (credit0 _)) $$ HR HL HO HP00; iintro ⟨HO, HP00, Hs00⟩
  iapply (wait_rcv m K c 0 0 6 (by decide) rfl (credit0 _)) $$ HR HL HO HP00; iintro ⟨HO, HP00, HL00⟩
  iapply (wait_snd m K c 0 1 6 (by decide) rfl (credit0 _)) $$ HR HL HO HP01; iintro ⟨HO, HP01, Hs01⟩
  iapply (wait_rcv m K c 0 1 6 (by decide) rfl (credit0 _)) $$ HR HL HO HP01; iintro ⟨HO, HP01, HL01⟩
  iapply (ret_step c _); iapply Hk
  isplitl [HO]; · iexact HO
  isplitl [Hs00]; · iexact Hs00
  isplitl [HP00]; · iexact HP00
  isplitl [HL00]; · iexact HL00
  isplitl [Hs01]; · iexact Hs01
  isplitl [HP01]; · iexact HP01
  iexact HL01

end

end Cert.Quad
end
-- ==== Proof.Loop.lean ====
/-
The loop over the key blocks: what a slot's buffers are between trips, one trip, and the whole loop.
-/
module

public import proofs.«01_k».proof.Proof.Pieces

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The printed places -/

theorem creditK (v : View sig .tc .vmem S256x32x128 .f32) : v.dmaCredit = crK := rfl

theorem above_loc (b : Bool) (j : Fin 4) : above (.dma (locQ b j)) 6 := by revert b j; decide

set_option backward.proofsInPublic true in
theorem s_inb (j : Fin 4) : ∀ a, (![j.val] : Fin 1 → ℕ) a + S1.size a ≤ S4.size a := by revert j; decide

theorem sem_k (j : Fin 4) : ((cc0_scratch16.slice (Rect.unit (s := S4) ![j.val] S1.size (s_inb j))).squeeze S_ squeezes_S1_S_).sem = locQ false j := by
  revert j; decide
theorem sem_v (j : Fin 4) : ((cc0_scratch17.slice (Rect.unit (s := S4) ![j.val] S1.size (s_inb j))).squeeze S_ squeezes_S1_S_).sem = locQ true j := by
  revert j; decide

theorem sem_k_at {off : Fin 1 → ℕ} (j : Fin 4) (h : off = ![j.val]) (p) :
    ((cc0_scratch16.slice (Rect.unit (s := S4) off S1.size p)).squeeze S_ squeezes_S1_S_).sem = locQ false j := by subst h; exact sem_k j
theorem sem_v_at {off : Fin 1 → ℕ} (j : Fin 4) (h : off = ![j.val]) (p) :
    ((cc0_scratch17.slice (Rect.unit (s := S4) off S1.size p)).squeeze S_ squeezes_S1_S_).sem = locQ true j := by subst h; exact sem_v j
theorem slot_k_at {off : Fin 4 → ℕ} (j : Fin 4) (h : off = ![j.val, 0, 0, 0]) (p) (hs) :
    (kM.slice (Rect.unit (s := S4x256x32x128) off S1x256x32x128.size p) hs).squeeze S256x32x128 squeezes_S1x256x32x128_S256x32x128 = slot false j := by
  subst h; rfl
theorem slot_v_at {off : Fin 4 → ℕ} (j : Fin 4) (h : off = ![j.val, 0, 0, 0]) (p) (hs) :
    (vM.slice (Rect.unit (s := S4x256x32x128) off S1x256x32x128.size p) hs).squeeze S256x32x128 squeezes_S1x256x32x128_S256x32x128 = slot true j := by
  subst h; rfl
theorem block_k_at {off : Fin 3 → ℕ} (g : Fin 16) (h : off = ![256 * g.val, 0, 0]) (p) (hs) :
    kHM.slice (Rect.unit (s := S4096x32x128) off S256x32x128.size p) hs = block false g := by subst h; rfl
theorem block_v_at {off : Fin 3 → ℕ} (g : Fin 16) (h : off = ![256 * g.val, 0, 0]) (p) (hs) :
    vHM.slice (Rect.unit (s := S4096x32x128) off S256x32x128.size p) hs = block true g := by subst h; rfl

theorem cond1_iff : ∀ k : Fin k0_t1_loop.trips, k0_cond1 k = 1#1 ↔ k.val + 4 < 16 := by decide +kernel
theorem trips_eq : k0_t1_loop.trips = 16 := by decide +kernel

section
variable (m : (ℓ : Loc nD τ sig) → Buf (Elt F) ℓ) (K : Dev nD × CIx → ℕ) (c : Dev nD)

/-- A load of row block `r` of the gathered queries. -/
theorem load_q {α : Type} {Q : α → sProp 𝕄} (r : Fin 4) {off : Fin 3 → ℕ} {p : ∀ a, off a + S32x64x128.size a ≤ S32x256x128.size a} {hl} (h : off = ![0, 64 * r.val, 0])
    {k : Vec F S32x64x128 .bf16 → Prog (TpuEff nD τ sig (Elt F) Λ₀ .tc) α} :
    owns (c : Thread nD τ) qM fullShare (qF m) ⊢ iprop((owns (c : Thread nD τ) qM fullShare (qF m) -∗ WP c Q (k (qRow m r)))
        -∗ WP c Q (.op (.load qM (Rect.unit (s := S32x256x128) off S32x64x128.size p).toLoadRect hl) k)) := by
  subst h
  have H := load_sub (Q := Q) c (M := qM) (r := Rect.unit (s := S32x256x128) ![0, 64 * r.val, 0] S32x64x128.size p) (hl := hl) (q := fullShare) (qF m) (k := k)
  exact H

theorem slot_k (j : Fin 4) (g : Fin 16) : (owns (c : Thread nD τ) (slot false j) fullShare (blkV m c false g) : sProp 𝕄)
    = owns (c : Thread nD τ) (kM.slice (kR j) (fun _ => rfl)) fullShare (unsq hk1 (kG m c g)) := owns_sq (c : Thread nD τ) _ hk1 fullShare (kG m c g)
theorem slot_v (j : Fin 4) (g : Fin 16) : (owns (c : Thread nD τ) (slot true j) fullShare (blkV m c true g) : sProp 𝕄)
    = owns (c : Thread nD τ) (vM.slice (kR j) (fun _ => rfl)) fullShare (unsq hk1 (vG m c g)) := owns_sq (c : Thread nD τ) _ hk1 fullShare (vG m c g)

/-- The head of a trip: the key and the value block are here, and the first rows are read. -/
theorem trip1 (j : Fin 4) (r : ℕ) (hr : r < 4) (k : Fin k0_t1_loop.trips) (hk : k.val = 4 * r + j.val) {Q : _ → sProp 𝕄} :
    recs m K ⊢ iprop(levAts L lv -∗ owe c 6 -∗ flight c false j r -∗ flight c true j r -∗ owns (c : Thread nD τ) qM fullShare (qF m) -∗ owns (c : Thread nD τ) (lM.slice (lR 0) (fun _ => rfl)) fullShare (lB m c 0 k)
      -∗ ((owe c 6 ∗ atR c false j (r + 1) ∗ owns (c : Thread nD τ) (kM.slice (kR j) (fun _ => rfl)) fullShare (unsq hk1 (kG m c (Fin.ofNat 16 k))) ∗ owns (c : Thread nD τ) (block false (Fin.ofNat 16 k)) fullShare (blkV m c false (Fin.ofNat 16 k))
          ∗ atR c true j (r + 1) ∗ owns (c : Thread nD τ) (vM.slice (kR j) (fun _ => rfl)) fullShare (unsq hk1 (vG m c (Fin.ofNat 16 k))) ∗ owns (c : Thread nD τ) (block true (Fin.ofNat 16 k)) fullShare (blkV m c true (Fin.ofNat 16 k))
          ∗ owns (c : Thread nD τ) qM fullShare (qF m) ∗ owns (c : Thread nD τ) (lM.slice (lR 0) (fun _ => rfl)) fullShare (lB m c 0 k))
        -∗ Q ⟨Scf.iv 0#32 1#32 k, k0_pay1 (unsq hk1 (kG m c (Fin.ofNat 16 k))), k0_pay2 (unsq hk1 (vG m c (Fin.ofNat 16 k))), k0_pay3 (unsq hk1 (kG m c (Fin.ofNat 16 k))) (qRow m 0), lB m c 0 k⟩)
      -∗ WP c Q (k0_part1 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 0#32 1#32 k)) := by
  have hj : k.val % 4 = j.val := by have := j.isLt; omega
  have hg : gOf r j = Fin.ofNat 16 k := by unfold gOf; rw [hk]
  have h3 : k0_off3 k = ![j.val] := (k0_off3_eq k).trans (by rw [hj])
  have h6 : k0_off6 k = ![j.val, 0, 0, 0] := (k0_off6_eq k).trans (by rw [hj])
  rw [k0_part1_eq_skeleton]; unfold k0_part1_skel
  simp only [Prog.lift, Prog.bind_op, Prog.bind_ret, Prog.pure_eq_ret]
  iintro #HR #HL HO HFk HFv Hq Hl Hk
  iapply (wait_loc m K c false j r hr 6 (above_loc false j) (Fin.ofNat 16 k) hg (sem_k_at j h3 _) (creditK _)) $$ HR HL HO HFk; iintro ⟨HO, HFk, HSk, HBk⟩
  iapply (wait_loc m K c true j r hr 6 (above_loc true j) (Fin.ofNat 16 k) hg (sem_v_at j h3 _) (creditK _)) $$ HR HL HO HFv; iintro ⟨HO, HFv, HSv, HBv⟩
  ihave HSk := (Entails.of_eq (slot_k m c j (Fin.ofNat 16 k))) $$ HSk
  ihave HSv := (Entails.of_eq (slot_v m c j (Fin.ofNat 16 k))) $$ HSv
  iapply (load_piece c h6 _) $$ HSk; iintro HSk
  iapply (load_piece c h6 _) $$ HSv; iintro HSv
  iapply (load_q m c 0 rfl) $$ Hq; iintro Hq
  iapply (load_piece c rfl _) $$ Hl; iintro Hl
  iapply (ret_step c _); iapply Hk
  isplitl [HO]; · iexact HO
  isplitl [HFk]; · iexact HFk
  isplitl [HSk]; · iexact HSk
  isplitl [HBk]; · iexact HBk
  isplitl [HFv]; · iexact HFv
  isplitl [HSv]; · iexact HSv
  isplitl [HBv]; · iexact HBv
  isplitl [Hq]; · iexact Hq
  iexact Hl

section
variable (K₀ V₀ : Vec F S1x256x32x128 .f32) (l0 l1 l2 l3 : Vec F S32x64 .f32) (o0 o1 o2 o3 : Vec F S32x64x128 .f32)

/-- The first 64 query rows are done, the next begun. -/
theorem trip2 {Q : _ → sProp 𝕄} :
    iprop(owns (c : Thread nD τ) qM fullShare (qF m)) ⊢ iprop(owns (c : Thread nD τ) (lM.slice (lR 0) (fun _ => rfl)) fullShare l0 -∗ owns (c : Thread nD τ) (oM.slice (oR 0) (fun _ => rfl)) fullShare o0 -∗ owns (c : Thread nD τ) (lM.slice (lR 1) (fun _ => rfl)) fullShare l1 -∗ owns (c : Thread nD τ) (oM.slice (oR 1) (fun _ => rfl)) fullShare o1
      -∗ ((owns (c : Thread nD τ) qM fullShare (qF m) ∗ owns (c : Thread nD τ) (lM.slice (lR 0) (fun _ => rfl)) fullShare (stepL 0 K₀ (qRow m 0) l0) ∗ owns (c : Thread nD τ) (oM.slice (oR 0) (fun _ => rfl)) fullShare (stepO 0 K₀ V₀ (qRow m 0) o0) ∗ owns (c : Thread nD τ) (lM.slice (lR 1) (fun _ => rfl)) fullShare (stepL 1 K₀ (qRow m 1) l1) ∗ owns (c : Thread nD τ) (oM.slice (oR 1) (fun _ => rfl)) fullShare o1)
        -∗ Q ⟨k0_pay8 (k0_pay1 K₀) (k0_pay2 V₀) (qRow m 1) o1, o1⟩)
      -∗ WP c Q (k0_part2 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 (k0_pay1 K₀) (k0_pay2 V₀) (k0_pay3 K₀ (qRow m 0)) l0)) := by
  rw [k0_part2_eq_skeleton]; unfold k0_part2_skel
  simp only [Prog.lift, Prog.bind_op, Prog.bind_ret, Prog.pure_eq_ret]
  iintro Hq Hl0 Ho0 Hl1 Ho1 Hk
  iapply (load_piece c rfl _) $$ Hl0; iintro Hl0
  iapply (store_piece c rfl _) $$ Hl0; iintro Hl0
  iapply (load_piece c rfl _) $$ Ho0; iintro Ho0
  iapply (load_piece c rfl _) $$ Ho0; iintro Ho0
  iapply (store_piece c rfl _) $$ Ho0; iintro Ho0
  iapply (load_q m c 1 rfl) $$ Hq; iintro Hq
  iapply (load_piece c rfl _) $$ Hl1; iintro Hl1
  iapply (load_piece c rfl _) $$ Hl1; iintro Hl1
  iapply (store_piece c rfl _) $$ Hl1; iintro Hl1
  iapply (load_piece c rfl _) $$ Ho1; iintro Ho1
  iapply (load_piece c rfl _) $$ Ho1; iintro Ho1
  iapply (ret_step c _); iapply Hk
  isplitl [Hq]; · iexact Hq
  isplitl [Hl0]; · iexact Hl0
  isplitl [Ho0]; · iexact Ho0
  isplitl [Hl1]; · iexact Hl1
  iexact Ho1

/-- The second and the third 64 rows are done, the last begun. -/
theorem trip3 {Q : _ → sProp 𝕄} :
    iprop(owns (c : Thread nD τ) qM fullShare (qF m)) ⊢ iprop(owns (c : Thread nD τ) (oM.slice (oR 1) (fun _ => rfl)) fullShare o1 -∗ owns (c : Thread nD τ) (lM.slice (lR 2) (fun _ => rfl)) fullShare l2 -∗ owns (c : Thread nD τ) (oM.slice (oR 2) (fun _ => rfl)) fullShare o2 -∗ owns (c : Thread nD τ) (lM.slice (lR 3) (fun _ => rfl)) fullShare l3
      -∗ ((owns (c : Thread nD τ) qM fullShare (qF m) ∗ owns (c : Thread nD τ) (oM.slice (oR 1) (fun _ => rfl)) fullShare (stepO 1 K₀ V₀ (qRow m 1) o1) ∗ owns (c : Thread nD τ) (lM.slice (lR 2) (fun _ => rfl)) fullShare (stepL 2 K₀ (qRow m 2) l2) ∗ owns (c : Thread nD τ) (oM.slice (oR 2) (fun _ => rfl)) fullShare (stepO 2 K₀ V₀ (qRow m 2) o2) ∗ owns (c : Thread nD τ) (lM.slice (lR 3) (fun _ => rfl)) fullShare l3)
        -∗ Q ⟨k0_pay13 (k0_pay1 K₀) (qRow m 3), k0_pay14 (k0_pay1 K₀) (qRow m 3) l3⟩)
      -∗ WP c Q (k0_part3 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 (k0_pay1 K₀) (k0_pay2 V₀) (k0_pay8 (k0_pay1 K₀) (k0_pay2 V₀) (qRow m 1) o1) o1)) := by
  rw [k0_part3_eq_skeleton]; unfold k0_part3_skel
  simp only [Prog.lift, Prog.bind_op, Prog.bind_ret, Prog.pure_eq_ret]
  iintro Hq Ho1 Hl2 Ho2 Hl3 Hk
  iapply (store_piece c rfl _) $$ Ho1; iintro Ho1
  iapply (load_q m c 2 rfl) $$ Hq; iintro Hq
  iapply (load_piece c rfl _) $$ Hl2; iintro Hl2
  iapply (load_piece c rfl _) $$ Hl2; iintro Hl2
  iapply (store_piece c rfl _) $$ Hl2; iintro Hl2
  iapply (load_piece c rfl _) $$ Ho2; iintro Ho2
  iapply (load_piece c rfl _) $$ Ho2; iintro Ho2
  iapply (store_piece c rfl _) $$ Ho2; iintro Ho2
  iapply (load_q m c 3 rfl) $$ Hq; iintro Hq
  iapply (load_piece c rfl _) $$ Hl3; iintro Hl3
  iapply (ret_step c _); iapply Hk
  isplitl [Hq]; · iexact Hq
  isplitl [Ho1]; · iexact Ho1
  isplitl [Hl2]; · iexact Hl2
  isplitl [Ho2]; · iexact Ho2
  iexact Hl3
end

/-! ## Between trips -/

/-- The places of slot `j`'s four blocks, those of the rounds in `S`. -/
def blks (b : Bool) (j : Fin 4) (S : Finset (Fin 4)) : sProp 𝕄 :=
  bigSep S fun r => owns (c : Thread nD τ) (block b (gOf r j)) fullShare (blkV m c b (gOf r j))

theorem blks_split (b : Bool) (j : Fin 4) (r : Fin 4) :
    blks m c b j Finset.univ = iprop(owns (c : Thread nD τ) (block b (gOf r j)) fullShare (blkV m c b (gOf r j)) ∗ blks m c b j (Finset.univ.erase r)) := by
  unfold blks; exact bigSep_erase (Finset.mem_univ r)

/-- Slot `j` between trips, round `r` the next to be waited for. -/
def slotAt (b : Bool) (j : Fin 4) (r : ℕ) : sProp 𝕄 :=
  if h : r < 4 then iprop(flight c b j r ∗ blks m c b j (Finset.univ.erase ⟨r, h⟩)) else iprop(anyAt c (slot b j) ∗ atR c b j 4 ∗ blks m c b j Finset.univ)

/-- The slots before trip `k`. -/
def slots (b : Bool) (k : ℕ) : sProp 𝕄 := bigSep Finset.univ fun j : Fin 4 => slotAt m c b j ((k + 3 - j.val) / 4)

/-- The slots before a trip and after it differ in the trip's slot. -/
theorem slots_at (b : Bool) (j : Fin 4) (r k : ℕ) (hk : k = 4 * r + j.val) :
    slots m c b k = iprop(slotAt m c b j r ∗ bigSep (Finset.univ.erase j) fun i : Fin 4 => slotAt m c b i ((k + 3 - i.val) / 4)) := by
  unfold slots
  rw [bigSep_erase (Finset.mem_univ j), show (k + 3 - j.val) / 4 = r by omega]; rfl

theorem slots_next (b : Bool) (j : Fin 4) (r k : ℕ) (hk : k = 4 * r + j.val) :
    slots m c b (k + 1) = iprop(slotAt m c b j (r + 1) ∗ bigSep (Finset.univ.erase j) fun i : Fin 4 => slotAt m c b i ((k + 3 - i.val) / 4)) := by
  unfold slots
  rw [bigSep_erase (Finset.mem_univ j), show (k + 1 + 3 - j.val) / 4 = r + 1 by omega]
  refine congrArg (fun P => iprop(slotAt m c b j (r + 1) ∗ P)) (bigSep_congr fun i hi => ?_)
  have hne : i.val ≠ j.val := fun h => (Finset.mem_erase.mp hi).1 (Fin.ext h)
  have h1 := i.isLt
  have h2 := j.isLt
  rw [show (k + 1 + 3 - i.val) / 4 = (k + 3 - i.val) / 4 by omega]

/-- A slot whose block has been used and whose next copy is not started. -/
def used (b : Bool) (j : Fin 4) (r : ℕ) : sProp 𝕄 :=
  iprop(atR c b j (r + 1) ∗ anyAt c (slot b j) ∗ blks m c b j Finset.univ)

theorem used_last (b : Bool) (j : Fin 4) (r : ℕ) (h : r = 3) : used m c b j r ⊢ slotAt m c b j (r + 1) := by
  subst h
  unfold used slotAt
  rw [dif_neg (by decide)]
  iintro ⟨H1, H2, H3⟩
  isplitl [H2]; · iexact H2
  isplitl [H1] <;> iassumption

theorem slot_next (b : Bool) (j : Fin 4) (r : ℕ) (h : r + 1 < 4) :
    slotAt m c b j (r + 1) = iprop(flight c b j (r + 1) ∗ blks m c b j (Finset.univ.erase ⟨r + 1, h⟩)) := dif_pos h

/-- All rows of the sums and of the outputs before trip `k`. -/
def rows (k : ℕ) : sProp 𝕄 :=
  iprop(owns (c : Thread nD τ) (lM.slice (lR 0) (fun _ => rfl)) fullShare (lB m c 0 k) ∗ owns (c : Thread nD τ) (lM.slice (lR 1) (fun _ => rfl)) fullShare (lB m c 1 k) ∗ owns (c : Thread nD τ) (lM.slice (lR 2) (fun _ => rfl)) fullShare (lB m c 2 k) ∗ owns (c : Thread nD τ) (lM.slice (lR 3) (fun _ => rfl)) fullShare (lB m c 3 k) ∗ owns (c : Thread nD τ) (oM.slice (oR 0) (fun _ => rfl)) fullShare (oB m c 0 k) ∗ owns (c : Thread nD τ) (oM.slice (oR 1) (fun _ => rfl)) fullShare (oB m c 1 k) ∗ owns (c : Thread nD τ) (oM.slice (oR 2) (fun _ => rfl)) fullShare (oB m c 2 k) ∗ owns (c : Thread nD τ) (oM.slice (oR 3) (fun _ => rfl)) fullShare (oB m c 3 k))

/-- What the loop holds before trip `k`. -/
def inv (k : ℕ) : sProp 𝕄 :=
  iprop(recs m K ∗ levAts L lv ∗ owe c 6 ∗ owns (c : Thread nD τ) qM fullShare (qF m) ∗ rows m c k ∗ slots m c false k ∗ slots m c true k)

/-- One trip. -/
theorem trip (v4 v8 : BitVec 32) (k : Fin k0_t1_loop.trips) :
    inv m K c k.val ⊢ WP c (fun _ => inv m K c (k.val + 1)) (k0_t1_body xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v8 k ()) := by
  obtain ⟨j, r, hr, hk⟩ : ∃ (j : Fin 4) (r : ℕ), r < 4 ∧ k.val = 4 * r + j.val :=
    ⟨⟨k.val % 4, Nat.mod_lt _ (by decide)⟩, k.val / 4, by have := k.isLt; have := trips_eq; omega, by show k.val = 4 * (k.val / 4) + k.val % 4; omega⟩
  have hj := j.isLt
  have hg : gOf r j = Fin.ofNat 16 k := by unfold gOf; rw [hk]
  have hg' : gOf ((⟨r, hr⟩ : Fin 4) : ℕ) j = Fin.ofNat 16 k := hg
  unfold inv
  rw [slots_at m c false j r k.val hk, slots_at m c true j r k.val hk, slots_next m c false j r k.val hk, slots_next m c true j r k.val hk]
  unfold rows
  rw [show slotAt m c false j r = _ from dif_pos hr, show slotAt m c true j r = _ from dif_pos hr]
  iintro ⟨#HR, #HL, HO, Hq, ⟨Hl0, Hl1, Hl2, Hl3, Ho0, Ho1, Ho2, Ho3⟩, ⟨⟨HFk, HBk⟩, Hrk⟩, ⟨⟨HFv, HBv⟩, Hrv⟩⟩
  unfold k0_t1_body
  iapply (bind_step c)
  iapply (trip1 m K c j r hr k hk) $$ HR HL HO HFk HFv Hq Hl0
  iintro ⟨HO, HFk, HSk, HGk, HFv, HSv, HGv, Hq, Hl0⟩
  dsimp only
  iapply (bind_step c)
  iapply (trip2 m c _ _ _ _ _ _) $$ Hq Hl0 Ho0 Hl1 Ho1
  iintro ⟨Hq, Hl0, Ho0, Hl1, Ho1⟩
  dsimp only
  iapply (bind_step c)
  iapply (trip3 m c _ _ _ _ _ _) $$ Hq Ho1 Hl2 Ho2 Hl3
  iintro ⟨Hq, Ho1, Hl2, Ho2, Hl3⟩
  dsimp only
  simp only [Prog.lift, Prog.bind_op, Prog.bind_ret, Prog.pure_eq_ret]
  iapply (load_piece c rfl _) $$ Hl3; iintro Hl3
  iapply (store_piece c rfl _) $$ Hl3; iintro Hl3
  iapply (load_piece c rfl _) $$ Ho3; iintro Ho3
  iapply (load_piece c rfl _) $$ Ho3; iintro Ho3
  iapply (store_piece c rfl _) $$ Ho3; iintro Ho3
  ihave HSk := (Entails.of_eq (slot_k m c j (Fin.ofNat 16 k)).symm) $$ HSk
  ihave HSv := (Entails.of_eq (slot_v m c j (Fin.ofNat 16 k)).symm) $$ HSv
  ihave HSk := (any_intro c (slot false j) _) $$ HSk
  ihave HSv := (any_intro c (slot true j) _) $$ HSv
  have hb : ∀ b, iprop(owns (c : Thread nD τ) (block b (Fin.ofNat 16 k)) fullShare (blkV m c b (Fin.ofNat 16 k)) ∗ blks m c b j (Finset.univ.erase ⟨r, hr⟩)) ⊢ blks m c b j Finset.univ := fun b => by
    rw [blks_split m c b j ⟨r, hr⟩, hg']
  ihave HBk := (hb false) $$ [HGk HBk]
  · isplitl [HGk]; · iexact HGk
    iexact HBk
  ihave HBv := (hb true) $$ [HGv HBv]
  · isplitl [HGv]; · iexact HGv
    iexact HBv
  by_cases h : k0_cond1 k = 1#1
  · have hlt : r + 1 < 4 := by have := (cond1_iff k).mp h; omega
    have hj' : k.val % 4 = j.val := by omega
    have h7 : k0_off7 k = ![j.val] := (k0_off7_eq k).trans (by rw [hj'])
    have h8 : k0_off8 k = ![j.val, 0, 0, 0] := (k0_off8_eq k).trans (by rw [hj'])
    have hgv : (gOf (r + 1) j).val = 4 * (r + 1) + j.val := by unfold gOf; show (4 * (r + 1) + j.val) % 16 = _; omega
    have h9 : k0_off9 k = ![256 * (gOf (r + 1) j).val, 0, 0] := (k0_off9_eq k).trans (by rw [hgv, hk]; congr 1; omega)
    have hgl : gOf (((⟨r + 1, hlt⟩ : Fin 4) : ℕ)) j = gOf (r + 1) j := rfl
    simp only [dif_pos h, Prog.bind_op, Prog.bind_ret]
    ihave HBk := (Entails.of_eq (blks_split m c false j ⟨r + 1, hlt⟩)) $$ HBk
    ihave HBv := (Entails.of_eq (blks_split m c true j ⟨r + 1, hlt⟩)) $$ HBv
    icases HBk with ⟨HGk, HBk⟩
    icases HBv with ⟨HGv, HBv⟩
    iapply (copy_step m K c false j (r + 1) hlt (gOf (r + 1) j) rfl (block_k_at _ h9 _ _) (slot_k_at j h8 _ _) (congrArg SemLoc.dma (sem_k_at j h7 _))) $$ HR HGk HSk HFk; iintro HFk
    iapply (copy_step m K c true j (r + 1) hlt (gOf (r + 1) j) rfl (block_v_at _ h9 _ _) (slot_v_at j h8 _ _) (congrArg SemLoc.dma (sem_v_at j h7 _))) $$ HR HGv HSv HFv; iintro HFv
    iapply (ret_step c _)
    isplitr; · iexact HR
    isplitr; · iexact HL
    isplitl [HO]; · iexact HO
    isplitl [Hq]; · iexact Hq
    isplitl [Hl0 Hl1 Hl2 Hl3 Ho0 Ho1 Ho2 Ho3]
    · isplitl [Hl0]; · iexact Hl0
      isplitl [Hl1]; · iexact Hl1
      isplitl [Hl2]; · iexact Hl2
      isplitl [Hl3]; · iexact Hl3
      isplitl [Ho0]; · iexact Ho0
      isplitl [Ho1]; · iexact Ho1
      isplitl [Ho2]; · iexact Ho2
      iexact Ho3
    isplitl [HFk HBk Hrk]
    · isplitl [HFk HBk]; · iapply (Entails.of_eq (slot_next m c false j r hlt).symm); isplitl [HFk] <;> iassumption
      iexact Hrk
    isplitl [HFv HBv]; · iapply (Entails.of_eq (slot_next m c true j r hlt).symm); isplitl [HFv] <;> iassumption
    iexact Hrv
  · have h3 : r = 3 := by have := mt (cond1_iff k).mpr h; omega
    simp only [dif_neg h, Prog.bind_op, Prog.bind_ret]
    iapply (ret_step c _)
    isplitr; · iexact HR
    isplitr; · iexact HL
    isplitl [HO]; · iexact HO
    isplitl [Hq]; · iexact Hq
    isplitl [Hl0 Hl1 Hl2 Hl3 Ho0 Ho1 Ho2 Ho3]
    · isplitl [Hl0]; · iexact Hl0
      isplitl [Hl1]; · iexact Hl1
      isplitl [Hl2]; · iexact Hl2
      isplitl [Hl3]; · iexact Hl3
      isplitl [Ho0]; · iexact Ho0
      isplitl [Ho1]; · iexact Ho1
      isplitl [Ho2]; · iexact Ho2
      iexact Ho3
    isplitl [HFk HSk HBk Hrk]
    · isplitl [HFk HSk HBk]
      · iapply (used_last m c false j r h3); unfold used
        isplitl [HFk]; · iexact HFk
        isplitl [HSk]; · iexact HSk
        iexact HBk
      iexact Hrk
    isplitl [HFv HSv HBv]
    · iapply (used_last m c true j r h3); unfold used
      isplitl [HFv]; · iexact HFv
      isplitl [HSv]; · iexact HSv
      iexact HBv
    iexact Hrv

/-- The whole loop, before the rest of its part. -/
theorem loop (v4 v8 : BitVec 32) {α : Type} {Q : α → sProp 𝕄} {kont : Unit → Prog (TpuEff nD τ sig (Elt F) Λ₀ .tc) α} :
    inv m K c 0 ⊢ iprop((inv m K c 16 -∗ WP c Q (kont ())) -∗ WP c Q (Scf.Loop.for k0_t1_loop k0_t1_ok () (k0_t1_body xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v8) >>= kont)) := by
  have H := Scf.wp_for_bind frame (wpE (defs₀ (F := F)) 𝒱₀ (c : Thread nD τ) none) Set.univ k0_t1_loop.lb k0_t1_loop.ub k0_t1_loop.st k0_t1_ok ()
    (k0_t1_body xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v8) (fun k _ => inv m K c k) (fun k _ => trip m K c v4 v8 k) (kk := kont) (Q := Q)
  iintro HI Hk
  iapply H $$ HI
  iintro %acc HI
  rw [show Scf.trips k0_t1_loop.lb k0_t1_loop.ub k0_t1_loop.st = 16 from trips_eq]
  iapply Hk
  iexact HI

end

end Cert.Quad
end
-- ==== Proof.Joins.lean ====
/-
Buffers cut into pieces and put together again, with the contents that the pieces' contents make.
-/
module

public import proofs.«01_k».proof.Proof.Pieces

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The families of pieces are disjoint and cover -/

theorem qR_disj (t t' : Fin 4) (h : t ≠ t') : Disjoint (qR t).set (qR t').set :=
  Ring.lead_disjoint (s := S32x256x128) (NB := 4) 0 8 (fun t => ![8 * t.val, 0, 0]) S8x256x128.size qr_inb (by decide) (by decide) t t' h
theorem qR_cover : (Finset.univ : Finset (Fin 4)).biUnion (fun t => (qR t).set) = Finset.univ :=
  Ring.lead_cover (s := S32x256x128) (NB := 4) 0 8 (fun t => ![8 * t.val, 0, 0]) S8x256x128.size qr_inb (by decide) (by decide) (by decide) (by decide) (by decide)
theorem kR_disj (t t' : Fin 4) (h : t ≠ t') : Disjoint (kR t).set (kR t').set :=
  Ring.lead_disjoint (s := S4x256x32x128) (NB := 4) 0 1 (fun t => ![t.val, 0, 0, 0]) S1x256x32x128.size kr_inb (by decide) (by decide) t t' h
theorem kR_cover : (Finset.univ : Finset (Fin 4)).biUnion (fun t => (kR t).set) = Finset.univ :=
  Ring.lead_cover (s := S4x256x32x128) (NB := 4) 0 1 (fun t => ![t.val, 0, 0, 0]) S1x256x32x128.size kr_inb (by decide) (by decide) (by decide) (by decide) (by decide)
theorem kbR_disj (t t' : Fin 16) (h : t ≠ t') : Disjoint (kbR t).set (kbR t').set :=
  Ring.lead_disjoint (s := S4096x32x128) (NB := 16) 0 256 (fun t => ![256 * t.val, 0, 0]) S256x32x128.size kb_inb (by decide) (by decide) t t' h
theorem kbR_cover : (Finset.univ : Finset (Fin 16)).biUnion (fun t => (kbR t).set) = Finset.univ :=
  Ring.lead_cover (s := S4096x32x128) (NB := 16) 0 256 (fun t => ![256 * t.val, 0, 0]) S256x32x128.size kb_inb (by decide) (by decide) (by decide) (by decide) (by decide)
theorem oR_disj (t t' : Fin 4) (h : t ≠ t') : Disjoint (oR t).set (oR t').set :=
  Ring.lead_disjoint (s := S32x256x128) (NB := 4) 1 64 (fun t => ![0, 64 * t.val, 0]) S32x64x128.size or_inb (by decide) (by decide) t t' h
theorem oR_cover : (Finset.univ : Finset (Fin 4)).biUnion (fun t => (oR t).set) = Finset.univ :=
  Ring.lead_cover (s := S32x256x128) (NB := 4) 1 64 (fun t => ![0, 64 * t.val, 0]) S32x64x128.size or_inb (by decide) (by decide) (by decide) (by decide) (by decide)
theorem lR_disj (t t' : Fin 4) (h : t ≠ t') : Disjoint (lR t).set (lR t').set :=
  Ring.lead_disjoint (s := S32x256) (NB := 4) 1 64 (fun t => ![0, 64 * t.val]) S32x64.size lr_inb (by decide) (by decide) t t' h
theorem lR_cover : (Finset.univ : Finset (Fin 4)).biUnion (fun t => (lR t).set) = Finset.univ :=
  Ring.lead_cover (s := S32x256) (NB := 4) 1 64 (fun t => ![0, 64 * t.val]) S32x64.size lr_inb (by decide) (by decide) (by decide) (by decide) (by decide)
theorem coR_disj (t t' : Fin 3) (h : t ≠ t') : Disjoint (coR t).set (coR t').set :=
  Ring.lead_disjoint (s := S3x8x256x128) (NB := 3) 0 1 (fun t => ![t.val, 0, 0, 0]) S1x8x256x128.size co_inb (by decide) (by decide) t t' h
theorem coR_cover : (Finset.univ : Finset (Fin 3)).biUnion (fun t => (coR t).set) = Finset.univ :=
  Ring.lead_cover (s := S3x8x256x128) (NB := 3) 0 1 (fun t => ![t.val, 0, 0, 0]) S1x8x256x128.size co_inb (by decide) (by decide) (by decide) (by decide) (by decide)
theorem clR_disj (t t' : Fin 3) (h : t ≠ t') : Disjoint (clR t).set (clR t').set :=
  Ring.lead_disjoint (s := S3x8x256) (NB := 3) 0 1 (fun t => ![t.val, 0, 0]) S1x8x256.size cl_inb (by decide) (by decide) t t' h
theorem clR_cover : (Finset.univ : Finset (Fin 3)).biUnion (fun t => (clR t).set) = Finset.univ :=
  Ring.lead_cover (s := S3x8x256) (NB := 3) 0 1 (fun t => ![t.val, 0, 0]) S1x8x256.size cl_inb (by decide) (by decide) (by decide) (by decide) (by decide)
theorem arR_disj (t t' : Fin 3) (h : t ≠ t') : Disjoint (arR t).set (arR t').set :=
  Ring.lead_disjoint (s := S3x64x1024) (NB := 3) 0 1 (fun t => ![t.val, 0, 0]) S1x64x1024.size ar_inb (by decide) (by decide) t t' h
theorem arR_cover : (Finset.univ : Finset (Fin 3)).biUnion (fun t => (arR t).set) = Finset.univ :=
  Ring.lead_cover (s := S3x64x1024) (NB := 3) 0 1 (fun t => ![t.val, 0, 0]) S1x64x1024.size ar_inb (by decide) (by decide) (by decide) (by decide) (by decide)
theorem paR_disj (t t' : Fin 4) (h : t ≠ t') : Disjoint (paR t).set (paR t').set :=
  Ring.lead_disjoint (s := S256x1024) (NB := 4) 0 64 (fun t => ![64 * t.val, 0]) S64x1024.size pa_inb (by decide) (by decide) t t' h
theorem paR_cover : (Finset.univ : Finset (Fin 4)).biUnion (fun t => (paR t).set) = Finset.univ :=
  Ring.lead_cover (s := S256x1024) (NB := 4) 0 64 (fun t => ![64 * t.val, 0]) S64x1024.size pa_inb (by decide) (by decide) (by decide) (by decide) (by decide)

/-! ## Any contents -/

section
variable (c : Dev nD) {sp : CoreSpace} {s : Shape} {e : EltTy} (M : Memref sig .tc sp s e) {T : Type} [Fintype T] [DecidableEq T]
  (r : T → Rect s) (hr : ∀ t a, (r t).stride a = 1) (hd : ∀ t t', t ≠ t' → Disjoint (r t).set (r t').set)
  (hcov : (Finset.univ : Finset T).biUnion (fun t => (r t).set) = Finset.univ)
include hd hcov

omit [DecidableEq T] in
theorem any_split : (anyAt c M : sProp 𝕄) ⊢ bigSep Finset.univ fun t => anyAt c (M.slice (r t) (hr t)) := by
  iintro ⟨%X, H⟩
  ihave H := (owns_rects (c : Thread nD τ) M fullShare r hr hd hcov X) $$ H
  have h2 : bigSep Finset.univ (fun t => owns (c : Thread nD τ) (M.slice (r t) (hr t)) fullShare (fun j => X ((r t).emb j))) ⊢ (bigSep Finset.univ (fun t => anyAt c (M.slice (r t) (hr t))) : sProp 𝕄) :=
    bigSep_mono fun t _ => any_intro c (M.slice (r t) (hr t)) (fun j => X ((r t).emb j))
  iapply h2 $$ H

theorem any_join : bigSep Finset.univ (fun t => anyAt c (M.slice (r t) (hr t))) ⊢ (anyAt c M : sProp 𝕄) := by
  refine (bigSep_exists_pi Finset.univ (fun t (X : (r t).shape.Idx → Elt F e) => owns (c : Thread nD τ) (M.slice (r t) (hr t)) fullShare X)).trans ?_
  iintro ⟨%y, H⟩
  classical
  let X : s.Idx → Elt F e := fun i => if h : ∃ t, ∃ j, (r t).emb j = i then y h.choose h.choose_spec.choose else Classical.arbitrary _
  have hX : ∀ t, (fun j => X ((r t).emb j)) = y t := fun t => funext fun j => by
    have h : ∃ t', ∃ j', (r t').emb j' = (r t).emb j := ⟨t, j, rfl⟩
    have hm : ∀ (t' : T) (j' : (r t').shape.Idx), (r t').emb j' = (r t).emb j → y t' j' = y t j := fun t' j' he => by
      by_cases htt : t' = t
      · subst htt; exact congrArg _ ((r t').emb.injective he)
      · exact ((Finset.disjoint_left.mp (hd t' t htt) ((r t').map_emb_univ ▸ Finset.mem_map_of_mem _ (Finset.mem_univ j')) (he ▸ ((r t).map_emb_univ ▸ Finset.mem_map_of_mem _ (Finset.mem_univ j)))).elim)
    show (if h : ∃ t', ∃ j', (r t').emb j' = (r t).emb j then y h.choose h.choose_spec.choose else _) = _
    rw [dif_pos h]
    exact hm _ _ h.choose_spec.choose_spec
  iexists X
  iapply (owns_of_rects (c : Thread nD τ) M fullShare r hr hd hcov X)
  rw [show (fun t => owns (c : Thread nD τ) (M.slice (r t) (hr t)) fullShare (fun j => X ((r t).emb j))) = fun t => (owns (c : Thread nD τ) (M.slice (r t) (hr t)) fullShare (y t) : sProp 𝕄) from funext fun t => by rw [hX t]]
  iexact H
end

section
variable (m : (ℓ : Loc nD τ sig) → Buf (Elt F) ℓ) (c : Dev nD)

/-- The four devices, counted from `c` backwards. -/
theorem bigSep_dev (P : Fin 4 → sProp 𝕄) : bigSep Finset.univ P = iprop(P c ∗ P (bk c 0) ∗ P (bk c 1) ∗ P (bk c 2)) :=
  bigSep_univ_eq_bigSepL [c, bk c 0, bk c 1, bk c 2] (by revert c; decide) (by revert c; decide) P

/-- The four devices, counted from `c` forwards. -/
theorem bigSep_dev' (P : Fin 4 → sProp 𝕄) : bigSep Finset.univ P = iprop(P c ∗ P (sh c 1) ∗ P (sh c 2) ∗ P (sh c 3)) :=
  bigSep_univ_eq_bigSepL [c, sh c 1, sh c 2, sh c 3] (by revert c; decide) (by revert c; decide) P

/-! ## The gathered queries -/

theorem qF_at (h : Fin 4) : (fun j => qF m ((qR h).emb j)) = qv m h := funext fun j => by
  have h0 : (((qR h).emb j) 0).val = 8 * h.val + 1 * (j 0).val := rfl
  have h1 : (((qR h).emb j) 1).val = 0 + 1 * (j 1).val := rfl
  have h2 : (((qR h).emb j) 2).val = 0 + 1 * (j 2).val := rfl
  have hj : (j 0).val < 8 := (j 0).isLt
  have ho : qOwner ((qR h).emb j) = h := Fin.ext (by show (((qR h).emb j) 0).val / 8 = h.val; omega)
  have hi : qIx ((qR h).emb j) = j := funext fun a => by
    fin_cases a
    · exact Fin.ext (by show (((qR h).emb j) 0).val % 8 = _; rw [h0]; show _ = (j 0).val; omega)
    · exact Fin.ext (by show (((qR h).emb j) 1).val = _; rw [h1]; show _ = (j 1).val; omega)
    · exact Fin.ext (by show (((qR h).emb j) 2).val = _; rw [h2]; show _ = (j 2).val; omega)
  unfold qF
  rw [ho, hi]

theorem snd0_eq (d : Fin 3) : sndPay m c 0 d = owns (c : Thread nD τ) (qS c) (Ring.shares3 fullShare d) (qv m c) := rfl

/-- The device's own query slice, back in three shares, and the three that landed are all the queries. -/
theorem join_q : iprop(sndPay m c 0 0 ∗ sndPay m c 0 1 ∗ sndPay m c 0 2 ∗ rcvPay m c 0 0 ∗ rcvPay m c 0 1 ∗ rcvPay m c 0 2)
    ⊢ (owns (c : Thread nD τ) qM fullShare (qF m) : sProp 𝕄) := by
  rw [snd0_eq, snd0_eq, snd0_eq, rcv0_eq, rcv0_eq, rcv0_eq]
  iintro ⟨H0, H1, H2, H3, H4, H5⟩
  ihave Hc := (owns_of_thirds (c : Thread nD τ) (qS c) fullShare (qv m c)) $$ [H0 H1 H2]
  · isplitl [H0]; · iexact H0
    isplitl [H1]; · iexact H1
    iexact H2
  iapply (owns_of_rects (c : Thread nD τ) qM fullShare qR (fun _ _ => rfl) qR_disj qR_cover (qF m))
  rw [show (fun t => owns (c : Thread nD τ) (qM.slice (qR t) (fun _ => rfl)) fullShare (fun j => qF m ((qR t).emb j))) = fun t => (owns (c : Thread nD τ) (qS t) fullShare (qv m t) : sProp 𝕄) from funext fun t => by rw [qF_at m t]]
  rw [bigSep_dev c]
  isplitl [Hc]; · iexact Hc
  isplitl [H3]; · iexact H3
  isplitl [H4]; · iexact H4
  iexact H5

/-! ## The rows of the sums and of the outputs -/

theorem oF_at (r : Fin 4) : (fun j => oF m c ((oR r).emb j)) = oB m c r 16 := funext fun j => by
  have h0 : (((oR r).emb j) 0).val = 0 + 1 * (j 0).val := rfl
  have h1 : (((oR r).emb j) 1).val = 64 * r.val + 1 * (j 1).val := rfl
  have h2 : (((oR r).emb j) 2).val = 0 + 1 * (j 2).val := rfl
  have hj : (j 1).val < 64 := (j 1).isLt
  have ho : oBlk ((oR r).emb j) = r := Fin.ext (by show (((oR r).emb j) 1).val / 64 = r.val; omega)
  have hi : oIx ((oR r).emb j) = j := funext fun a => by
    fin_cases a
    · exact Fin.ext (by show (((oR r).emb j) 0).val = _; rw [h0]; show _ = (j 0).val; omega)
    · exact Fin.ext (by show (((oR r).emb j) 1).val % 64 = _; rw [h1]; show _ = (j 1).val; omega)
    · exact Fin.ext (by show (((oR r).emb j) 2).val = _; rw [h2]; show _ = (j 2).val; omega)
  unfold oF
  rw [ho, hi]

theorem lF_at (r : Fin 4) : (fun j => lF m c ((lR r).emb j)) = lB m c r 16 := funext fun j => by
  have h0 : (((lR r).emb j) 0).val = 0 + 1 * (j 0).val := rfl
  have h1 : (((lR r).emb j) 1).val = 64 * r.val + 1 * (j 1).val := rfl
  have hj : (j 1).val < 64 := (j 1).isLt
  have ho : lBlk ((lR r).emb j) = r := Fin.ext (by show (((lR r).emb j) 1).val / 64 = r.val; omega)
  have hi : lIx ((lR r).emb j) = j := funext fun a => by
    fin_cases a
    · exact Fin.ext (by show (((lR r).emb j) 0).val = _; rw [h0]; show _ = (j 0).val; omega)
    · exact Fin.ext (by show (((lR r).emb j) 1).val % 64 = _; rw [h1]; show _ = (j 1).val; omega)
  unfold lF
  rw [ho, hi]

/-- Rows `r` of a cleared buffer of outputs are what they are before the first trip. -/
theorem split_o : (owns (c : Thread nD τ) oM fullShare (k0_pay16 (F := F)) : sProp 𝕄)
    ⊢ iprop(owns (c : Thread nD τ) (oM.slice (oR 0) (fun _ => rfl)) fullShare (oB m c 0 0) ∗ owns (c : Thread nD τ) (oM.slice (oR 1) (fun _ => rfl)) fullShare (oB m c 1 0)
      ∗ owns (c : Thread nD τ) (oM.slice (oR 2) (fun _ => rfl)) fullShare (oB m c 2 0) ∗ owns (c : Thread nD τ) (oM.slice (oR 3) (fun _ => rfl)) fullShare (oB m c 3 0)) :=
  (owns_rects (c : Thread nD τ) oM fullShare oR (fun _ _ => rfl) oR_disj oR_cover (k0_pay16 (F := F))).trans (Entails.of_eq bigSep_fin4)

theorem split_l : (owns (c : Thread nD τ) lM fullShare (k0_pay17 (F := F)) : sProp 𝕄)
    ⊢ iprop(owns (c : Thread nD τ) (lM.slice (lR 0) (fun _ => rfl)) fullShare (lB m c 0 0) ∗ owns (c : Thread nD τ) (lM.slice (lR 1) (fun _ => rfl)) fullShare (lB m c 1 0)
      ∗ owns (c : Thread nD τ) (lM.slice (lR 2) (fun _ => rfl)) fullShare (lB m c 2 0) ∗ owns (c : Thread nD τ) (lM.slice (lR 3) (fun _ => rfl)) fullShare (lB m c 3 0)) :=
  (owns_rects (c : Thread nD τ) lM fullShare lR (fun _ _ => rfl) lR_disj lR_cover (k0_pay17 (F := F))).trans (Entails.of_eq bigSep_fin4)

/-- After the last trip the rows make the outputs and the sums of all rows. -/
theorem join_o : iprop(owns (c : Thread nD τ) (oM.slice (oR 0) (fun _ => rfl)) fullShare (oB m c 0 16) ∗ owns (c : Thread nD τ) (oM.slice (oR 1) (fun _ => rfl)) fullShare (oB m c 1 16)
      ∗ owns (c : Thread nD τ) (oM.slice (oR 2) (fun _ => rfl)) fullShare (oB m c 2 16) ∗ owns (c : Thread nD τ) (oM.slice (oR 3) (fun _ => rfl)) fullShare (oB m c 3 16))
    ⊢ (owns (c : Thread nD τ) oM fullShare (oF m c) : sProp 𝕄) := by
  refine BIBase.Entails.trans ?_ (owns_of_rects (c : Thread nD τ) oM fullShare oR (fun _ _ => rfl) oR_disj oR_cover (oF m c))
  rw [show (fun t => owns (c : Thread nD τ) (oM.slice (oR t) (fun _ => rfl)) fullShare (fun j => oF m c ((oR t).emb j))) = fun t => (owns (c : Thread nD τ) (oM.slice (oR t) (fun _ => rfl)) fullShare (oB m c t 16) : sProp 𝕄) from funext fun t => by rw [oF_at m c t]]
  rw [bigSep_fin4]

theorem join_l : iprop(owns (c : Thread nD τ) (lM.slice (lR 0) (fun _ => rfl)) fullShare (lB m c 0 16) ∗ owns (c : Thread nD τ) (lM.slice (lR 1) (fun _ => rfl)) fullShare (lB m c 1 16)
      ∗ owns (c : Thread nD τ) (lM.slice (lR 2) (fun _ => rfl)) fullShare (lB m c 2 16) ∗ owns (c : Thread nD τ) (lM.slice (lR 3) (fun _ => rfl)) fullShare (lB m c 3 16))
    ⊢ (owns (c : Thread nD τ) lM fullShare (lF m c) : sProp 𝕄) := by
  refine BIBase.Entails.trans ?_ (owns_of_rects (c : Thread nD τ) lM fullShare lR (fun _ _ => rfl) lR_disj lR_cover (lF m c))
  rw [show (fun t => owns (c : Thread nD τ) (lM.slice (lR t) (fun _ => rfl)) fullShare (fun j => lF m c ((lR t).emb j))) = fun t => (owns (c : Thread nD τ) (lM.slice (lR t) (fun _ => rfl)) fullShare (lB m c t 16) : sProp 𝕄) from funext fun t => by rw [lF_at m c t]]
  rw [bigSep_fin4]

/-! ## The result's rows -/

theorem outF_at (h : Fin 4) : (fun j => outF m c ((paR h).emb j)) = outB m c h := funext fun j => by
  have h0 : (((paR h).emb j) 0).val = 64 * h.val + 1 * (j 0).val := rfl
  have h1 : (((paR h).emb j) 1).val = 0 + 1 * (j 1).val := rfl
  have hj : (j 0).val < 64 := (j 0).isLt
  have ho : paBlk ((paR h).emb j) = h := Fin.ext (by show (((paR h).emb j) 0).val / 64 = h.val; omega)
  have hi : paIx ((paR h).emb j) = j := funext fun a => by
    fin_cases a
    · exact Fin.ext (by show (((paR h).emb j) 0).val % 64 = _; rw [h0]; show _ = (j 0).val; omega)
    · exact Fin.ext (by show (((paR h).emb j) 1).val = _; rw [h1]; show _ = (j 1).val; omega)
  unfold outF
  rw [ho, hi]

theorem bk_ne : bk c 0 ≠ c ∧ bk c 1 ≠ c ∧ bk c 2 ≠ c ∧ bk c 1 ≠ bk c 0 ∧ bk c 2 ≠ bk c 0 ∧ bk c 2 ≠ bk c 1 := by revert c; decide

theorem outB_0 : outB m c c = red m c := if_pos rfl
theorem outB_1 : outB m c (bk c 0) = k0_pay36 (gsW m (bk c 0)) := by
  unfold outB; rw [if_neg (bk_ne c).1, if_pos rfl]
theorem outB_2 : outB m c (bk c 1) = k0_pay37 (gsW m (bk c 1)) := by
  unfold outB; rw [if_neg (bk_ne c).2.1, if_neg (bk_ne c).2.2.2.1, if_pos rfl]
theorem outB_3 : outB m c (bk c 2) = k0_pay38 (gsW m (bk c 2)) := by
  unfold outB; rw [if_neg (bk_ne c).2.2.1, if_neg (bk_ne c).2.2.2.2.1, if_neg (bk_ne c).2.2.2.2.2]

/-- The result's four row blocks, and the result they make. -/
abbrev outS (h : Fin 4) : Memref sig .tc .vmem S64x1024 .f32 := outM.slice (paR h) (fun _ => rfl)

theorem split_out : (anyAt c outM : sProp 𝕄) ⊢ iprop(anyAt c (outS c) ∗ anyAt c (outS (bk c 0)) ∗ anyAt c (outS (bk c 1)) ∗ anyAt c (outS (bk c 2))) :=
  (any_split c outM paR (fun _ _ => rfl) paR_disj paR_cover).trans (Entails.of_eq (bigSep_dev c _))

theorem join_out : iprop(owns (c : Thread nD τ) (outS c) fullShare (red m c) ∗ owns (c : Thread nD τ) (outS (bk c 0)) fullShare (k0_pay36 (gsW m (bk c 0)))
      ∗ owns (c : Thread nD τ) (outS (bk c 1)) fullShare (k0_pay37 (gsW m (bk c 1))) ∗ owns (c : Thread nD τ) (outS (bk c 2)) fullShare (k0_pay38 (gsW m (bk c 2))))
    ⊢ (owns (c : Thread nD τ) outM fullShare (outF m c) : sProp 𝕄) := by
  refine BIBase.Entails.trans ?_ (owns_of_rects (c : Thread nD τ) outM fullShare paR (fun _ _ => rfl) paR_disj paR_cover (outF m c))
  rw [show (fun t => owns (c : Thread nD τ) (outM.slice (paR t) (fun _ => rfl)) fullShare (fun j => outF m c ((paR t).emb j))) = fun t => (owns (c : Thread nD τ) (outS t) fullShare (outB m c t) : sProp 𝕄) from funext fun t => by rw [outF_at m c t]]
  rw [bigSep_dev c, outB_0, outB_1, outB_2, outB_3]

/-! ## The one piece of the reduced rows' buffer -/

theorem gs_emb (j : S1x64x1024.Idx) : gsR.emb j = j := funext fun a => Fin.ext (by
  fin_cases a <;> (show 0 + 1 * _ = _; omega))

theorem gs_disj (t t' : Fin 1) (h : t ≠ t') : Disjoint (gsR).set (gsR).set := absurd (Subsingleton.elim t t') h
theorem gs_cover : (Finset.univ : Finset (Fin 1)).biUnion (fun _ => gsR.set) = Finset.univ := by
  ext i
  simp only [Finset.mem_biUnion, Finset.mem_univ, true_and, iff_true]
  exact ⟨0, (gsR.map_emb_univ ▸ Finset.mem_map.mpr ⟨i, Finset.mem_univ _, gs_emb i⟩)⟩

theorem any_gs : (anyAt c gsM : sProp 𝕄) ⊢ anyAt c gsP :=
  (any_split c gsM (fun _ : Fin 1 => gsR) (fun _ _ => rfl) gs_disj gs_cover).trans (bigSep_elim (Finset.mem_univ 0))
theorem any_gs' : (anyAt c gsP : sProp 𝕄) ⊢ anyAt c gsM :=
  BIBase.Entails.trans (Entails.of_eq (by rw [show (Finset.univ : Finset (Fin 1)) = {0} from rfl, bigSep_singleton])) (any_join c gsM (fun _ : Fin 1 => gsR) (fun _ _ => rfl) gs_disj gs_cover)

/-! ## Steps over the values' names -/

theorem keep (P : sProp 𝕄) : P ⊢ P := entails_refl P
theorem ret_eq {α : Type} {Q : α → sProp 𝕄} {a b : α} (h : a = b) : Q b ⊢ WP c Q (Prog.ret a) := by subst h; exact ret_step c a

/-- A load of eight heads of the outputs, -/
theorem load_oH {α : Type} {Q : α → sProp 𝕄} (h : Fin 4) {off : Fin 3 → ℕ} {p : ∀ a, off a + S8x256x128.size a ≤ S32x256x128.size a} {hl} (hoff : off = ![8 * h.val, 0, 0]) {k : Vec F S8x256x128 .f32 → Prog (TpuEff nD τ sig (Elt F) Λ₀ .tc) α} :
    (owns (c : Thread nD τ) oM fullShare (oF m c) : sProp 𝕄)
      ⊢ iprop((owns (c : Thread nD τ) oM fullShare (oF m c) -∗ WP c Q (k (oH m c h))) -∗ WP c Q (.op (.load oM (Rect.unit (s := S32x256x128) off S8x256x128.size p).toLoadRect hl) k)) := by
  subst hoff
  have H := load_sub (Q := Q) c (M := oM) (r := Rect.unit (s := S32x256x128) ![8 * h.val, 0, 0] S8x256x128.size p) (hl := hl) (q := fullShare) (oF m c) (k := k)
  exact H
/-- of the sums, -/
theorem load_lH {α : Type} {Q : α → sProp 𝕄} (h : Fin 4) {off : Fin 2 → ℕ} {p : ∀ a, off a + S8x256.size a ≤ S32x256.size a} {hl} (hoff : off = ![8 * h.val, 0]) {k : Vec F S8x256 .f32 → Prog (TpuEff nD τ sig (Elt F) Λ₀ .tc) α} :
    (owns (c : Thread nD τ) lM fullShare (lF m c) : sProp 𝕄)
      ⊢ iprop((owns (c : Thread nD τ) lM fullShare (lF m c) -∗ WP c Q (k (lH m c h))) -∗ WP c Q (.op (.load lM (Rect.unit (s := S32x256) off S8x256.size p).toLoadRect hl) k)) := by
  subst hoff
  have H := load_sub (Q := Q) c (M := lM) (r := Rect.unit (s := S32x256) ![8 * h.val, 0] S8x256.size p) (hl := hl) (q := fullShare) (lF m c) (k := k)
  exact H
/-- and of a row block of the product. -/
theorem load_parR {α : Type} {Q : α → sProp 𝕄} (h : Fin 4) {off : Fin 2 → ℕ} {p : ∀ a, off a + S64x1024.size a ≤ S256x1024.size a} {hl} (hoff : off = ![64 * h.val, 0]) {k : Vec F S64x1024 .f32 → Prog (TpuEff nD τ sig (Elt F) Λ₀ .tc) α} :
    (owns (c : Thread nD τ) paM fullShare (par m c) : sProp 𝕄)
      ⊢ iprop((owns (c : Thread nD τ) paM fullShare (par m c) -∗ WP c Q (k (parR m c h))) -∗ WP c Q (.op (.load paM (Rect.unit (s := S256x1024) off S64x1024.size p).toLoadRect hl) k)) := by
  subst hoff
  have H := load_sub (Q := Q) c (M := paM) (r := Rect.unit (s := S256x1024) ![64 * h.val, 0] S64x1024.size p) (hl := hl) (q := fullShare) (par m c) (k := k)
  exact H

end

end Cert.Quad
end
-- ==== Proof.Parts2.lean ====
/-
The middle parts of the body: the key blocks, and the exchange of the outputs and sums.
-/
module

public import proofs.«01_k».proof.Proof.Loop
public import proofs.«01_k».proof.Proof.Joins

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (K : Dev nD × CIx → ℕ) (c : Dev nD)

/-- The third query slice is sent and has landed; the sums are cleared, all sixteen key blocks are passed, and the outputs for
the next device are staged. -/
theorem part9 (v4 : BitVec 32) (v8 : BitVec 32) {Q : _ → sProp 𝕄} :
    recs m K ⊢ iprop(levAts L lv -∗ sndPay m c 0 0 -∗ sndPay m c 0 1 -∗ rcvPay m c 0 0 -∗ rcvPay m c 0 1 -∗ owe c 6 -∗ mid c 0 2 -∗ anyAt c oM -∗ anyAt c lM -∗ slots m c false 0 -∗ slots m c true 0 -∗ anyAt c (soP 0) -∗ (∀ v147, (owe c 6 ∗ fin c 0 2 ∗ owns (c : Thread nD τ) oM fullShare (oF m c) ∗ owns (c : Thread nD τ) lM fullShare (lF m c) ∗ slots m c false 16 ∗ slots m c true 16 ∗ owns (c : Thread nD τ) qM fullShare (qF m) ∗ owns (c : Thread nD τ) (soP 0) fullShare (soW m c 0)) -∗ Q v147)
      -∗ WP c Q (k0_part9 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v8)) := by
  rw [k0_part9_eq_skeleton]; unfold k0_part9_skel
  simp only [semSignalWord, semWaitWord, Prog.lift, Prog.bind_op, Prog.bind_ret, Prog.pure_eq_ret, wp_deviceId]
  iintro #HR #HL Hs00 Hs01 HL00 HL01 HO HP02 Ho Hl Hk0 Hv0 Hs10 Hk
  iapply (wait_snd m K c 0 2 6 (by decide) rfl (credit0 _)) $$ HR HL HO HP02; iintro ⟨HO, HP02, Hs02⟩
  iapply (wait_rcv m K c 0 2 6 (by decide) rfl (credit0 _)) $$ HR HL HO HP02; iintro ⟨HO, HP02, HL02⟩
  icases Ho with ⟨%XHo, Ho⟩
  iapply (load_all c _) $$ Ho; iintro Ho
  iapply (store_all c _) $$ Ho; iintro Ho
  ihave Ho := (keep (owns (c : Thread nD τ) oM fullShare (k0_pay16 (F := F)))) $$ [Ho]
  · iexact Ho
  icases Hl with ⟨%XHl, Hl⟩
  iapply (load_all c _) $$ Hl; iintro Hl
  iapply (store_all c _) $$ Hl; iintro Hl
  ihave Hl := (keep (owns (c : Thread nD τ) lM fullShare (k0_pay17 (F := F)))) $$ [Hl]
  · iexact Hl
  ihave HQ := (join_q m c) $$ [Hs00 Hs01 Hs02 HL00 HL01 HL02]
  · isplitl [Hs00]; · iexact Hs00
    isplitl [Hs01]; · iexact Hs01
    isplitl [Hs02]; · iexact Hs02
    isplitl [HL00]; · iexact HL00
    isplitl [HL01]; · iexact HL01
    iexact HL02
  ihave Ho := (split_o m c) $$ Ho; icases Ho with ⟨Ho0, Ho1, Ho2, Ho3⟩
  ihave Hl := (split_l m c) $$ Hl; icases Hl with ⟨Hl0, Hl1, Hl2, Hl3⟩
  iapply (loop m K c v4 v8) $$ [HO HQ Hl0 Hl1 Hl2 Hl3 Ho0 Ho1 Ho2 Ho3 Hk0 Hv0]
  · unfold inv rows
    isplitr; · iexact HR
    isplitr; · iexact HL
    isplitl [HO]; · iexact HO
    isplitl [HQ]; · iexact HQ
    isplitl [Hl0 Hl1 Hl2 Hl3 Ho0 Ho1 Ho2 Ho3]
    · isplitl [Hl0]; · iexact Hl0
      isplitl [Hl1]; · iexact Hl1
      isplitl [Hl2]; · iexact Hl2
      isplitl [Hl3]; · iexact Hl3
      isplitl [Ho0]; · iexact Ho0
      isplitl [Ho1]; · iexact Ho1
      isplitl [Ho2]; · iexact Ho2
      iexact Ho3
    isplitl [Hk0]; · iexact Hk0
    iexact Hv0
  iintro HI; unfold inv rows; icases HI with ⟨-, -, HO, HQ, ⟨Hl0, Hl1, Hl2, Hl3, Ho0, Ho1, Ho2, Ho3⟩, Hk0, Hv0⟩
  ihave Ho := (join_o m c) $$ [Ho0 Ho1 Ho2 Ho3]
  · isplitl [Ho0]; · iexact Ho0
    isplitl [Ho1]; · iexact Ho1
    isplitl [Ho2]; · iexact Ho2
    iexact Ho3
  ihave Hl := (join_l m c) $$ [Hl0 Hl1 Hl2 Hl3]
  · isplitl [Hl0]; · iexact Hl0
    isplitl [Hl1]; · iexact Hl1
    isplitl [Hl2]; · iexact Hl2
    iexact Hl3
  iapply (load_oH m c (sh c 1) (k0_off10_eq c 0)) $$ Ho; iintro Ho
  icases Hs10 with ⟨%XHs10, Hs10⟩
  iapply (load_piece c rfl _) $$ Hs10; iintro Hs10
  iapply (store_piece c rfl _) $$ Hs10; iintro Hs10
  ihave Hs10 := (keep (owns (c : Thread nD τ) (soP 0) fullShare (soW m c 0))) $$ [Hs10]
  · iexact Hs10
  iapply (ret_step c _); iapply Hk
  isplitl [HO]; · iexact HO
  isplitl [HP02]; · iexact HP02
  isplitl [Ho]; · iexact Ho
  isplitl [Hl]; · iexact Hl
  isplitl [Hk0]; · iexact Hk0
  isplitl [Hv0]; · iexact Hv0
  isplitl [HQ]; · iexact HQ
  iexact Hs10

/-- The sums for the next device are staged, and both go to it. -/
theorem part10 (v4 : BitVec 32) (v6 : BitVec 32) (v147 : BitVec 32) {Q : _ → sProp 𝕄} :
    recs m K ⊢ iprop(levAts L lv -∗ owns (c : Thread nD τ) lM fullShare (lF m c) -∗ anyAt c (slP 0) -∗ owe c 6 -∗ owns (c : Thread nD τ) (soP 0) fullShare (soW m c 0) -∗ anyAt (sh c ((0 : Fin 3).val + 1)) (coS 0) -∗ pre c 1 0 -∗ anyAt (sh c ((0 : Fin 3).val + 1)) (clS 0) -∗ pre c 2 0 -∗ ((owns (c : Thread nD τ) lM fullShare (lF m c) ∗ owe c 8 ∗ mid c 1 0 ∗ mid c 2 0) -∗ Q ⟨⟩)
      -∗ WP c Q (k0_part10 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v6 v147)) := by
  rw [k0_part10_eq_skeleton]; unfold k0_part10_skel
  simp only [semSignalWord, semWaitWord, Prog.lift, Prog.bind_op, Prog.bind_ret, Prog.pure_eq_ret, wp_deviceId]
  iintro #HR #HL Hl Hs20 HO Hs10 HD10 HP10 HD20 HP20 Hk
  iapply (load_lH m c (sh c 1) (k0_off11_eq c 0)) $$ Hl; iintro Hl
  icases Hs20 with ⟨%XHs20, Hs20⟩
  iapply (load_piece c rfl _) $$ Hs20; iintro Hs20
  iapply (store_piece c rfl _) $$ Hs20; iintro Hs20
  ihave Hs20 := (keep (owns (c : Thread nD τ) (slP 0) fullShare (slW m c 0))) $$ [Hs20]
  · iexact Hs20
  iapply (send1 m K c 0 6 (dev7_sh c) debts_6 rfl rfl) $$ HR Hs10 HD10 HO HP10; iintro ⟨HO, HP10⟩
  iapply (send2 m K c 0 7 (dev8_sh c) debts_7 rfl rfl) $$ HR Hs20 HD20 HO HP20; iintro ⟨HO, HP20⟩
  iapply (ret_step c _); iapply Hk
  isplitl [Hl]; · iexact Hl
  isplitl [HO]; · iexact HO
  isplitl [HP10]; · iexact HP10
  iexact HP20

/-- The outputs and sums for the second next device are staged, and the outputs go to it. -/
theorem part11 (v6 : BitVec 32) {Q : _ → sProp 𝕄} :
    recs m K ⊢ iprop(levAts L lv -∗ owns (c : Thread nD τ) oM fullShare (oF m c) -∗ anyAt c (soP 1) -∗ owns (c : Thread nD τ) lM fullShare (lF m c) -∗ anyAt c (slP 1) -∗ owe c 8 -∗ anyAt (sh c ((1 : Fin 3).val + 1)) (coS 1) -∗ pre c 1 1 -∗ ((owns (c : Thread nD τ) oM fullShare (oF m c) ∗ owns (c : Thread nD τ) lM fullShare (lF m c) ∗ owns (c : Thread nD τ) (slP 1) fullShare (slW m c 1) ∗ owe c 9 ∗ mid c 1 1) -∗ Q ⟨⟩)
      -∗ WP c Q (k0_part11 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v6)) := by
  rw [k0_part11_eq_skeleton]; unfold k0_part11_skel
  simp only [semSignalWord, semWaitWord, Prog.lift, Prog.bind_op, Prog.bind_ret, Prog.pure_eq_ret, wp_deviceId]
  iintro #HR #HL Ho Hs11 Hl Hs21 HO HD11 HP11 Hk
  iapply (load_oH m c (sh c 2) (k0_off10_eq c 1)) $$ Ho; iintro Ho
  icases Hs11 with ⟨%XHs11, Hs11⟩
  iapply (load_piece c rfl _) $$ Hs11; iintro Hs11
  iapply (store_piece c rfl _) $$ Hs11; iintro Hs11
  ihave Hs11 := (keep (owns (c : Thread nD τ) (soP 1) fullShare (soW m c 1))) $$ [Hs11]
  · iexact Hs11
  iapply (load_lH m c (sh c 2) (k0_off11_eq c 1)) $$ Hl; iintro Hl
  icases Hs21 with ⟨%XHs21, Hs21⟩
  iapply (load_piece c rfl _) $$ Hs21; iintro Hs21
  iapply (store_piece c rfl _) $$ Hs21; iintro Hs21
  ihave Hs21 := (keep (owns (c : Thread nD τ) (slP 1) fullShare (slW m c 1))) $$ [Hs21]
  · iexact Hs21
  iapply (send1 m K c 1 8 (dev9_sh c) debts_8 rfl rfl) $$ HR Hs11 HD11 HO HP11; iintro ⟨HO, HP11⟩
  iapply (ret_step c _); iapply Hk
  isplitl [Ho]; · iexact Ho
  isplitl [Hl]; · iexact Hl
  isplitl [Hs21]; · iexact Hs21
  isplitl [HO]; · iexact HO
  iexact HP11

/-- The sums go to the second next device; the outputs and sums for the third are staged, and the outputs go to it. -/
theorem part12 (v8 : BitVec 32) {Q : _ → sProp 𝕄} :
    recs m K ⊢ iprop(levAts L lv -∗ owe c 9 -∗ owns (c : Thread nD τ) (slP 1) fullShare (slW m c 1) -∗ anyAt (sh c ((1 : Fin 3).val + 1)) (clS 1) -∗ pre c 2 1 -∗ owns (c : Thread nD τ) oM fullShare (oF m c) -∗ anyAt c (soP 2) -∗ owns (c : Thread nD τ) lM fullShare (lF m c) -∗ anyAt c (slP 2) -∗ anyAt (sh c ((2 : Fin 3).val + 1)) (coS 2) -∗ pre c 1 2 -∗ ((owe c 11 ∗ mid c 2 1 ∗ owns (c : Thread nD τ) oM fullShare (oF m c) ∗ owns (c : Thread nD τ) lM fullShare (lF m c) ∗ owns (c : Thread nD τ) (slP 2) fullShare (slW m c 2) ∗ mid c 1 2) -∗ Q ⟨⟩)
      -∗ WP c Q (k0_part12 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v8)) := by
  rw [k0_part12_eq_skeleton]; unfold k0_part12_skel
  simp only [semSignalWord, semWaitWord, Prog.lift, Prog.bind_op, Prog.bind_ret, Prog.pure_eq_ret, wp_deviceId]
  iintro #HR #HL HO Hs21 HD21 HP21 Ho Hs12 Hl Hs22 HD12 HP12 Hk
  iapply (send2 m K c 1 9 (dev10_sh c) debts_9 rfl rfl) $$ HR Hs21 HD21 HO HP21; iintro ⟨HO, HP21⟩
  iapply (load_oH m c (sh c 3) (k0_off10_eq c 2)) $$ Ho; iintro Ho
  icases Hs12 with ⟨%XHs12, Hs12⟩
  iapply (load_piece c rfl _) $$ Hs12; iintro Hs12
  iapply (store_piece c rfl _) $$ Hs12; iintro Hs12
  ihave Hs12 := (keep (owns (c : Thread nD τ) (soP 2) fullShare (soW m c 2))) $$ [Hs12]
  · iexact Hs12
  iapply (load_lH m c (sh c 3) (k0_off11_eq c 2)) $$ Hl; iintro Hl
  icases Hs22 with ⟨%XHs22, Hs22⟩
  iapply (load_piece c rfl _) $$ Hs22; iintro Hs22
  iapply (store_piece c rfl _) $$ Hs22; iintro Hs22
  ihave Hs22 := (keep (owns (c : Thread nD τ) (slP 2) fullShare (slW m c 2))) $$ [Hs22]
  · iexact Hs22
  iapply (send1 m K c 2 10 (dev11_sh c) debts_10 rfl rfl) $$ HR Hs12 HD12 HO HP12; iintro ⟨HO, HP12⟩
  iapply (ret_step c _); iapply Hk
  isplitl [HO]; · iexact HO
  isplitl [HP21]; · iexact HP21
  isplitl [Ho]; · iexact Ho
  isplitl [Hl]; · iexact Hl
  isplitl [Hs22]; · iexact Hs22
  iexact HP12

/-- The last sums go out; the first outputs are sent and have landed. -/
theorem part13 (v4 : BitVec 32) (v8 : BitVec 32) {Q : _ → sProp 𝕄} :
    recs m K ⊢ iprop(levAts L lv -∗ owe c 11 -∗ owns (c : Thread nD τ) (slP 2) fullShare (slW m c 2) -∗ anyAt (sh c ((2 : Fin 3).val + 1)) (clS 2) -∗ pre c 2 2 -∗ mid c 1 0 -∗ ((owe c 12 ∗ mid c 2 2 ∗ sndPay m c 1 0 ∗ fin c 1 0 ∗ rcvPay m c 1 0) -∗ Q ⟨⟩)
      -∗ WP c Q (k0_part13 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v8)) := by
  rw [k0_part13_eq_skeleton]; unfold k0_part13_skel
  simp only [semSignalWord, semWaitWord, Prog.lift, Prog.bind_op, Prog.bind_ret, Prog.pure_eq_ret, wp_deviceId]
  iintro #HR #HL HO Hs22 HD22 HP22 HP10 Hk
  iapply (send2 m K c 2 11 (dev12_sh c) debts_11 rfl rfl) $$ HR Hs22 HD22 HO HP22; iintro ⟨HO, HP22⟩
  iapply (wait_snd m K c 1 0 12 (by decide) rfl (credit1 _)) $$ HR HL HO HP10; iintro ⟨HO, HP10, Hs10⟩
  iapply (wait_rcv m K c 1 0 12 (by decide) rfl (credit1 _)) $$ HR HL HO HP10; iintro ⟨HO, HP10, HL10⟩
  iapply (ret_step c _); iapply Hk
  isplitl [HO]; · iexact HO
  isplitl [HP22]; · iexact HP22
  isplitl [Hs10]; · iexact Hs10
  isplitl [HP10]; · iexact HP10
  iexact HL10

/-- The first sums are sent and have landed; the second outputs are sent. -/
theorem part14 (v4 : BitVec 32) (v6 : BitVec 32) {Q : _ → sProp 𝕄} :
    recs m K ⊢ iprop(levAts L lv -∗ owe c 12 -∗ mid c 2 0 -∗ mid c 1 1 -∗ ((owe c 12 ∗ sndPay m c 2 0 ∗ fin c 2 0 ∗ rcvPay m c 2 0 ∗ snt c 1 1 ∗ sndPay m c 1 1) -∗ Q ⟨⟩)
      -∗ WP c Q (k0_part14 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 v4 v6)) := by
  rw [k0_part14_eq_skeleton]; unfold k0_part14_skel
  simp only [semSignalWord, semWaitWord, Prog.lift, Prog.bind_op, Prog.bind_ret, Prog.pure_eq_ret, wp_deviceId]
  iintro #HR #HL HO HP20 HP11 Hk
  iapply (wait_snd m K c 2 0 12 (by decide) rfl (credit2 _)) $$ HR HL HO HP20; iintro ⟨HO, HP20, Hs20⟩
  iapply (wait_rcv m K c 2 0 12 (by decide) rfl (credit2 _)) $$ HR HL HO HP20; iintro ⟨HO, HP20, HL20⟩
  iapply (wait_snd m K c 1 1 12 (by decide) rfl (credit1 _)) $$ HR HL HO HP11; iintro ⟨HO, HP11, Hs11⟩
  iapply (ret_step c _); iapply Hk
  isplitl [HO]; · iexact HO
  isplitl [Hs20]; · iexact Hs20
  isplitl [HP20]; · iexact HP20
  isplitl [HL20]; · iexact HL20
  isplitl [HP11]; · iexact HP11
  iexact Hs11

/-- The second outputs have landed; the second sums are sent and have landed. -/
theorem part15 (v6 : BitVec 32) {Q : _ → sProp 𝕄} :
    recs m K ⊢ iprop(levAts L lv -∗ owe c 12 -∗ snt c 1 1 -∗ mid c 2 1 -∗ ((owe c 12 ∗ fin c 1 1 ∗ rcvPay m c 1 1 ∗ sndPay m c 2 1 ∗ fin c 2 1 ∗ rcvPay m c 2 1) -∗ Q ⟨⟩)
      -∗ WP c Q (k0_part15 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 v6)) := by
  rw [k0_part15_eq_skeleton]; unfold k0_part15_skel
  simp only [semSignalWord, semWaitWord, Prog.lift, Prog.bind_op, Prog.bind_ret, Prog.pure_eq_ret, wp_deviceId]
  iintro #HR #HL HO HP11 HP21 Hk
  iapply (wait_rcv m K c 1 1 12 (by decide) rfl (credit1 _)) $$ HR HL HO HP11; iintro ⟨HO, HP11, HL11⟩
  iapply (wait_snd m K c 2 1 12 (by decide) rfl (credit2 _)) $$ HR HL HO HP21; iintro ⟨HO, HP21, Hs21⟩
  iapply (wait_rcv m K c 2 1 12 (by decide) rfl (credit2 _)) $$ HR HL HO HP21; iintro ⟨HO, HP21, HL21⟩
  iapply (ret_step c _); iapply Hk
  isplitl [HO]; · iexact HO
  isplitl [HP11]; · iexact HP11
  isplitl [HL11]; · iexact HL11
  isplitl [Hs21]; · iexact Hs21
  isplitl [HP21]; · iexact HP21
  iexact HL21

/-- The third outputs are sent and have landed; the third sums are sent. -/
theorem part16 (v8 : BitVec 32) {Q : _ → sProp 𝕄} :
    recs m K ⊢ iprop(levAts L lv -∗ owe c 12 -∗ mid c 1 2 -∗ mid c 2 2 -∗ ((owe c 12 ∗ sndPay m c 1 2 ∗ fin c 1 2 ∗ rcvPay m c 1 2 ∗ snt c 2 2 ∗ sndPay m c 2 2) -∗ Q ⟨⟩)
      -∗ WP c Q (k0_part16 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 v8)) := by
  rw [k0_part16_eq_skeleton]; unfold k0_part16_skel
  simp only [semSignalWord, semWaitWord, Prog.lift, Prog.bind_op, Prog.bind_ret, Prog.pure_eq_ret, wp_deviceId]
  iintro #HR #HL HO HP12 HP22 Hk
  iapply (wait_snd m K c 1 2 12 (by decide) rfl (credit1 _)) $$ HR HL HO HP12; iintro ⟨HO, HP12, Hs12⟩
  iapply (wait_rcv m K c 1 2 12 (by decide) rfl (credit1 _)) $$ HR HL HO HP12; iintro ⟨HO, HP12, HL12⟩
  iapply (wait_snd m K c 2 2 12 (by decide) rfl (credit2 _)) $$ HR HL HO HP22; iintro ⟨HO, HP22, Hs22⟩
  iapply (ret_step c _); iapply Hk
  isplitl [HO]; · iexact HO
  isplitl [Hs12]; · iexact Hs12
  isplitl [HP12]; · iexact HP12
  isplitl [HL12]; · iexact HL12
  isplitl [HP22]; · iexact HP22
  iexact Hs22

/-- The third sums have landed, and the attention outputs of the device's heads are made. -/
theorem part17 (v2 : BitVec 32) {Q : _ → sProp 𝕄} :
    recs m K ⊢ iprop(levAts L lv -∗ owe c 12 -∗ snt c 2 2 -∗ owns (c : Thread nD τ) oM fullShare (oF m c) -∗ rcvPay m c 1 0 -∗ rcvPay m c 1 1 -∗ rcvPay m c 1 2 -∗ owns (c : Thread nD τ) lM fullShare (lF m c) -∗ rcvPay m c 2 0 -∗ rcvPay m c 2 1 -∗ ((owe c 12 ∗ fin c 2 2 ∗ owns (c : Thread nD τ) (clP 2) fullShare (slW m (bk c 2) 2) ∗ owns (c : Thread nD τ) oM fullShare (oF m c) ∗ owns (c : Thread nD τ) (coP 0) fullShare (soW m (bk c 0) 0) ∗ owns (c : Thread nD τ) (coP 1) fullShare (soW m (bk c 1) 1) ∗ owns (c : Thread nD τ) (coP 2) fullShare (soW m (bk c 2) 2) ∗ owns (c : Thread nD τ) lM fullShare (lF m c) ∗ owns (c : Thread nD τ) (clP 0) fullShare (slW m (bk c 0) 0) ∗ owns (c : Thread nD τ) (clP 1) fullShare (slW m (bk c 1) 1)) -∗ Q (att m c))
      -∗ WP c Q (k0_part17 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v2)) := by
  rw [k0_part17_eq_skeleton]; unfold k0_part17_skel
  simp only [semSignalWord, semWaitWord, Prog.lift, Prog.bind_op, Prog.bind_ret, Prog.pure_eq_ret, wp_deviceId]
  iintro #HR #HL HO HP22 Ho HL10 HL11 HL12 Hl HL20 HL21 Hk
  iapply (wait_rcv m K c 2 2 12 (by decide) rfl (credit2 _)) $$ HR HL HO HP22; iintro ⟨HO, HP22, HL22⟩
  iapply (load_oH m c c (k0_off1_eq c)) $$ Ho; iintro Ho
  ihave HL10 := (Entails.of_eq (rcv1_eq m c 0)) $$ HL10
  iapply (load_piece c rfl _) $$ HL10; iintro HL10
  ihave HL11 := (Entails.of_eq (rcv1_eq m c 1)) $$ HL11
  iapply (load_piece c rfl _) $$ HL11; iintro HL11
  ihave HL12 := (Entails.of_eq (rcv1_eq m c 2)) $$ HL12
  iapply (load_piece c rfl _) $$ HL12; iintro HL12
  iapply (load_lH m c c (k0_off12_eq c)) $$ Hl; iintro Hl
  ihave HL20 := (Entails.of_eq (rcv2_eq m c 0)) $$ HL20
  iapply (load_piece c rfl _) $$ HL20; iintro HL20
  ihave HL21 := (Entails.of_eq (rcv2_eq m c 1)) $$ HL21
  iapply (load_piece c rfl _) $$ HL21; iintro HL21
  ihave HL22 := (Entails.of_eq (rcv2_eq m c 2)) $$ HL22
  iapply (load_piece c rfl _) $$ HL22; iintro HL22
  iapply (ret_eq c (show k0_pay26 (oH m c c) (soW m (bk c 0) 0) (soW m (bk c 1) 1) (soW m (bk c 2) 2) (lH m c c) (slW m (bk c 0) 0) (slW m (bk c 1) 1) (slW m (bk c 2) 2) = att m c from rfl)); iapply Hk
  isplitl [HO]; · iexact HO
  isplitl [HP22]; · iexact HP22
  isplitl [HL22]; · iexact HL22
  isplitl [Ho]; · iexact Ho
  isplitl [HL10]; · iexact HL10
  isplitl [HL11]; · iexact HL11
  isplitl [HL12]; · iexact HL12
  isplitl [Hl]; · iexact Hl
  isplitl [HL20]; · iexact HL20
  iexact HL21

end

end Cert.Quad
end
-- ==== Proof.Parts3.lean ====
/-
The last parts of the body: the product with the output weights, and the exchange and the sum of its row blocks.
-/
module

public import proofs.«01_k».proof.Proof.Joins

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (K : Dev nD × CIx → ℕ) (c : Dev nD)

/-- The product with the output weights is made, its first row block is staged and sent, and the second is read. -/
theorem part18 (v4 : BitVec 32) (v6 : BitVec 32) {Q : _ → sProp 𝕄} :
    recs m K ⊢ iprop(levAts L lv -∗ owns (c : Thread nD τ) woM fullShare (wov m c) -∗ anyAt c paM -∗ anyAt c (asP 0) -∗ owe c 12 -∗ anyAt (sh c ((0 : Fin 3).val + 1)) (arS 0) -∗ pre c 3 0 -∗ anyAt c (asP 1) -∗ (∀ v390, (owns (c : Thread nD τ) woM fullShare (wov m c) ∗ owns (c : Thread nD τ) paM fullShare (par m c) ∗ owe c 13 ∗ mid c 3 0 ∗ anyAt c (asP 1)) -∗ Q ⟨k0_pay29 (parR m c (sh c 2)), v390⟩)
      -∗ WP c Q (k0_part18 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v6 (att m c))) := by
  rw [k0_part18_eq_skeleton]; unfold k0_part18_skel
  simp only [semSignalWord, semWaitWord, Prog.lift, Prog.bind_op, Prog.bind_ret, Prog.pure_eq_ret, wp_deviceId]
  iintro #HR #HL Hwo Hpa Hs30 HO HD30 HP30 Hs31 Hk
  iapply (load_all c _) $$ Hwo; iintro Hwo
  icases Hpa with ⟨%XHpa, Hpa⟩
  iapply (load_all c _) $$ Hpa; iintro Hpa
  iapply (store_all c _) $$ Hpa; iintro Hpa
  ihave Hpa := (keep (owns (c : Thread nD τ) paM fullShare (par m c))) $$ [Hpa]
  · iexact Hpa
  iapply (load_parR m c (sh c 1) (k0_off13_eq c 0)) $$ Hpa; iintro Hpa
  icases Hs30 with ⟨%XHs30, Hs30⟩
  iapply (load_piece c rfl _) $$ Hs30; iintro Hs30
  iapply (store_piece c rfl _) $$ Hs30; iintro Hs30
  ihave Hs30 := (keep (owns (c : Thread nD τ) (asP 0) fullShare (asW m c 0))) $$ [Hs30]
  · iexact Hs30
  iapply (send3 m K c 0 12 (dev13_sh c) debts_12 rfl rfl) $$ HR Hs30 HD30 HO HP30; iintro ⟨HO, HP30⟩
  iapply (load_parR m c (sh c 2) (k0_off13_eq c 1)) $$ Hpa; iintro Hpa
  icases Hs31 with ⟨%XHs31, Hs31⟩
  iapply (load_piece c rfl _) $$ Hs31; iintro Hs31
  ihave Hs31 := (any_intro c _ _) $$ Hs31
  iapply (ret_step c _); iapply Hk
  isplitl [Hwo]; · iexact Hwo
  isplitl [Hpa]; · iexact Hpa
  isplitl [HO]; · iexact HO
  isplitl [HP30]; · iexact HP30
  iexact Hs31

/-- The second row block is staged and sent, and then the third. -/
theorem part19 (v6 : BitVec 32) (v8 : BitVec 32) (v390 : Vec F S1x64x1024 .bf16) {Q : _ → sProp 𝕄} :
    recs m K ⊢ iprop(levAts L lv -∗ anyAt c (asP 1) -∗ owe c 13 -∗ anyAt (sh c ((1 : Fin 3).val + 1)) (arS 1) -∗ pre c 3 1 -∗ owns (c : Thread nD τ) paM fullShare (par m c) -∗ anyAt c (asP 2) -∗ anyAt (sh c ((2 : Fin 3).val + 1)) (arS 2) -∗ pre c 3 2 -∗ ((owe c 15 ∗ mid c 3 1 ∗ owns (c : Thread nD τ) paM fullShare (par m c) ∗ mid c 3 2) -∗ Q ⟨⟩)
      -∗ WP c Q (k0_part19 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v6 v8 (k0_pay29 (parR m c (sh c 2))) v390)) := by
  rw [k0_part19_eq_skeleton]; unfold k0_part19_skel
  simp only [semSignalWord, semWaitWord, Prog.lift, Prog.bind_op, Prog.bind_ret, Prog.pure_eq_ret, wp_deviceId]
  iintro #HR #HL Hs31 HO HD31 HP31 Hpa Hs32 HD32 HP32 Hk
  icases Hs31 with ⟨%XHs31, Hs31⟩
  iapply (store_piece c rfl _) $$ Hs31; iintro Hs31
  ihave Hs31 := (keep (owns (c : Thread nD τ) (asP 1) fullShare (asW m c 1))) $$ [Hs31]
  · iexact Hs31
  iapply (send3 m K c 1 13 (dev14_sh c) debts_13 rfl rfl) $$ HR Hs31 HD31 HO HP31; iintro ⟨HO, HP31⟩
  iapply (load_parR m c (sh c 3) (k0_off13_eq c 2)) $$ Hpa; iintro Hpa
  icases Hs32 with ⟨%XHs32, Hs32⟩
  iapply (load_piece c rfl _) $$ Hs32; iintro Hs32
  iapply (store_piece c rfl _) $$ Hs32; iintro Hs32
  ihave Hs32 := (keep (owns (c : Thread nD τ) (asP 2) fullShare (asW m c 2))) $$ [Hs32]
  · iexact Hs32
  iapply (send3 m K c 2 14 (dev15_sh c) debts_14 rfl rfl) $$ HR Hs32 HD32 HO HP32; iintro ⟨HO, HP32⟩
  iapply (ret_step c _); iapply Hk
  isplitl [HO]; · iexact HO
  isplitl [HP31]; · iexact HP31
  isplitl [Hpa]; · iexact Hpa
  iexact HP32

/-- The first row block is sent and has landed; the second is sent. -/
theorem part20 (v4 : BitVec 32) (v6 : BitVec 32) {Q : _ → sProp 𝕄} :
    recs m K ⊢ iprop(levAts L lv -∗ owe c 15 -∗ mid c 3 0 -∗ mid c 3 1 -∗ ((owe c 15 ∗ sndPay m c 3 0 ∗ fin c 3 0 ∗ rcvPay m c 3 0 ∗ snt c 3 1 ∗ sndPay m c 3 1) -∗ Q ⟨⟩)
      -∗ WP c Q (k0_part20 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 v4 v6)) := by
  rw [k0_part20_eq_skeleton]; unfold k0_part20_skel
  simp only [semSignalWord, semWaitWord, Prog.lift, Prog.bind_op, Prog.bind_ret, Prog.pure_eq_ret, wp_deviceId]
  iintro #HR #HL HO HP30 HP31 Hk
  iapply (wait_snd m K c 3 0 15 (by decide) rfl (credit3 _)) $$ HR HL HO HP30; iintro ⟨HO, HP30, Hs30⟩
  iapply (wait_rcv m K c 3 0 15 (by decide) rfl (credit3 _)) $$ HR HL HO HP30; iintro ⟨HO, HP30, HL30⟩
  iapply (wait_snd m K c 3 1 15 (by decide) rfl (credit3 _)) $$ HR HL HO HP31; iintro ⟨HO, HP31, Hs31⟩
  iapply (ret_step c _); iapply Hk
  isplitl [HO]; · iexact HO
  isplitl [Hs30]; · iexact Hs30
  isplitl [HP30]; · iexact HP30
  isplitl [HL30]; · iexact HL30
  isplitl [HP31]; · iexact HP31
  iexact Hs31

/-- The second row block has landed, the third is sent and has landed; the device's own and the first two are read. -/
theorem part21 (v2 : BitVec 32) (v8 : BitVec 32) {Q : _ → sProp 𝕄} :
    recs m K ⊢ iprop(levAts L lv -∗ owe c 15 -∗ snt c 3 1 -∗ mid c 3 2 -∗ owns (c : Thread nD τ) paM fullShare (par m c) -∗ rcvPay m c 3 0 -∗ ((owe c 15 ∗ fin c 3 1 ∗ owns (c : Thread nD τ) (arP 1) fullShare (asW m (bk c 1) 1) ∗ sndPay m c 3 2 ∗ fin c 3 2 ∗ rcvPay m c 3 2 ∗ owns (c : Thread nD τ) paM fullShare (par m c) ∗ owns (c : Thread nD τ) (arP 0) fullShare (asW m (bk c 0) 0)) -∗ Q ⟨parR m c c, k0_pay32 (asW m (bk c 0) 0), k0_pay33 (asW m (bk c 1) 1)⟩)
      -∗ WP c Q (k0_part21 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v2 v8)) := by
  rw [k0_part21_eq_skeleton]; unfold k0_part21_skel
  simp only [semSignalWord, semWaitWord, Prog.lift, Prog.bind_op, Prog.bind_ret, Prog.pure_eq_ret, wp_deviceId]
  iintro #HR #HL HO HP31 HP32 Hpa HL30 Hk
  iapply (wait_rcv m K c 3 1 15 (by decide) rfl (credit3 _)) $$ HR HL HO HP31; iintro ⟨HO, HP31, HL31⟩
  iapply (wait_snd m K c 3 2 15 (by decide) rfl (credit3 _)) $$ HR HL HO HP32; iintro ⟨HO, HP32, Hs32⟩
  iapply (wait_rcv m K c 3 2 15 (by decide) rfl (credit3 _)) $$ HR HL HO HP32; iintro ⟨HO, HP32, HL32⟩
  iapply (load_parR m c c (k0_off14_eq c)) $$ Hpa; iintro Hpa
  ihave HL30 := (Entails.of_eq (rcv3_eq m c 0)) $$ HL30
  iapply (load_piece c rfl _) $$ HL30; iintro HL30
  ihave HL31 := (Entails.of_eq (rcv3_eq m c 1)) $$ HL31
  iapply (load_piece c rfl _) $$ HL31; iintro HL31
  iapply (ret_step c _); iapply Hk
  isplitl [HO]; · iexact HO
  isplitl [HP31]; · iexact HP31
  isplitl [HL31]; · iexact HL31
  isplitl [Hs32]; · iexact Hs32
  isplitl [HP32]; · iexact HP32
  isplitl [HL32]; · iexact HL32
  isplitl [Hpa]; · iexact Hpa
  iexact HL30

/-- The reduced row block is written to the result, staged, and sent to the next device. -/
theorem part22 (v2 : BitVec 32) (v4 : BitVec 32) (v6 : BitVec 32) {Q : _ → sProp 𝕄} :
    recs m K ⊢ iprop(levAts L lv -∗ rcvPay m c 3 2 -∗ anyAt c (outS c) -∗ anyAt c gsP -∗ owe c 15 -∗ anyAt (sh c ((0 : Fin 3).val + 1)) (grS 0) -∗ pre c 4 0 -∗ ((owns (c : Thread nD τ) (arP 2) fullShare (asW m (bk c 2) 2) ∗ owns (c : Thread nD τ) (outS c) fullShare (red m c) ∗ owns (c : Thread nD τ) gsP (Ring.shares3 fullShare 1) (gsW m c) ∗ owns (c : Thread nD τ) gsP (Ring.shares3 fullShare 2) (gsW m c) ∗ owe c 16 ∗ mid c 4 0) -∗ Q ⟨⟩)
      -∗ WP c Q (k0_part22 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v2 v4 v6 (parR m c c) (k0_pay32 (asW m (bk c 0) 0)) (k0_pay33 (asW m (bk c 1) 1)))) := by
  rw [k0_part22_eq_skeleton]; unfold k0_part22_skel
  simp only [semSignalWord, semWaitWord, Prog.lift, Prog.bind_op, Prog.bind_ret, Prog.pure_eq_ret, wp_deviceId]
  iintro #HR #HL HL32 Hout Hgs HO HD40 HP40 Hk
  ihave HL32 := (Entails.of_eq (rcv3_eq m c 2)) $$ HL32
  iapply (load_piece c rfl _) $$ HL32; iintro HL32
  icases Hout with ⟨%XHout, Hout⟩
  iapply (load_piece c (k0_off14_eq c) _) $$ Hout; iintro Hout
  iapply (store_piece c (k0_off14_eq c) _) $$ Hout; iintro Hout
  ihave Hout := (keep (owns (c : Thread nD τ) (outS c) fullShare (red m c))) $$ [Hout]
  · iexact Hout
  icases Hgs with ⟨%XHgs, Hgs⟩
  iapply (load_piece c rfl _) $$ Hgs; iintro Hgs
  iapply (store_piece c rfl _) $$ Hgs; iintro Hgs
  ihave Hgs := (keep (owns (c : Thread nD τ) gsP fullShare (gsW m c))) $$ [Hgs]
  · iexact Hgs
  ihave Hgs := (owns_thirds (c : Thread nD τ) gsP fullShare (gsW m c)) $$ Hgs; icases Hgs with ⟨Hs40, Hs41, Hs42⟩
  iapply (send4 m K c 0 15 (dev16_sh c) debts_15 rfl rfl) $$ HR Hs40 HD40 HO HP40; iintro ⟨HO, HP40⟩
  iapply (ret_step c _); iapply Hk
  isplitl [HL32]; · iexact HL32
  isplitl [Hout]; · iexact Hout
  isplitl [Hs41]; · iexact Hs41
  isplitl [Hs42]; · iexact Hs42
  isplitl [HO]; · iexact HO
  iexact HP40

/-- It goes to the other two devices, and the first of the three is sent. -/
theorem part23 (v4 : BitVec 32) (v8 : BitVec 32) {Q : _ → sProp 𝕄} :
    recs m K ⊢ iprop(levAts L lv -∗ owe c 16 -∗ owns (c : Thread nD τ) gsP (Ring.shares3 fullShare 1) (gsW m c) -∗ anyAt (sh c ((1 : Fin 3).val + 1)) (grS 1) -∗ pre c 4 1 -∗ owns (c : Thread nD τ) gsP (Ring.shares3 fullShare 2) (gsW m c) -∗ anyAt (sh c ((2 : Fin 3).val + 1)) (grS 2) -∗ pre c 4 2 -∗ mid c 4 0 -∗ ((owe c 18 ∗ mid c 4 1 ∗ mid c 4 2 ∗ snt c 4 0 ∗ sndPay m c 4 0) -∗ Q ⟨⟩)
      -∗ WP c Q (k0_part23 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v4 v8)) := by
  rw [k0_part23_eq_skeleton]; unfold k0_part23_skel
  simp only [semSignalWord, semWaitWord, Prog.lift, Prog.bind_op, Prog.bind_ret, Prog.pure_eq_ret, wp_deviceId]
  iintro #HR #HL HO Hs41 HD41 HP41 Hs42 HD42 HP42 HP40 Hk
  iapply (send4 m K c 1 16 (dev17_sh c) debts_16 rfl rfl) $$ HR Hs41 HD41 HO HP41; iintro ⟨HO, HP41⟩
  iapply (send4 m K c 2 17 (dev18_sh c) debts_17 rfl rfl) $$ HR Hs42 HD42 HO HP42; iintro ⟨HO, HP42⟩
  iapply (wait_snd m K c 4 0 18 (by decide) rfl (credit4 _)) $$ HR HL HO HP40; iintro ⟨HO, HP40, Hs40⟩
  iapply (ret_step c _); iapply Hk
  isplitl [HO]; · iexact HO
  isplitl [HP41]; · iexact HP41
  isplitl [HP42]; · iexact HP42
  isplitl [HP40]; · iexact HP40
  iexact Hs40

/-- The first reduced block has landed, the second is sent and has landed, the third is sent. -/
theorem part24 (v6 : BitVec 32) (v8 : BitVec 32) {Q : _ → sProp 𝕄} :
    recs m K ⊢ iprop(levAts L lv -∗ owe c 18 -∗ snt c 4 0 -∗ mid c 4 1 -∗ mid c 4 2 -∗ ((owe c 18 ∗ fin c 4 0 ∗ rcvPay m c 4 0 ∗ sndPay m c 4 1 ∗ fin c 4 1 ∗ rcvPay m c 4 1 ∗ snt c 4 2 ∗ sndPay m c 4 2) -∗ Q ⟨⟩)
      -∗ WP c Q (k0_part24 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 v6 v8)) := by
  rw [k0_part24_eq_skeleton]; unfold k0_part24_skel
  simp only [semSignalWord, semWaitWord, Prog.lift, Prog.bind_op, Prog.bind_ret, Prog.pure_eq_ret, wp_deviceId]
  iintro #HR #HL HO HP40 HP41 HP42 Hk
  iapply (wait_rcv m K c 4 0 18 (by decide) rfl (credit4 _)) $$ HR HL HO HP40; iintro ⟨HO, HP40, HL40⟩
  iapply (wait_snd m K c 4 1 18 (by decide) rfl (credit4 _)) $$ HR HL HO HP41; iintro ⟨HO, HP41, Hs41⟩
  iapply (wait_rcv m K c 4 1 18 (by decide) rfl (credit4 _)) $$ HR HL HO HP41; iintro ⟨HO, HP41, HL41⟩
  iapply (wait_snd m K c 4 2 18 (by decide) rfl (credit4 _)) $$ HR HL HO HP42; iintro ⟨HO, HP42, Hs42⟩
  iapply (ret_step c _); iapply Hk
  isplitl [HO]; · iexact HO
  isplitl [HP40]; · iexact HP40
  isplitl [HL40]; · iexact HL40
  isplitl [Hs41]; · iexact Hs41
  isplitl [HP41]; · iexact HP41
  isplitl [HL41]; · iexact HL41
  isplitl [HP42]; · iexact HP42
  iexact Hs42

/-- The third reduced block has landed; the first two are written to the result, and the third is read. -/
theorem part25 (v2 : BitVec 32) {Q : _ → sProp 𝕄} :
    recs m K ⊢ iprop(levAts L lv -∗ owe c 18 -∗ snt c 4 2 -∗ rcvPay m c 4 0 -∗ anyAt c (outS (bk c 0)) -∗ rcvPay m c 4 1 -∗ anyAt c (outS (bk c 1)) -∗ (∀ v576, (owe c 18 ∗ fin c 4 2 ∗ owns (c : Thread nD τ) (grP 2) fullShare (gsW m (bk c 2)) ∗ owns (c : Thread nD τ) (grP 0) fullShare (gsW m (bk c 0)) ∗ owns (c : Thread nD τ) (outS (bk c 0)) fullShare (k0_pay36 (gsW m (bk c 0))) ∗ owns (c : Thread nD τ) (grP 1) fullShare (gsW m (bk c 1)) ∗ owns (c : Thread nD τ) (outS (bk c 1)) fullShare (k0_pay37 (gsW m (bk c 1)))) -∗ Q ⟨v576, k0_pay38 (gsW m (bk c 2)), 64#32⟩)
      -∗ WP c Q (k0_part25 xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25 c v2)) := by
  rw [k0_part25_eq_skeleton]; unfold k0_part25_skel
  simp only [semSignalWord, semWaitWord, Prog.lift, Prog.bind_op, Prog.bind_ret, Prog.pure_eq_ret, wp_deviceId]
  iintro #HR #HL HO HP42 HL40 Hout0 HL41 Hout1 Hk
  iapply (wait_rcv m K c 4 2 18 (by decide) rfl (credit4 _)) $$ HR HL HO HP42; iintro ⟨HO, HP42, HL42⟩
  ihave HL40 := (Entails.of_eq (rcv4_eq m c 0)) $$ HL40
  iapply (load_piece c rfl _) $$ HL40; iintro HL40
  icases Hout0 with ⟨%XHout0, Hout0⟩
  iapply (load_piece c (k0_off15_eq c 0) _) $$ Hout0; iintro Hout0
  iapply (store_piece c (k0_off15_eq c 0) _) $$ Hout0; iintro Hout0
  ihave Hout0 := (keep (owns (c : Thread nD τ) (outS (bk c 0)) fullShare (k0_pay36 (gsW m (bk c 0))))) $$ [Hout0]
  · iexact Hout0
  ihave HL41 := (Entails.of_eq (rcv4_eq m c 1)) $$ HL41
  iapply (load_piece c rfl _) $$ HL41; iintro HL41
  icases Hout1 with ⟨%XHout1, Hout1⟩
  iapply (load_piece c (k0_off15_eq c 1) _) $$ Hout1; iintro Hout1
  iapply (store_piece c (k0_off15_eq c 1) _) $$ Hout1; iintro Hout1
  ihave Hout1 := (keep (owns (c : Thread nD τ) (outS (bk c 1)) fullShare (k0_pay37 (gsW m (bk c 1))))) $$ [Hout1]
  · iexact Hout1
  ihave HL42 := (Entails.of_eq (rcv4_eq m c 2)) $$ HL42
  iapply (load_piece c rfl _) $$ HL42; iintro HL42
  iapply (ret_step c _); iapply Hk
  isplitl [HO]; · iexact HO
  isplitl [HP42]; · iexact HP42
  isplitl [HL42]; · iexact HL42
  isplitl [HL40]; · iexact HL40
  isplitl [Hout0]; · iexact Hout0
  isplitl [HL41]; · iexact HL41
  iexact Hout1

end

end Cert.Quad
end
-- ==== Proof.Body.lean ====
/-
The body of the kernel on one device: from the pieces of its buffers, its positions and its tokens, to the result.
-/
module

public import proofs.«01_k».proof.Proof.Parts1
public import proofs.«01_k».proof.Proof.Parts2
public import proofs.«01_k».proof.Proof.Parts3

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ) (K : Dev nD × CIx → ℕ) (c : Dev nD)

/-- The slots before the first trip. -/
theorem slots_intro (b : Bool) : iprop(flight c b 0 0 ∗ blks m c b 0 (Finset.univ.erase (0 : Fin 4)) ∗ flight c b 1 0 ∗ blks m c b 1 (Finset.univ.erase (0 : Fin 4)) ∗ flight c b 2 0 ∗ blks m c b 2 (Finset.univ.erase (0 : Fin 4)) ∗ flight c b 3 0 ∗ blks m c b 3 (Finset.univ.erase (0 : Fin 4))) ⊢ slots m c b 0 := by
  unfold slots
  rw [bigSep_fin4]
  have h : ∀ j : Fin 4, slotAt m c b j ((0 + 3 - j.val) / 4) = iprop(flight c b j 0 ∗ blks m c b j (Finset.univ.erase (0 : Fin 4))) := fun j => by
    rw [show (0 + 3 - j.val) / 4 = 0 by have := j.isLt; omega]; exact dif_pos (by decide)
  rw [h, h, h, h]
  iintro ⟨H0, H1, H2, H3, H4, H5, H6, H7⟩
  isplitl [H0 H1]
  · isplitl [H0]; · iexact H0
    iexact H1
  isplitl [H2 H3]
  · isplitl [H2]; · iexact H2
    iexact H3
  isplitl [H4 H5]
  · isplitl [H4]; · iexact H4
    iexact H5
  isplitl [H6]; · iexact H6
  iexact H7

/-- What the body starts from. -/
def bodyPre : sProp 𝕄 :=
  iprop(blks m c false 0 Finset.univ
    ∗ blks m c false 1 Finset.univ
    ∗ blks m c false 2 Finset.univ
    ∗ blks m c false 3 Finset.univ
    ∗ blks m c true 0 Finset.univ
    ∗ blks m c true 1 Finset.univ
    ∗ blks m c true 2 Finset.univ
    ∗ blks m c true 3 Finset.univ
    ∗ anyAt c (slot false 0)
    ∗ atR c false 0 0
    ∗ anyAt c (slot true 0)
    ∗ atR c true 0 0
    ∗ anyAt c (slot false 1)
    ∗ atR c false 1 0
    ∗ anyAt c (slot true 1)
    ∗ atR c true 1 0
    ∗ anyAt c (slot false 2)
    ∗ atR c false 2 0
    ∗ anyAt c (slot true 2)
    ∗ atR c true 2 0
    ∗ anyAt c (slot false 3)
    ∗ atR c false 3 0
    ∗ anyAt c (slot true 3)
    ∗ atR c true 3 0
    ∗ owns (c : Thread nD τ) xM fullShare (xv m c)
    ∗ owns (c : Thread nD τ) wqM fullShare (wqv m c)
    ∗ anyAt c (qS c)
    ∗ owe c 0
    ∗ dutyTok ER (barC (sh c 1)) 0 2
    ∗ (anyAt c (qS (sh c 1)) ∗ anyAt c (coS 2) ∗ anyAt c (clS 2) ∗ anyAt c (arS 2) ∗ anyAt c (grS 2))
    ∗ dutyTok ER (barC (sh c 2)) 0 1
    ∗ (anyAt c (qS (sh c 2)) ∗ anyAt c (coS 1) ∗ anyAt c (clS 1) ∗ anyAt c (arS 1) ∗ anyAt c (grS 1))
    ∗ dutyTok ER (barC (sh c 3)) 0 0
    ∗ (anyAt c (qS (sh c 3)) ∗ anyAt c (coS 0) ∗ anyAt c (clS 0) ∗ anyAt c (arS 0) ∗ anyAt c (grS 0))
    ∗ (atPos ER (barC c) 0 ∅ 0 ∗ cred (tallyAt (barC c) () 3))
    ∗ pre c 0 0
    ∗ pre c 0 1
    ∗ pre c 0 2
    ∗ anyAt c oM
    ∗ anyAt c lM
    ∗ anyAt c (soP 0)
    ∗ anyAt c (slP 0)
    ∗ pre c 1 0
    ∗ pre c 2 0
    ∗ anyAt c (soP 1)
    ∗ anyAt c (slP 1)
    ∗ pre c 1 1
    ∗ pre c 2 1
    ∗ anyAt c (soP 2)
    ∗ anyAt c (slP 2)
    ∗ pre c 1 2
    ∗ pre c 2 2
    ∗ owns (c : Thread nD τ) woM fullShare (wov m c)
    ∗ anyAt c paM
    ∗ anyAt c (asP 0)
    ∗ pre c 3 0
    ∗ anyAt c (asP 1)
    ∗ pre c 3 1
    ∗ anyAt c (asP 2)
    ∗ pre c 3 2
    ∗ anyAt c (outS c)
    ∗ anyAt c gsP
    ∗ pre c 4 0
    ∗ pre c 4 1
    ∗ pre c 4 2
    ∗ anyAt c (outS (bk c 0))
    ∗ anyAt c (outS (bk c 1))
    ∗ anyAt c (outS (bk c 2)))

/-- What the body ends with. -/
def bodyEnd : sProp 𝕄 :=
  iprop(owns (c : Thread nD τ) xM fullShare (xv m c)
    ∗ owns (c : Thread nD τ) wqM fullShare (wqv m c)
    ∗ semVal (barC c) 0
    ∗ fin c 0 0
    ∗ fin c 0 1
    ∗ fin c 0 2
    ∗ slots m c false 16
    ∗ slots m c true 16
    ∗ owns (c : Thread nD τ) qM fullShare (qF m)
    ∗ sndPay m c 1 0
    ∗ fin c 1 0
    ∗ sndPay m c 2 0
    ∗ fin c 2 0
    ∗ sndPay m c 1 1
    ∗ fin c 1 1
    ∗ sndPay m c 2 1
    ∗ fin c 2 1
    ∗ sndPay m c 1 2
    ∗ fin c 1 2
    ∗ sndPay m c 2 2
    ∗ fin c 2 2
    ∗ owns (c : Thread nD τ) (clP 2) fullShare (slW m (bk c 2) 2)
    ∗ owns (c : Thread nD τ) oM fullShare (oF m c)
    ∗ owns (c : Thread nD τ) (coP 0) fullShare (soW m (bk c 0) 0)
    ∗ owns (c : Thread nD τ) (coP 1) fullShare (soW m (bk c 1) 1)
    ∗ owns (c : Thread nD τ) (coP 2) fullShare (soW m (bk c 2) 2)
    ∗ owns (c : Thread nD τ) lM fullShare (lF m c)
    ∗ owns (c : Thread nD τ) (clP 0) fullShare (slW m (bk c 0) 0)
    ∗ owns (c : Thread nD τ) (clP 1) fullShare (slW m (bk c 1) 1)
    ∗ owns (c : Thread nD τ) woM fullShare (wov m c)
    ∗ sndPay m c 3 0
    ∗ fin c 3 0
    ∗ sndPay m c 3 1
    ∗ fin c 3 1
    ∗ owns (c : Thread nD τ) (arP 1) fullShare (asW m (bk c 1) 1)
    ∗ sndPay m c 3 2
    ∗ fin c 3 2
    ∗ owns (c : Thread nD τ) paM fullShare (par m c)
    ∗ owns (c : Thread nD τ) (arP 0) fullShare (asW m (bk c 0) 0)
    ∗ owns (c : Thread nD τ) (arP 2) fullShare (asW m (bk c 2) 2)
    ∗ owns (c : Thread nD τ) outM fullShare (outF m c)
    ∗ sndPay m c 4 0
    ∗ fin c 4 0
    ∗ sndPay m c 4 1
    ∗ fin c 4 1
    ∗ sndPay m c 4 2
    ∗ owe c 18
    ∗ fin c 4 2
    ∗ owns (c : Thread nD τ) (grP 2) fullShare (gsW m (bk c 2))
    ∗ owns (c : Thread nD τ) (grP 0) fullShare (gsW m (bk c 0))
    ∗ owns (c : Thread nD τ) (grP 1) fullShare (gsW m (bk c 1)))

/-- The body runs from the one to the other. -/
theorem body_run : iprop(recs m K ∗ levAts L lv ∗ bodyPre m c) ⊢ WP c (fun _ => bodyEnd m c) (cc0__body xM (Memref.isWhole_whole _) wqM (Memref.isWhole_whole _) kHM (Memref.isWhole_whole _) vHM (Memref.isWhole_whole _) woM (Memref.isWhole_whole _) outM (Memref.isWhole_whole _) qM (Memref.isWhole_whole _) kM (Memref.isWhole_whole _) vM (Memref.isWhole_whole _) oM (Memref.isWhole_whole _) lM (Memref.isWhole_whole _) coM (Memref.isWhole_whole _) clM (Memref.isWhole_whole _) soM (Memref.isWhole_whole _) slM (Memref.isWhole_whole _) paM (Memref.isWhole_whole _) arM (Memref.isWhole_whole _) asM (Memref.isWhole_whole _) grM (Memref.isWhole_whole _) gsM (Memref.isWhole_whole _) cc0_scratch14 cc0_scratch15 cc0_scratch16 cc0_scratch17 cc0_scratch18 cc0_scratch19 cc0_scratch20 cc0_scratch21 cc0_scratch22 cc0_scratch23 cc0_scratch24 cc0_scratch25) := by
  rw [cc0__body_eq_skeleton]; unfold cc0__body_skel bodyPre
  iintro ⟨#HR, #HL, HNk0, HNk1, HNk2, HNk3, HNv0, HNv1, HNv2, HNv3, HSk0, HFk0, HSv0, HFv0, HSk1, HFk1, HSv1, HFv1, HSk2, HFk2, HSv2, HFv2, HSk3, HFk3, HSv3, HFv3, Hx, Hwq, Hq, HO, Hb1, HG2, Hb2, HG1, Hb3, HG0, Hbw, HP00, HP01, HP02, Ho, Hl, Hs10, Hs20, HP10, HP20, Hs11, Hs21, HP11, HP21, Hs12, Hs22, HP12, HP22, Hwo, Hpa, Hs30, HP30, Hs31, HP31, Hs32, HP32, Hout, Hgs, HP40, HP41, HP42, Hout0, Hout1, Hout2⟩
  ihave HNk0 := (Entails.of_eq (blks_split m c false 0 0)) $$ HNk0; icases HNk0 with ⟨HBk0, HNk0⟩
  ihave HBk0 := (keep (owns (c : Thread nD τ) (block false 0) fullShare (blkV m c false 0))) $$ [HBk0]
  · iexact HBk0
  ihave HNk1 := (Entails.of_eq (blks_split m c false 1 0)) $$ HNk1; icases HNk1 with ⟨HBk1, HNk1⟩
  ihave HBk1 := (keep (owns (c : Thread nD τ) (block false 1) fullShare (blkV m c false 1))) $$ [HBk1]
  · iexact HBk1
  ihave HNk2 := (Entails.of_eq (blks_split m c false 2 0)) $$ HNk2; icases HNk2 with ⟨HBk2, HNk2⟩
  ihave HBk2 := (keep (owns (c : Thread nD τ) (block false 2) fullShare (blkV m c false 2))) $$ [HBk2]
  · iexact HBk2
  ihave HNk3 := (Entails.of_eq (blks_split m c false 3 0)) $$ HNk3; icases HNk3 with ⟨HBk3, HNk3⟩
  ihave HBk3 := (keep (owns (c : Thread nD τ) (block false 3) fullShare (blkV m c false 3))) $$ [HBk3]
  · iexact HBk3
  ihave HNv0 := (Entails.of_eq (blks_split m c true 0 0)) $$ HNv0; icases HNv0 with ⟨HBv0, HNv0⟩
  ihave HBv0 := (keep (owns (c : Thread nD τ) (block true 0) fullShare (blkV m c true 0))) $$ [HBv0]
  · iexact HBv0
  ihave HNv1 := (Entails.of_eq (blks_split m c true 1 0)) $$ HNv1; icases HNv1 with ⟨HBv1, HNv1⟩
  ihave HBv1 := (keep (owns (c : Thread nD τ) (block true 1) fullShare (blkV m c true 1))) $$ [HBv1]
  · iexact HBv1
  ihave HNv2 := (Entails.of_eq (blks_split m c true 2 0)) $$ HNv2; icases HNv2 with ⟨HBv2, HNv2⟩
  ihave HBv2 := (keep (owns (c : Thread nD τ) (block true 2) fullShare (blkV m c true 2))) $$ [HBv2]
  · iexact HBv2
  ihave HNv3 := (Entails.of_eq (blks_split m c true 3 0)) $$ HNv3; icases HNv3 with ⟨HBv3, HNv3⟩
  ihave HBv3 := (keep (owns (c : Thread nD τ) (block true 3) fullShare (blkV m c true 3))) $$ [HBv3]
  · iexact HBv3
  iapply (bind_step c)
  iapply (part4 m K c ) $$ HR HL HBk0 HSk0 HFk0 HBv0 HSv0 HFv0 HBk1 HSk1 HFk1
  iintro %v2 %v4 %v6 %v8 ⟨HFk0, HFv0, HFk1⟩
  try dsimp only
  iapply (bind_step c)
  iapply (part5 m K c ) $$ HR HL HBv1 HSv1 HFv1 HBk2 HSk2 HFk2 HBv2 HSv2 HFv2 HBk3 HSk3 HFk3
  iintro  ⟨HFv1, HFk2, HFv2, HFk3⟩
  try dsimp only
  iapply (bind_step c)
  iapply (part6 m K c v2 v4 v6 v8) $$ HR HL HBv3 HSv3 HFv3 Hx Hwq Hq HO Hb1 HG2 Hb2 HG1 Hb3 HG0 Hbw
  iintro  ⟨HFv3, Hx, Hwq, Hq, HO, Hbz, HT0, HT1, HT2⟩
  try dsimp only
  ihave Hq := (owns_thirds (c : Thread nD τ) (qS c) fullShare (qv m c)) $$ Hq; icases Hq with ⟨Hs00, Hs01, Hs02⟩
  unfold barPay; icases HT0 with ⟨HD00, HD10, HD20, HD30, HD40⟩
  icases HT1 with ⟨HD01, HD11, HD21, HD31, HD41⟩
  icases HT2 with ⟨HD02, HD12, HD22, HD32, HD42⟩
  iapply (bind_step c)
  iapply (part7 m K c v2 v4 v6 v8) $$ HR HL HO Hs00 HD00 HP00 Hs01 HD01 HP01 Hs02 HD02 HP02
  iintro  ⟨HO, HP00, HP01, HP02⟩
  try dsimp only
  iapply (bind_step c)
  iapply (part8 m K c v4 v6) $$ HR HL HO HP00 HP01
  iintro  ⟨HO, Hs00, HP00, HL00, Hs01, HP01, HL01⟩
  try dsimp only
  ihave Hk0 := (slots_intro m c false) $$ [HFk0 HNk0 HFk1 HNk1 HFk2 HNk2 HFk3 HNk3]
  · isplitl [HFk0]; · iexact HFk0
    isplitl [HNk0]; · iexact HNk0
    isplitl [HFk1]; · iexact HFk1
    isplitl [HNk1]; · iexact HNk1
    isplitl [HFk2]; · iexact HFk2
    isplitl [HNk2]; · iexact HNk2
    isplitl [HFk3]; · iexact HFk3
    iexact HNk3
  ihave Hv0 := (slots_intro m c true) $$ [HFv0 HNv0 HFv1 HNv1 HFv2 HNv2 HFv3 HNv3]
  · isplitl [HFv0]; · iexact HFv0
    isplitl [HNv0]; · iexact HNv0
    isplitl [HFv1]; · iexact HFv1
    isplitl [HNv1]; · iexact HNv1
    isplitl [HFv2]; · iexact HFv2
    isplitl [HNv2]; · iexact HNv2
    isplitl [HFv3]; · iexact HFv3
    iexact HNv3
  iapply (bind_step c)
  iapply (part9 m K c v4 v8) $$ HR HL Hs00 Hs01 HL00 HL01 HO HP02 Ho Hl Hk0 Hv0 Hs10
  iintro %v147 ⟨HO, HP02, Ho, Hl, Hk0, Hv0, HQ, Hs10⟩
  try dsimp only
  iapply (bind_step c)
  iapply (part10 m K c v4 v6 v147) $$ HR HL Hl Hs20 HO Hs10 HD10 HP10 HD20 HP20
  iintro  ⟨Hl, HO, HP10, HP20⟩
  try dsimp only
  iapply (bind_step c)
  iapply (part11 m K c v6) $$ HR HL Ho Hs11 Hl Hs21 HO HD11 HP11
  iintro  ⟨Ho, Hl, Hs21, HO, HP11⟩
  try dsimp only
  iapply (bind_step c)
  iapply (part12 m K c v8) $$ HR HL HO Hs21 HD21 HP21 Ho Hs12 Hl Hs22 HD12 HP12
  iintro  ⟨HO, HP21, Ho, Hl, Hs22, HP12⟩
  try dsimp only
  iapply (bind_step c)
  iapply (part13 m K c v4 v8) $$ HR HL HO Hs22 HD22 HP22 HP10
  iintro  ⟨HO, HP22, Hs10, HP10, HL10⟩
  try dsimp only
  iapply (bind_step c)
  iapply (part14 m K c v4 v6) $$ HR HL HO HP20 HP11
  iintro  ⟨HO, Hs20, HP20, HL20, HP11, Hs11⟩
  try dsimp only
  iapply (bind_step c)
  iapply (part15 m K c v6) $$ HR HL HO HP11 HP21
  iintro  ⟨HO, HP11, HL11, Hs21, HP21, HL21⟩
  try dsimp only
  iapply (bind_step c)
  iapply (part16 m K c v8) $$ HR HL HO HP12 HP22
  iintro  ⟨HO, Hs12, HP12, HL12, HP22, Hs22⟩
  try dsimp only
  iapply (bind_step c)
  iapply (part17 m K c v2) $$ HR HL HO HP22 Ho HL10 HL11 HL12 Hl HL20 HL21
  iintro  ⟨HO, HP22, HL22, Ho, HL10, HL11, HL12, Hl, HL20, HL21⟩
  try dsimp only
  iapply (bind_step c)
  iapply (part18 m K c v4 v6) $$ HR HL Hwo Hpa Hs30 HO HD30 HP30 Hs31
  iintro %v390 ⟨Hwo, Hpa, HO, HP30, Hs31⟩
  try dsimp only
  iapply (bind_step c)
  iapply (part19 m K c v6 v8 v390) $$ HR HL Hs31 HO HD31 HP31 Hpa Hs32 HD32 HP32
  iintro  ⟨HO, HP31, Hpa, HP32⟩
  try dsimp only
  iapply (bind_step c)
  iapply (part20 m K c v4 v6) $$ HR HL HO HP30 HP31
  iintro  ⟨HO, Hs30, HP30, HL30, HP31, Hs31⟩
  try dsimp only
  iapply (bind_step c)
  iapply (part21 m K c v2 v8) $$ HR HL HO HP31 HP32 Hpa HL30
  iintro  ⟨HO, HP31, HL31, Hs32, HP32, HL32, Hpa, HL30⟩
  try dsimp only
  iapply (bind_step c)
  iapply (part22 m K c v2 v4 v6) $$ HR HL HL32 Hout Hgs HO HD40 HP40
  iintro  ⟨HL32, Hout, Hs41, Hs42, HO, HP40⟩
  try dsimp only
  iapply (bind_step c)
  iapply (part23 m K c v4 v8) $$ HR HL HO Hs41 HD41 HP41 Hs42 HD42 HP42 HP40
  iintro  ⟨HO, HP41, HP42, HP40, Hs40⟩
  try dsimp only
  iapply (bind_step c)
  iapply (part24 m K c v6 v8) $$ HR HL HO HP40 HP41 HP42
  iintro  ⟨HO, HP40, HL40, Hs41, HP41, HL41, HP42, Hs42⟩
  try dsimp only
  iapply (bind_step c)
  iapply (part25 m K c v2) $$ HR HL HO HP42 HL40 Hout0 HL41 Hout1
  iintro %v576 ⟨HO, HP42, HL42, HL40, Hout0, HL41, Hout1⟩
  try dsimp only
  simp only [Prog.lift, Prog.bind_op, Prog.bind_ret, Prog.pure_eq_ret]
  icases Hout2 with ⟨%XHout2, Hout2⟩
  iapply (load_piece c (k0_off15_eq c 2) _) $$ Hout2; iintro Hout2
  iapply (store_piece c (k0_off15_eq c 2) _) $$ Hout2; iintro Hout2
  ihave Hout2 := (keep (owns (c : Thread nD τ) (outS (bk c 2)) fullShare (k0_pay38 (gsW m (bk c 2))))) $$ [Hout2]
  · iexact Hout2
  ihave Hout := (join_out m c) $$ [Hout Hout0 Hout1 Hout2]
  · isplitl [Hout]; · iexact Hout
    isplitl [Hout0]; · iexact Hout0
    isplitl [Hout1]; · iexact Hout1
    iexact Hout2
  iapply (ret_step c _); unfold bodyEnd
  isplitl [Hx]; · iexact Hx
  isplitl [Hwq]; · iexact Hwq
  isplitl [Hbz]; · iexact Hbz
  isplitl [HP00]; · iexact HP00
  isplitl [HP01]; · iexact HP01
  isplitl [HP02]; · iexact HP02
  isplitl [Hk0]; · iexact Hk0
  isplitl [Hv0]; · iexact Hv0
  isplitl [HQ]; · iexact HQ
  isplitl [Hs10]; · iexact Hs10
  isplitl [HP10]; · iexact HP10
  isplitl [Hs20]; · iexact Hs20
  isplitl [HP20]; · iexact HP20
  isplitl [Hs11]; · iexact Hs11
  isplitl [HP11]; · iexact HP11
  isplitl [Hs21]; · iexact Hs21
  isplitl [HP21]; · iexact HP21
  isplitl [Hs12]; · iexact Hs12
  isplitl [HP12]; · iexact HP12
  isplitl [Hs22]; · iexact Hs22
  isplitl [HP22]; · iexact HP22
  isplitl [HL22]; · iexact HL22
  isplitl [Ho]; · iexact Ho
  isplitl [HL10]; · iexact HL10
  isplitl [HL11]; · iexact HL11
  isplitl [HL12]; · iexact HL12
  isplitl [Hl]; · iexact Hl
  isplitl [HL20]; · iexact HL20
  isplitl [HL21]; · iexact HL21
  isplitl [Hwo]; · iexact Hwo
  isplitl [Hs30]; · iexact Hs30
  isplitl [HP30]; · iexact HP30
  isplitl [Hs31]; · iexact Hs31
  isplitl [HP31]; · iexact HP31
  isplitl [HL31]; · iexact HL31
  isplitl [Hs32]; · iexact Hs32
  isplitl [HP32]; · iexact HP32
  isplitl [Hpa]; · iexact Hpa
  isplitl [HL30]; · iexact HL30
  isplitl [HL32]; · iexact HL32
  isplitl [Hout]; · iexact Hout
  isplitl [Hs40]; · iexact Hs40
  isplitl [HP40]; · iexact HP40
  isplitl [Hs41]; · iexact Hs41
  isplitl [HP41]; · iexact HP41
  isplitl [Hs42]; · iexact Hs42
  isplitl [HO]; · iexact HO
  isplitl [HP42]; · iexact HP42
  isplitl [HL42]; · iexact HL42
  isplitl [HL40]; · iexact HL40
  iexact HL41

end

end Cert.Quad
end
-- ==== Proof.Ends.lean ====
/-
What the launch deals a device, cut into the pieces that the body starts from; and what the body ends with, put together
into what the launch takes back.
-/
module

public import proofs.«01_k».proof.Proof.Ghost
public import proofs.«01_k».proof.Proof.Body

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over the cells, one by one -/

theorem bigSep_pd (Φ : Fin 5 × Fin 3 → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2)) ∗ (Φ (3, 0) ∗ Φ (3, 1) ∗ Φ (3, 2)) ∗ (Φ (4, 0) ∗ Φ (4, 1) ∗ Φ (4, 2))) := by
  rw [bigSep_univ_prod]
  have h : ∀ Ψ : Fin 5 → sProp 𝕄, bigSep Finset.univ Ψ = iprop(Ψ 0 ∗ Ψ 1 ∗ Ψ 2 ∗ Ψ 3 ∗ Ψ 4) := fun Ψ => bigSep_univ_eq_bigSepL [0, 1, 2, 3, 4] (by decide) (by decide) Ψ
  rw [h, bigSep_fin3, bigSep_fin3, bigSep_fin3, bigSep_fin3, bigSep_fin3]

theorem bigSep_bj (Φ : Bool × Fin 4 → sProp 𝕄) : bigSep Finset.univ Φ
    = iprop((Φ (false, 0) ∗ Φ (false, 1) ∗ Φ (false, 2) ∗ Φ (false, 3)) ∗ (Φ (true, 0) ∗ Φ (true, 1) ∗ Φ (true, 2) ∗ Φ (true, 3))) := by
  rw [bigSep_univ_prod]
  have h : ∀ Ψ : Bool → sProp 𝕄, bigSep Finset.univ Ψ = iprop(Ψ false ∗ Ψ true) := fun Ψ => bigSep_univ_eq_bigSepL [false, true] (by decide) (by decide) Ψ
  rw [h, bigSep_fin4, bigSep_fin4]

theorem bigSep_dix (Φ : DIx → sProp 𝕄) : bigSep Finset.univ Φ
    = iprop((bigSep Finset.univ fun x : Bool × Fin 4 => Φ (.inl x)) ∗ (bigSep Finset.univ fun x : Fin 5 × Fin 3 => Φ (.inr (.inl x))) ∗ (bigSep Finset.univ fun x : Fin 5 × Fin 3 => Φ (.inr (.inr x)))) := by
  rw [bigSep_univ_sum, bigSep_univ_sum]; rfl

/-- The counters of the kernel's own semaphores, by local cells and by pairs of a send and a receive. -/
theorem own_eq (c : Dev nD) : (Pipeline.ownSems0 (Ix := Unit) (Name := ℕ) (U := UU) (Lvl := ℕ) (Val := Elt F) (τ := τ) osem c : sProp 𝕄)
    = iprop((bigSep Finset.univ fun x : Bool × Fin 4 => semVal (locC c x.1 x.2) 0) ∗ bigSep Finset.univ fun x : Fin 5 × Fin 3 => fin c x.1 x.2) := by
  rw [ownSems0_eq, bigSep_dix]
  unfold fin
  rw [bigSep_sep']; rfl

/-! ## Buffers -/

/-- A buffer whole at some contents. -/
abbrev some_ (c : Dev nD) (b : Ref sig .tc) : sProp 𝕄 := iprop(∃ f : Buf (Elt F) ((c : Thread nD τ).loc b), ((c : Thread nD τ).loc b) ↦{fullShare} f)

theorem any_whole (c : Dev nD) (b : Ref sig .tc) : (some_ c b : sProp 𝕄) ⊢ anyAt c (Memref.whole b) := by
  iintro ⟨%f, H⟩
  iexists f
  rw [owns_whole]
  iexact H

theorem whole_any (c : Dev nD) (b : Ref sig .tc) : (anyAt c (Memref.whole b) : sProp 𝕄) ⊢ some_ c b := by
  iintro ⟨%f, H⟩
  iexists f
  ihave H := (Entails.of_eq (owns_whole (c : Thread nD τ) b fullShare f)) $$ H
  iexact H

/-- Round and slot of a block. -/
def gE : Fin 4 × Fin 4 ≃ Fin 16 where
  toFun x := gOf x.2.val x.1
  invFun g := (⟨g.val % 4, Nat.mod_lt _ (by decide)⟩, ⟨g.val / 4, by have := g.isLt; omega⟩)
  left_inv := by decide
  right_inv := by decide

section
variable (m : (ℓ : Loc nD τ sig) → Buf (Elt F) ℓ) (c : Dev nD)

/-- The key and value arrays as the launch deals them. -/
def kvAt : sProp 𝕄 := iprop((((c : Thread nD τ).loc main_arg2) ↦{fullShare} m ((c : Thread nD τ).loc main_arg2))
  ∗ (((c : Thread nD τ).loc main_arg3) ↦{fullShare} m ((c : Thread nD τ).loc main_arg3)))

theorem blks_k : (bigSep Finset.univ fun g : Fin 16 => owns (c : Thread nD τ) (kB g) fullShare (kG m c g) : sProp 𝕄) = iprop(blks m c false 0 Finset.univ ∗ blks m c false 1 Finset.univ ∗ blks m c false 2 Finset.univ ∗ blks m c false 3 Finset.univ) := by
  rw [bigSep_univ_equiv gE, bigSep_univ_prod, bigSep_fin4]; rfl
theorem blks_v : (bigSep Finset.univ fun g : Fin 16 => owns (c : Thread nD τ) (vB g) fullShare (vG m c g) : sProp 𝕄) = iprop(blks m c true 0 Finset.univ ∗ blks m c true 1 Finset.univ ∗ blks m c true 2 Finset.univ ∗ blks m c true 3 Finset.univ) := by
  rw [bigSep_univ_equiv gE, bigSep_univ_prod, bigSep_fin4]; rfl

theorem split_kv : kvAt m c ⊢ iprop((blks m c false 0 Finset.univ ∗ blks m c false 1 Finset.univ ∗ blks m c false 2 Finset.univ ∗ blks m c false 3 Finset.univ)
    ∗ (blks m c true 0 Finset.univ ∗ blks m c true 1 Finset.univ ∗ blks m c true 2 Finset.univ ∗ blks m c true 3 Finset.univ)) := by
  unfold kvAt
  rw [← blks_k, ← blks_v, ← owns_whole (c : Thread nD τ) main_arg2, ← owns_whole (c : Thread nD τ) main_arg3]
  exact BIClass.sep_mono (owns_rects (c : Thread nD τ) kHM fullShare kbR (fun _ _ => rfl) kbR_disj kbR_cover _)
    (owns_rects (c : Thread nD τ) vHM fullShare kbR (fun _ _ => rfl) kbR_disj kbR_cover _)

theorem join_kv : iprop((blks m c false 0 Finset.univ ∗ blks m c false 1 Finset.univ ∗ blks m c false 2 Finset.univ ∗ blks m c false 3 Finset.univ)
    ∗ (blks m c true 0 Finset.univ ∗ blks m c true 1 Finset.univ ∗ blks m c true 2 Finset.univ ∗ blks m c true 3 Finset.univ)) ⊢ kvAt m c := by
  unfold kvAt
  rw [← blks_k, ← blks_v, ← owns_whole (c : Thread nD τ) main_arg2, ← owns_whole (c : Thread nD τ) main_arg3]
  exact BIClass.sep_mono (owns_of_rects (c : Thread nD τ) kHM fullShare kbR (fun _ _ => rfl) kbR_disj kbR_cover _)
    (owns_of_rects (c : Thread nD τ) vHM fullShare kbR (fun _ _ => rfl) kbR_disj kbR_cover _)
end

section
variable (c : Dev nD)

/-- The slots of the key and of the value buffer. -/
theorem split_slots (b : Bool) : (anyAt c (match b with | false => kM | true => vM) : sProp 𝕄) ⊢ iprop(anyAt c (slot b 0) ∗ anyAt c (slot b 1) ∗ anyAt c (slot b 2) ∗ anyAt c (slot b 3)) := by
  cases b
  · refine (any_split c kM kR (fun _ _ => rfl) kR_disj kR_cover).trans ?_
    exact (bigSep_mono fun t _ => any_sq' c (kM.slice (kR t) (fun _ => rfl)) hk1).trans (Entails.of_eq bigSep_fin4)
  · refine (any_split c vM kR (fun _ _ => rfl) kR_disj kR_cover).trans ?_
    exact (bigSep_mono fun t _ => any_sq' c (vM.slice (kR t) (fun _ => rfl)) hk1).trans (Entails.of_eq bigSep_fin4)

theorem join_slots (b : Bool) : iprop(anyAt c (slot b 0) ∗ anyAt c (slot b 1) ∗ anyAt c (slot b 2) ∗ anyAt c (slot b 3)) ⊢ (anyAt c (match b with | false => kM | true => vM) : sProp 𝕄) := by
  cases b
  · refine BIBase.Entails.trans ?_ (any_join c kM kR (fun _ _ => rfl) kR_disj kR_cover)
    exact (Entails.of_eq (bigSep_fin4 (Φ := fun j => anyAt c (kS j))).symm).trans (bigSep_mono fun t _ => any_sq c (kM.slice (kR t) (fun _ => rfl)) hk1)
  · refine BIBase.Entails.trans ?_ (any_join c vM kR (fun _ _ => rfl) kR_disj kR_cover)
    exact (Entails.of_eq (bigSep_fin4 (Φ := fun j => anyAt c (vS j))).symm).trans (bigSep_mono fun t _ => any_sq c (vM.slice (kR t) (fun _ => rfl)) hk1)

theorem split_q : (anyAt c qM : sProp 𝕄) ⊢ iprop(anyAt c (qS c) ∗ anyAt c (qS (sh c 1)) ∗ anyAt c (qS (sh c 2)) ∗ anyAt c (qS (sh c 3))) :=
  (any_split c qM qR (fun _ _ => rfl) qR_disj qR_cover).trans (Entails.of_eq (bigSep_dev' c _))

theorem split_co : (anyAt c coM : sProp 𝕄) ⊢ iprop(anyAt c (coS 0) ∗ anyAt c (coS 1) ∗ anyAt c (coS 2)) :=
  (any_split c coM coR (fun _ _ => rfl) coR_disj coR_cover).trans
    ((bigSep_mono fun t _ => any_sq' c (coM.slice (coR t) (fun _ => rfl)) ho1).trans (Entails.of_eq bigSep_fin3))
theorem split_cl : (anyAt c clM : sProp 𝕄) ⊢ iprop(anyAt c (clS 0) ∗ anyAt c (clS 1) ∗ anyAt c (clS 2)) :=
  (any_split c clM clR (fun _ _ => rfl) clR_disj clR_cover).trans
    ((bigSep_mono fun t _ => any_sq' c (clM.slice (clR t) (fun _ => rfl)) hl1).trans (Entails.of_eq bigSep_fin3))
theorem split_ar : (anyAt c arM : sProp 𝕄) ⊢ iprop(anyAt c (arS 0) ∗ anyAt c (arS 1) ∗ anyAt c (arS 2)) :=
  (any_split c arM arR (fun _ _ => rfl) arR_disj arR_cover).trans
    ((bigSep_mono fun t _ => any_sq' c (arM.slice (arR t) (fun _ => rfl)) ha1).trans (Entails.of_eq bigSep_fin3))
theorem split_gr : (anyAt c grM : sProp 𝕄) ⊢ iprop(anyAt c (grS 0) ∗ anyAt c (grS 1) ∗ anyAt c (grS 2)) :=
  (any_split c grM arR (fun _ _ => rfl) arR_disj arR_cover).trans
    ((bigSep_mono fun t _ => any_sq' c (grM.slice (arR t) (fun _ => rfl)) ha1).trans (Entails.of_eq bigSep_fin3))
theorem split_so : (anyAt c soM : sProp 𝕄) ⊢ iprop(anyAt c (soP 0) ∗ anyAt c (soP 1) ∗ anyAt c (soP 2)) :=
  (any_split c soM coR (fun _ _ => rfl) coR_disj coR_cover).trans (Entails.of_eq bigSep_fin3)
theorem split_sl : (anyAt c slM : sProp 𝕄) ⊢ iprop(anyAt c (slP 0) ∗ anyAt c (slP 1) ∗ anyAt c (slP 2)) :=
  (any_split c slM clR (fun _ _ => rfl) clR_disj clR_cover).trans (Entails.of_eq bigSep_fin3)
theorem split_as : (anyAt c asM : sProp 𝕄) ⊢ iprop(anyAt c (asP 0) ∗ anyAt c (asP 1) ∗ anyAt c (asP 2)) :=
  (any_split c asM arR (fun _ _ => rfl) arR_disj arR_cover).trans (Entails.of_eq bigSep_fin3)
theorem join_co : iprop(anyAt c (coP 0) ∗ anyAt c (coP 1) ∗ anyAt c (coP 2)) ⊢ (anyAt c coM : sProp 𝕄) :=
  (Entails.of_eq (bigSep_fin3 (Φ := fun d => anyAt c (coP d))).symm).trans (any_join c coM coR (fun _ _ => rfl) coR_disj coR_cover)
theorem join_cl : iprop(anyAt c (clP 0) ∗ anyAt c (clP 1) ∗ anyAt c (clP 2)) ⊢ (anyAt c clM : sProp 𝕄) :=
  (Entails.of_eq (bigSep_fin3 (Φ := fun d => anyAt c (clP d))).symm).trans (any_join c clM clR (fun _ _ => rfl) clR_disj clR_cover)
theorem join_ar : iprop(anyAt c (arP 0) ∗ anyAt c (arP 1) ∗ anyAt c (arP 2)) ⊢ (anyAt c arM : sProp 𝕄) :=
  (Entails.of_eq (bigSep_fin3 (Φ := fun d => anyAt c (arP d))).symm).trans (any_join c arM arR (fun _ _ => rfl) arR_disj arR_cover)
theorem join_gr : iprop(anyAt c (grP 0) ∗ anyAt c (grP 1) ∗ anyAt c (grP 2)) ⊢ (anyAt c grM : sProp 𝕄) :=
  (Entails.of_eq (bigSep_fin3 (Φ := fun d => anyAt c (grP d))).symm).trans (any_join c grM arR (fun _ _ => rfl) arR_disj arR_cover)
theorem join_so : iprop(anyAt c (soP 0) ∗ anyAt c (soP 1) ∗ anyAt c (soP 2)) ⊢ (anyAt c soM : sProp 𝕄) :=
  (Entails.of_eq (bigSep_fin3 (Φ := fun d => anyAt c (soP d))).symm).trans (any_join c soM coR (fun _ _ => rfl) coR_disj coR_cover)
theorem join_sl : iprop(anyAt c (slP 0) ∗ anyAt c (slP 1) ∗ anyAt c (slP 2)) ⊢ (anyAt c slM : sProp 𝕄) :=
  (Entails.of_eq (bigSep_fin3 (Φ := fun d => anyAt c (slP d))).symm).trans (any_join c slM clR (fun _ _ => rfl) clR_disj clR_cover)
theorem join_as : iprop(anyAt c (asP 0) ∗ anyAt c (asP 1) ∗ anyAt c (asP 2)) ⊢ (anyAt c asM : sProp 𝕄) :=
  (Entails.of_eq (bigSep_fin3 (Φ := fun d => anyAt c (asP d))).symm).trans (any_join c asM arR (fun _ _ => rfl) arR_disj arR_cover)

end

/-! ## Positions, tokens and credit -/

section
variable (m : (ℓ : Loc nD τ sig) → Buf (Elt F) ℓ) (K : Dev nD × CIx → ℕ) (c : Dev nD)

/-- The four rounds' tokens of a slot's cell. -/
theorem toks_intro (b : Bool) (j : Fin 4) : (bigSep Finset.univ fun r : Fin 4 => (dutyTok ER (locC c b j) r.val 0 : sProp 𝕄)) ⊢ toks c b j 4 := by
  rw [bigSep_fin4]
  show _ ⊢ iprop(dutyTok ER (locC c b j) 0 0 ∗ dutyTok ER (locC c b j) 1 0 ∗ dutyTok ER (locC c b j) 2 0 ∗ dutyTok ER (locC c b j) 3 0 ∗ emp)
  iintro ⟨H0, H1, H2, H3⟩
  isplitl [H0]; · iexact H0
  isplitl [H1]; · iexact H1
  isplitl [H2]; · iexact H2
  isplitl [H3]; · iexact H3
  iempintro

theorem reach_loc (b : Bool) (j : Fin 4) : recs m K ⊢ (reached ER (locC c b j) 0 : sProp 𝕄) := by
  refine (recs_at m K (c, .inr (.inl (b, j)))).trans ?_
  iintro ⟨-, H⟩
  iexact H

theorem atR_intro (b : Bool) (j : Fin 4) : iprop(recs m K ∗ (atPos ER (locC c b j) 0 ∅ 0 ∗ bigSep Finset.univ fun r : Fin 4 => dutyTok ER (locC c b j) r.val 0)) ⊢ atR c b j 0 := by
  iintro ⟨#HR, H, HT⟩
  ihave Hr := (reach_loc m K c b j) $$ HR
  ihave HT := (toks_intro c b j) $$ HT
  unfold atR
  isplitl [H]; · iexact H
  isplitl [Hr]; · iexact Hr
  iexact HT

theorem pay_eq : (payToks c : sProp 𝕄)
    = iprop((dutyTok ER (barC (sh c 3)) 0 0 ∗ dutyTok ER (barC (sh c 2)) 0 1 ∗ dutyTok ER (barC (sh c 1)) 0 2)
      ∗ (bigSep Finset.univ fun x : Bool × Fin 4 => bigSep Finset.univ fun r : Fin 4 => dutyTok ER (locC c x.1 x.2) r.val 0)
      ∗ (bigSep Finset.univ fun x : Fin 5 × Fin 3 => dutyTok ER (sndC c x.1 x.2) 0 0)
      ∗ (bigSep Finset.univ fun x : Fin 5 × Fin 3 => dutyTok ER (rcvC (sh c (x.2.val + 1)) x.1 x.2) 0 0)) := by
  unfold payToks
  rw [bigSep_univ_sum, bigSep_univ_sum, bigSep_univ_sum, bigSep_fin3, bigSep_univ_prod]
  have h0 : sh c 0 = c := sh_zero c
  show iprop((dutyTok ER (barC (sh c 3)) 0 0 ∗ dutyTok ER (barC (sh c 2)) 0 1 ∗ dutyTok ER (barC (sh c 1)) 0 2)
      ∗ (bigSep Finset.univ fun x : Bool × Fin 4 => bigSep Finset.univ fun r : Fin 4 => dutyTok ER (locC (sh c 0) x.1 x.2) r.val 0)
      ∗ (bigSep Finset.univ fun x : Fin 5 × Fin 3 => dutyTok ER (sndC (sh c 0) x.1 x.2) 0 0)
      ∗ (bigSep Finset.univ fun x : Fin 5 × Fin 3 => dutyTok ER (rcvC (sh c (x.2.val + 1)) x.1 x.2) 0 0)) = _
  rw [h0]

theorem pos_eq : (bigSep Finset.univ fun k : CIx => (atPos ER (kcell (c, k)) 0 ∅ 0 : sProp 𝕄))
    = iprop(atPos ER (barC c) 0 ∅ 0 ∗ (bigSep Finset.univ fun x : Bool × Fin 4 => atPos ER (locC c x.1 x.2) 0 ∅ 0)
      ∗ (bigSep Finset.univ fun x : Fin 5 × Fin 3 => atPos ER (sndC c x.1 x.2) 0 ∅ 0) ∗ (bigSep Finset.univ fun x : Fin 5 × Fin 3 => atPos ER (rcvC c x.1 x.2) 0 ∅ 0)) := by
  rw [bigSep_cix, bigSep_univ_sum, bigSep_univ_sum]; rfl

theorem cred_take : (bigSep Finset.univ fun k : CIx => (cred (tallyAt (kcell (c, k)) () (amt k)) : sProp 𝕄))
    ⊢ iprop(cred (tallyAt (barC c) () 3) ∗ bigSep Finset.univ fun x : Fin 5 × Fin 3 => cred (tallyAt (rcvC c x.1 x.2) () (crP x.1))) := by
  rw [bigSep_cix, bigSep_dix]
  iintro ⟨H, -, -, HR⟩
  isplitl [H]; · iexact H
  iexact HR

/-- The device's share of the protocol at the start: of each local cell, of each pair of a send and a receive, of the barrier. -/
theorem ghost_start : iprop(recs m K ∗ lin c ∗ bigSep Finset.univ fun k : CIx => cred (tallyAt (kcell (c, k)) () (amt k)))
    ⊢ iprop((bigSep Finset.univ fun x : Bool × Fin 4 => atR c x.1 x.2 0) ∗ (bigSep Finset.univ fun x : Fin 5 × Fin 3 => pre c x.1 x.2)
      ∗ (dutyTok ER (barC (sh c 3)) 0 0 ∗ dutyTok ER (barC (sh c 2)) 0 1 ∗ dutyTok ER (barC (sh c 1)) 0 2)
      ∗ (atPos ER (barC c) 0 ∅ 0 ∗ cred (tallyAt (barC c) () 3))) := by
  unfold lin
  rw [pay_eq, pos_eq]
  iintro ⟨#HR, ⟨⟨HaB, HaL, HaS, HaV⟩, HtB, HtL, HtS, HtV⟩, HC⟩
  ihave HC := (cred_take c) $$ HC
  icases HC with ⟨HcB, HcV⟩
  isplitl [HaL HtL]
  · iapply (bigSep_beside (R := recs m K) fun x _ => atR_intro m K c x.1 x.2)
    isplitr; · iexact HR
    simp only [bigSep_sep']
    isplitl [HaL]; · iexact HaL
    iexact HtL
  isplitl [HtS HtV HaS HaV HcV]
  · unfold pre
    simp only [bigSep_sep']
    isplitl [HtS]; · iexact HtS
    isplitl [HtV]; · iexact HtV
    isplitl [HaS]; · iexact HaS
    isplitl [HaV]; · iexact HaV
    iexact HcV
  isplitl [HtB]; · iexact HtB
  isplitl [HaB]; · iexact HaB
  iexact HcB

/-- Everything that the body starts from. -/
theorem enter : iprop(recs m K ∗ lin c ∗ (bigSep Finset.univ fun k : CIx => cred (tallyAt (kcell (c, k)) () (amt k))) ∗ kvAt m c ∗ Pipeline.scopedRest cfg0.spec c
      ∗ owns (c : Thread nD τ) xM fullShare (xv m c) ∗ owns (c : Thread nD τ) wqM fullShare (wqv m c) ∗ owns (c : Thread nD τ) woM fullShare (wov m c) ∗ anyAt c outM ∗ owe c 0)
    ⊢ bodyPre m c := by
  rw [scopedRest0_eq]
  iintro ⟨#HR, Hlin, HC, Hkv, ⟨Rq, Rk, Rv, Ro, Rl, Rco, Rcl, Rso, Rsl, Rpa, Rar, Ras, Rgr, Rgs⟩, Hx, Hwq, Hwo, Hout, HO⟩
  ihave HG := (ghost_start m K c) $$ [Hlin HC]
  · isplitr; · iexact HR
    isplitl [Hlin]; · iexact Hlin
    iexact HC
  icases HG with ⟨HA, HP, ⟨Hb3, Hb2, Hb1⟩, Hbw⟩
  ihave HA := (Entails.of_eq (bigSep_bj (fun x => atR c x.1 x.2 0))) $$ HA
  icases HA with ⟨⟨HFk0, HFk1, HFk2, HFk3⟩, HFv0, HFv1, HFv2, HFv3⟩
  ihave HP := (Entails.of_eq (bigSep_pd (fun x => pre c x.1 x.2))) $$ HP
  icases HP with ⟨⟨HP00, HP01, HP02⟩, ⟨HP10, HP11, HP12⟩, ⟨HP20, HP21, HP22⟩, ⟨HP30, HP31, HP32⟩, HP40, HP41, HP42⟩
  ihave Hkv := (split_kv m c) $$ Hkv
  icases Hkv with ⟨⟨HNk0, HNk1, HNk2, HNk3⟩, HNv0, HNv1, HNv2, HNv3⟩
  ihave Rq := (any_whole c cc0_scratch0) $$ Rq
  ihave Rk := (any_whole c cc0_scratch1) $$ Rk
  ihave Rv := (any_whole c cc0_scratch2) $$ Rv
  ihave Ro := (any_whole c cc0_scratch3) $$ Ro
  ihave Rl := (any_whole c cc0_scratch4) $$ Rl
  ihave Rco := (any_whole c cc0_scratch5) $$ Rco
  ihave Rcl := (any_whole c cc0_scratch6) $$ Rcl
  ihave Rso := (any_whole c cc0_scratch7) $$ Rso
  ihave Rsl := (any_whole c cc0_scratch8) $$ Rsl
  ihave Rpa := (any_whole c cc0_scratch9) $$ Rpa
  ihave Rar := (any_whole c cc0_scratch10) $$ Rar
  ihave Ras := (any_whole c cc0_scratch11) $$ Ras
  ihave Rgr := (any_whole c cc0_scratch12) $$ Rgr
  ihave Rgs := (any_whole c cc0_scratch13) $$ Rgs
  ihave Rk := (split_slots c false) $$ Rk; icases Rk with ⟨HSk0, HSk1, HSk2, HSk3⟩
  ihave Rv := (split_slots c true) $$ Rv; icases Rv with ⟨HSv0, HSv1, HSv2, HSv3⟩
  ihave Rq := (split_q c) $$ Rq; icases Rq with ⟨Hq, Q1, Q2, Q3⟩
  ihave Rco := (split_co c) $$ Rco; icases Rco with ⟨co0, co1, co2⟩
  ihave Rcl := (split_cl c) $$ Rcl; icases Rcl with ⟨cl0, cl1, cl2⟩
  ihave Rar := (split_ar c) $$ Rar; icases Rar with ⟨ar0, ar1, ar2⟩
  ihave Rgr := (split_gr c) $$ Rgr; icases Rgr with ⟨gr0, gr1, gr2⟩
  ihave Rso := (split_so c) $$ Rso; icases Rso with ⟨Hs10, Hs11, Hs12⟩
  ihave Rsl := (split_sl c) $$ Rsl; icases Rsl with ⟨Hs20, Hs21, Hs22⟩
  ihave Ras := (split_as c) $$ Ras; icases Ras with ⟨Hs30, Hs31, Hs32⟩
  ihave Hgs := (any_gs c) $$ Rgs
  ihave Hout := (split_out c) $$ Hout; icases Hout with ⟨Hout, Hout0, Hout1, Hout2⟩
  unfold bodyPre
  isplitl [HNk0]; · iexact HNk0
  isplitl [HNk1]; · iexact HNk1
  isplitl [HNk2]; · iexact HNk2
  isplitl [HNk3]; · iexact HNk3
  isplitl [HNv0]; · iexact HNv0
  isplitl [HNv1]; · iexact HNv1
  isplitl [HNv2]; · iexact HNv2
  isplitl [HNv3]; · iexact HNv3
  isplitl [HSk0]; · iexact HSk0
  isplitl [HFk0]; · iexact HFk0
  isplitl [HSv0]; · iexact HSv0
  isplitl [HFv0]; · iexact HFv0
  isplitl [HSk1]; · iexact HSk1
  isplitl [HFk1]; · iexact HFk1
  isplitl [HSv1]; · iexact HSv1
  isplitl [HFv1]; · iexact HFv1
  isplitl [HSk2]; · iexact HSk2
  isplitl [HFk2]; · iexact HFk2
  isplitl [HSv2]; · iexact HSv2
  isplitl [HFv2]; · iexact HFv2
  isplitl [HSk3]; · iexact HSk3
  isplitl [HFk3]; · iexact HFk3
  isplitl [HSv3]; · iexact HSv3
  isplitl [HFv3]; · iexact HFv3
  isplitl [Hx]; · iexact Hx
  isplitl [Hwq]; · iexact Hwq
  isplitl [Hq]; · iexact Hq
  isplitl [HO]; · iexact HO
  isplitl [Hb1]; · iexact Hb1
  isplitl [Q1 co2 cl2 ar2 gr2]
  · isplitl [Q1]; · iexact Q1
    isplitl [co2]; · iexact co2
    isplitl [cl2]; · iexact cl2
    isplitl [ar2]; · iexact ar2
    iexact gr2
  isplitl [Hb2]; · iexact Hb2
  isplitl [Q2 co1 cl1 ar1 gr1]
  · isplitl [Q2]; · iexact Q2
    isplitl [co1]; · iexact co1
    isplitl [cl1]; · iexact cl1
    isplitl [ar1]; · iexact ar1
    iexact gr1
  isplitl [Hb3]; · iexact Hb3
  isplitl [Q3 co0 cl0 ar0 gr0]
  · isplitl [Q3]; · iexact Q3
    isplitl [co0]; · iexact co0
    isplitl [cl0]; · iexact cl0
    isplitl [ar0]; · iexact ar0
    iexact gr0
  isplitl [Hbw]; · iexact Hbw
  isplitl [HP00]; · iexact HP00
  isplitl [HP01]; · iexact HP01
  isplitl [HP02]; · iexact HP02
  isplitl [Ro]; · iexact Ro
  isplitl [Rl]; · iexact Rl
  isplitl [Hs10]; · iexact Hs10
  isplitl [Hs20]; · iexact Hs20
  isplitl [HP10]; · iexact HP10
  isplitl [HP20]; · iexact HP20
  isplitl [Hs11]; · iexact Hs11
  isplitl [Hs21]; · iexact Hs21
  isplitl [HP11]; · iexact HP11
  isplitl [HP21]; · iexact HP21
  isplitl [Hs12]; · iexact Hs12
  isplitl [Hs22]; · iexact Hs22
  isplitl [HP12]; · iexact HP12
  isplitl [HP22]; · iexact HP22
  isplitl [Hwo]; · iexact Hwo
  isplitl [Rpa]; · iexact Rpa
  isplitl [Hs30]; · iexact Hs30
  isplitl [HP30]; · iexact HP30
  isplitl [Hs31]; · iexact Hs31
  isplitl [HP31]; · iexact HP31
  isplitl [Hs32]; · iexact Hs32
  isplitl [HP32]; · iexact HP32
  isplitl [Hout]; · iexact Hout
  isplitl [Hgs]; · iexact Hgs
  isplitl [HP40]; · iexact HP40
  isplitl [HP41]; · iexact HP41
  isplitl [HP42]; · iexact HP42
  isplitl [Hout0]; · iexact Hout0
  isplitl [Hout1]; · iexact Hout1
  iexact Hout2

/-- A send's source, whole again: the staged pieces, the reduced rows in three shares. -/
theorem back1 (d : Fin 3) : sndPay m c 1 d ⊢ (anyAt c (soP d) : sProp 𝕄) := by rw [snd1_eq]; exact any_intro c _ _
theorem back2 (d : Fin 3) : sndPay m c 2 d ⊢ (anyAt c (slP d) : sProp 𝕄) := by rw [snd2_eq]; exact any_intro c _ _
theorem back3 (d : Fin 3) : sndPay m c 3 d ⊢ (anyAt c (asP d) : sProp 𝕄) := by rw [snd3_eq]; exact any_intro c _ _
theorem snd4_eq (d : Fin 3) : sndPay m c 4 d = owns (c : Thread nD τ) gsS (Ring.shares3 fullShare d) (sq ha1 (gsW m c)) := rfl
theorem back4 : iprop(sndPay m c 4 0 ∗ sndPay m c 4 1 ∗ sndPay m c 4 2) ⊢ (anyAt c gsM : sProp 𝕄) := by
  rw [snd4_eq, snd4_eq, snd4_eq]
  refine (owns_of_thirds (c : Thread nD τ) gsS fullShare (sq ha1 (gsW m c))).trans ?_
  exact (any_intro c gsS _).trans ((any_sq c gsP ha1).trans (any_gs' c))

/-- The slots after the last trip. -/
theorem slots_end (b : Bool) : iprop(recs m K ∗ slots m c b 16) ⊢ |={Set.univ}=> iprop((anyAt c (match b with | false => kM | true => vM))
    ∗ (semVal (locC c b 0) 0 ∗ semVal (locC c b 1) 0 ∗ semVal (locC c b 2) 0 ∗ semVal (locC c b 3) 0)
    ∗ (blks m c b 0 Finset.univ ∗ blks m c b 1 Finset.univ ∗ blks m c b 2 Finset.univ ∗ blks m c b 3 Finset.univ)) := by
  unfold slots
  rw [bigSep_fin4]
  have h : ∀ j : Fin 4, slotAt m c b j ((16 + 3 - j.val) / 4) = iprop(anyAt c (slot b j) ∗ atR c b j 4 ∗ blks m c b j Finset.univ) := fun j => by
    rw [show (16 + 3 - j.val) / 4 = 4 by have := j.isLt; omega]; exact dif_neg (by decide)
  rw [h, h, h, h]
  iintro ⟨#HR, ⟨S0, A0, B0⟩, ⟨S1, A1, B1⟩, ⟨S2, A2, B2⟩, ⟨S3, A3, B3⟩⟩
  imod (close_loc m K c b 0) $$ [A0] with A0
  · isplitr; · iexact HR
    iexact A0
  imod (close_loc m K c b 1) $$ [A1] with A1
  · isplitr; · iexact HR
    iexact A1
  imod (close_loc m K c b 2) $$ [A2] with A2
  · isplitr; · iexact HR
    iexact A2
  imod (close_loc m K c b 3) $$ [A3] with A3
  · isplitr; · iexact HR
    iexact A3
  imodintro
  isplitl [S0 S1 S2 S3]
  · iapply (join_slots c b)
    isplitl [S0]; · iexact S0
    isplitl [S1]; · iexact S1
    isplitl [S2]; · iexact S2
    iexact S3
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  iexact B3

/-- Everything that the launch takes back. -/
theorem leave : iprop(recs m K ∗ bodyEnd m c) ⊢ |={Set.univ}=> iprop(
    (kvAt m c ∗ unscopedSems0 c ∗ Pipeline.ownSems0 osem c ∗ Pipeline.scopedRest cfg0.spec c) ∗ owe c 18
    ∗ owns (c : Thread nD τ) xM fullShare (xv m c) ∗ owns (c : Thread nD τ) wqM fullShare (wqv m c) ∗ owns (c : Thread nD τ) woM fullShare (wov m c) ∗ owns (c : Thread nD τ) outM fullShare (outF m c)) := by
  unfold bodyEnd
  iintro ⟨#HR, Hx, Hwq, Hbz, HP00, HP01, HP02, Hk0, Hv0, HQ, Hs10, HP10, Hs20, HP20, Hs11, HP11, Hs21, HP21, Hs12, HP12, Hs22, HP22, HL22, Ho, HL10, HL11, HL12, Hl, HL20, HL21, Hwo, Hs30, HP30, Hs31, HP31, HL31, Hs32, HP32, Hpa, HL30, HL32, Hout, Hs40, HP40, Hs41, HP41, Hs42, HO, HP42, HL42, HL40, HL41⟩
  imod (slots_end m K c false) $$ [Hk0] with ⟨Tfalse, Lfalse, Bfalse⟩
  · isplitr; · iexact HR
    iexact Hk0
  imod (slots_end m K c true) $$ [Hv0] with ⟨Ttrue, Ltrue, Btrue⟩
  · isplitr; · iexact HR
    iexact Hv0
  imodintro
  ihave Hs10 := (back1 m c 0) $$ Hs10
  ihave Hs20 := (back2 m c 0) $$ Hs20
  ihave Hs11 := (back1 m c 1) $$ Hs11
  ihave Hs21 := (back2 m c 1) $$ Hs21
  ihave Hs12 := (back1 m c 2) $$ Hs12
  ihave Hs22 := (back2 m c 2) $$ Hs22
  ihave Hs30 := (back3 m c 0) $$ Hs30
  ihave Hs31 := (back3 m c 1) $$ Hs31
  ihave Hs32 := (back3 m c 2) $$ Hs32
  ihave HQ := (any_intro c qM (qF m)) $$ HQ
  ihave HL22 := (any_intro c (clP 2) (slW m (bk c 2) 2)) $$ HL22
  ihave Ho := (any_intro c oM (oF m c)) $$ Ho
  ihave HL10 := (any_intro c (coP 0) (soW m (bk c 0) 0)) $$ HL10
  ihave HL11 := (any_intro c (coP 1) (soW m (bk c 1) 1)) $$ HL11
  ihave HL12 := (any_intro c (coP 2) (soW m (bk c 2) 2)) $$ HL12
  ihave Hl := (any_intro c lM (lF m c)) $$ Hl
  ihave HL20 := (any_intro c (clP 0) (slW m (bk c 0) 0)) $$ HL20
  ihave HL21 := (any_intro c (clP 1) (slW m (bk c 1) 1)) $$ HL21
  ihave HL31 := (any_intro c (arP 1) (asW m (bk c 1) 1)) $$ HL31
  ihave Hpa := (any_intro c paM (par m c)) $$ Hpa
  ihave HL30 := (any_intro c (arP 0) (asW m (bk c 0) 0)) $$ HL30
  ihave HL32 := (any_intro c (arP 2) (asW m (bk c 2) 2)) $$ HL32
  ihave HL42 := (any_intro c (grP 2) (gsW m (bk c 2))) $$ HL42
  ihave HL40 := (any_intro c (grP 0) (gsW m (bk c 0))) $$ HL40
  ihave HL41 := (any_intro c (grP 1) (gsW m (bk c 1))) $$ HL41
  ihave Rco := (join_co c) $$ [HL10 HL11 HL12]
  · isplitl [HL10]; · iexact HL10
    isplitl [HL11]; · iexact HL11
    iexact HL12
  ihave Rcl := (join_cl c) $$ [HL20 HL21 HL22]
  · isplitl [HL20]; · iexact HL20
    isplitl [HL21]; · iexact HL21
    iexact HL22
  ihave Rar := (join_ar c) $$ [HL30 HL31 HL32]
  · isplitl [HL30]; · iexact HL30
    isplitl [HL31]; · iexact HL31
    iexact HL32
  ihave Rgr := (join_gr c) $$ [HL40 HL41 HL42]
  · isplitl [HL40]; · iexact HL40
    isplitl [HL41]; · iexact HL41
    iexact HL42
  ihave Rso := (join_so c) $$ [Hs10 Hs11 Hs12]
  · isplitl [Hs10]; · iexact Hs10
    isplitl [Hs11]; · iexact Hs11
    iexact Hs12
  ihave Rsl := (join_sl c) $$ [Hs20 Hs21 Hs22]
  · isplitl [Hs20]; · iexact Hs20
    isplitl [Hs21]; · iexact Hs21
    iexact Hs22
  ihave Ras := (join_as c) $$ [Hs30 Hs31 Hs32]
  · isplitl [Hs30]; · iexact Hs30
    isplitl [Hs31]; · iexact Hs31
    iexact Hs32
  ihave Rgs := (back4 m c) $$ [Hs40 Hs41 Hs42]
  · isplitl [Hs40]; · iexact Hs40
    isplitl [Hs41]; · iexact Hs41
    iexact Hs42
  isplitl [Bfalse Btrue Hbz Lfalse Ltrue HP00 HP01 HP02 HP10 HP11 HP12 HP20 HP21 HP22 HP30 HP31 HP32 HP40 HP41 HP42 HQ Tfalse Ttrue Ho Hl Rco Rcl Rso Rsl Hpa Rar Ras Rgr Rgs]
  · isplitl [Bfalse Btrue]
    · iapply (join_kv m c)
      isplitl [Bfalse]; · iexact Bfalse
      iexact Btrue
    isplitl [Hbz]
    · rw [unscopedSems0_eq]; iexact Hbz
    isplitl [Lfalse Ltrue HP00 HP01 HP02 HP10 HP11 HP12 HP20 HP21 HP22 HP30 HP31 HP32 HP40 HP41 HP42]
    · rw [own_eq, bigSep_bj, bigSep_pd]
      isplitl [Lfalse Ltrue]
      · isplitl [Lfalse]; · iexact Lfalse
        iexact Ltrue
      isplitl [HP00 HP01 HP02]
      · isplitl [HP00]; · iexact HP00
        isplitl [HP01]; · iexact HP01
        iexact HP02
      isplitl [HP10 HP11 HP12]
      · isplitl [HP10]; · iexact HP10
        isplitl [HP11]; · iexact HP11
        iexact HP12
      isplitl [HP20 HP21 HP22]
      · isplitl [HP20]; · iexact HP20
        isplitl [HP21]; · iexact HP21
        iexact HP22
      isplitl [HP30 HP31 HP32]
      · isplitl [HP30]; · iexact HP30
        isplitl [HP31]; · iexact HP31
        iexact HP32
      isplitl [HP40]; · iexact HP40
      isplitl [HP41]; · iexact HP41
      iexact HP42
    rw [scopedRest0_eq]
    isplitl [HQ]; · iapply (whole_any c cc0_scratch0); iexact HQ
    isplitl [Tfalse]; · iapply (whole_any c cc0_scratch1); iexact Tfalse
    isplitl [Ttrue]; · iapply (whole_any c cc0_scratch2); iexact Ttrue
    isplitl [Ho]; · iapply (whole_any c cc0_scratch3); iexact Ho
    isplitl [Hl]; · iapply (whole_any c cc0_scratch4); iexact Hl
    isplitl [Rco]; · iapply (whole_any c cc0_scratch5); iexact Rco
    isplitl [Rcl]; · iapply (whole_any c cc0_scratch6); iexact Rcl
    isplitl [Rso]; · iapply (whole_any c cc0_scratch7); iexact Rso
    isplitl [Rsl]; · iapply (whole_any c cc0_scratch8); iexact Rsl
    isplitl [Hpa]; · iapply (whole_any c cc0_scratch9); iexact Hpa
    isplitl [Rar]; · iapply (whole_any c cc0_scratch10); iexact Rar
    isplitl [Ras]; · iapply (whole_any c cc0_scratch11); iexact Ras
    isplitl [Rgr]; · iapply (whole_any c cc0_scratch12); iexact Rgr
    iapply (whole_any c cc0_scratch13); iexact Rgs
  isplitl [HO]; · iexact HO
  isplitl [Hx]; · iexact Hx
  isplitl [Hwq]; · iexact Hwq
  isplitl [Hwo]; · iexact Hwo
  iexact Hout

end

end Cert.Quad
end
-- ==== Proof.Launch.lean ====
/-
The launch: the proof data of the one region, its body's obligation, and the run of the whole program on all devices: every
device's result array ends at the computed contents, its arguments as they were, every semaphore at zero.
-/
module

public import proofs.«01_k».proof.Proof.Ends
public import Idealize.ShloMosaic.Lib.Pipeline.CollectiveSegs

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (ρ : Dev nD → PrngReg)

/-! ## The region's proof data -/

/-- What a device's kernel starts from beside its windows and its scratch buffers; -/
def start (c : Dev nD) : sProp 𝕄 :=
  iprop(G' m c ∗ levAts L lv ∗ (bigSep Finset.univ fun k : CIx => cred (tallyAt (kcell (c, k)) () (amt k))) ∗ kvAt m c)
/-- with the scratch buffers; -/
def Φ₀ (c : Dev nD) : sProp 𝕄 := iprop(start m c ∗ Pipeline.scopedRest cfg0.spec c)
/-- and what it ends with. -/
def Φ₁ (c : Dev nD) : sProp 𝕄 := iprop(kvAt m c ∗ unscopedSems0 c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => wqv m c
    | ⟨2, _⟩ => wov m c
    | ⟨3, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_eq (c : Dev nD) (b : Ref sig .tc) (X : b.ty.Contents (Elt F)) : (stg c b X : sProp 𝕄) = owns (c : Thread nD τ) (Memref.whole b) fullShare X :=
  (owns_whole_eq (c : Thread nD τ) b fullShare X).symm

/-- The body's precondition and postcondition as the region states them. -/
def regionPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def regionPost (c : Dev nD) : sProp 𝕄 :=
  iprop(Φ₁ m c ∗ (dats m 0 c).owesAt () t0_0.succ ∗ stg c cc0_stg0_0 (xv m c) ∗ stg c cc0_stg1_0 (wqv m c) ∗ stg c cc0_stg2_0 (wov m c) ∗ stg c cc0_stg3_0 (outF m c))

theorem before_0 (c : Dev nD) (d) : (dats m 0 c).before (0 : Fin 4) t0_0 d = xv m c := by
  unfold Dat.before; rw [if_pos (fetch0_0 t0_0)]; rfl
theorem before_1 (c : Dev nD) (d) : (dats m 0 c).before (1 : Fin 4) t0_0 d = wqv m c := by
  unfold Dat.before; rw [if_pos (fetch0_1 t0_0)]; rfl
theorem before_2 (c : Dev nD) (d) : (dats m 0 c).before (2 : Fin 4) t0_0 d = wov m c := by
  unfold Dat.before; rw [if_pos (fetch0_2 t0_0)]; rfl

/-- The start, with the invariants' names known, is what the body starts from. -/
theorem region_enter (c : Dev nD) : regionPre m c ⊢ iprop(∃ K, recs m K ∗ levAts L lv ∗ bodyPre m c) := by
  unfold regionPre Φ₀ start G'
  iintro ⟨⟨⟨⟨%K, #HR, Hlin⟩, HL, HC, Hkv⟩, Hsc⟩, Ho, ⟨%d0, Hx⟩, ⟨%d1, Hwq⟩, ⟨%d2, Hwo⟩, ⟨%d3, Hout⟩⟩
  iexists K
  isplitr; · iexact HR
  isplitl [HL]; · iexact HL
  iapply (enter m K c)
  isplitr; · iexact HR
  isplitl [Hlin]; · iexact Hlin
  isplitl [HC]; · iexact HC
  isplitl [Hkv]; · iexact Hkv
  isplitl [Hsc]; · iexact Hsc
  isplitl [Hx]
  · ihave Hx := (Entails.of_eq ((stg_eq c cc0_stg0_0 _).trans (congrArg (fun X => owns (c : Thread nD τ) xM fullShare X) (before_0 m c d0)))) $$ Hx
    iexact Hx
  isplitl [Hwq]
  · ihave Hwq := (Entails.of_eq ((stg_eq c cc0_stg1_0 _).trans (congrArg (fun X => owns (c : Thread nD τ) wqM fullShare X) (before_1 m c d1)))) $$ Hwq
    iexact Hwq
  isplitl [Hwo]
  · ihave Hwo := (Entails.of_eq ((stg_eq c cc0_stg2_0 _).trans (congrArg (fun X => owns (c : Thread nD τ) woM fullShare X) (before_2 m c d2)))) $$ Hwo
    iexact Hwo
  isplitl [Hout]
  · ihave Hout := (Entails.of_eq (stg_eq c cc0_stg3_0 _)) $$ Hout
    iexists _; iexact Hout
  unfold Dat.owesAt Pipeline.owesWithin owe
  icases Ho with ⟨%W, %hW, HO⟩
  iexists W
  iexact HO

theorem region_leave (c : Dev nD) (K : Dev nD × CIx → ℕ) : iprop(recs m K ∗ bodyEnd m c) ⊢ |={Set.univ}=> regionPost m c := by
  iintro H
  imod (leave m K c) $$ H with ⟨HΦ, HO, Hx, Hwq, Hwo, Hout⟩
  imodintro
  unfold regionPost Φ₁
  isplitl [HΦ]; · iexact HΦ
  isplitl [HO]
  · unfold Dat.owesAt Pipeline.owesWithin owe
    icases HO with ⟨%W, HO⟩
    iexists W
    isplitr
    · ipureintro; exact fun _ _ => Or.inl trivial
    iexact HO
  isplitl [Hx]; · rw [stg_eq]; iexact Hx
  isplitl [Hwq]; · rw [stg_eq]; iexact Hwq
  isplitl [Hwo]; · rw [stg_eq]; iexact Hwo
  rw [stg_eq]; iexact Hout

/-- The kernel's body meets the region's obligation. -/
theorem region_body (c : Dev nD) : regionPre m c ⊢ WP c (fun _ => regionPost m c) (bodyAt0 t0_0) := by
  refine (region_enter m c).trans ?_
  iintro ⟨%K, #HR, HL, HB⟩
  have H1 : iprop(recs m K ∗ levAts L lv ∗ bodyPre m c) ⊢ WP c (fun _ => bodyEnd m c) (bodyAt0 t0_0) := body_run m K c
  have H2 : iprop(recs m K ∗ WP c (fun _ => bodyEnd m c) (bodyAt0 t0_0)) ⊢ WP c (fun _ => regionPost m c) (bodyAt0 t0_0) := by
    refine BIBase.Entails.trans ?_ (wp_fupd _ _ _ _ _)
    refine BIBase.Entails.trans ?_ (wp_mono _ _ _ (fun _ => region_leave m c K))
    exact wp_frame_l _ _ _
  iapply H2
  isplitr; · iexact HR
  iapply H1
  isplitr; · iexact HR
  isplitl [HL]; · iexact HL
  iexact HB

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact region_body m c

/-! ## The launch's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hkv, Hlev, Hcr, -, HG⟩
  ihave Hc := (creds (F := F) c) $$ Hcr
  ihave Hkv := (show (Pipeline.unscopedRestP Pipeline.Prefetch.none cfg0.spec c (fun b => m ((c : Thread nD τ).loc b)) : sProp 𝕄) ⊢ kvAt m c from
    (Entails.of_eq (Pipeline.unscopedRestP_none cfg0.spec c _)).trans (Entails.of_eq (unscopedRest0_eq c _))) $$ Hkv
  imodintro
  unfold start
  isplitl
  · isplitl [HG]; · iexact HG
    isplitl [Hlev]; · iexact Hlev
    isplitl [Hc]; · iexact Hc
    iexact Hkv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop((kvAt m c ∗ unscopedSems0 c) ∗ Pipeline.ownSems0 osem c ∗ Pipeline.scopedRest cfg0.spec c) := by
  rw [show (dats m 0 c).Φ (Fin.last cfg0.N) = Φ₁ m c from rfl]
  unfold Φ₁
  iintro ⟨Hk, Hu, Ho, Hs⟩
  isplitl [Hk Hu]
  · isplitl [Hk] <;> iassumption
  isplitl [Ho] <;> iassumption

/-- The staging semaphores lie below everything a device owes. -/
theorem waits (c : Dev nD) : (levAts L lv : sProp 𝕄) ⊢ Pipeline.cellsWaits cfgs (dats m) () 0 c :=
  Pipeline.cellsWaits_intro cfgs (dats m) () 0 c fun w s t => by
    have h0 : ∀ n, above (.dma ((cfg0.win w).sem s)) n := fun n => by
      have hk : lvK (kd (.dma ((cfg0.win w).sem s))) = 0 := by fin_cases w <;> fin_cases s <;> rfl
      have hd : ∀ x ∈ debts.map (fun x => lvK (kd x.2.1)), 0 < x := by decide
      intro x hx
      rw [hk]
      refine hd x ?_
      rw [List.map_drop] at hx
      exact List.mem_of_mem_drop hx
    rcases t with ⟨_ | n, ht⟩
    · exact mayWait_left c _ 0 (h0 0)
    · exact mayWait_left c _ 18 (h0 18)

/-- What the key and value arrays hold in the end. -/
theorem kv_read (c : Dev nD) (s' : Phys nD τ sig (Elt F)) : iprop(kvAt m c ∗ SI s') ⊢ iprop(⌜s'.mem.mem ((c : Thread nD τ).loc main_arg2) = m ((c : Thread nD τ).loc main_arg2)
    ∧ s'.mem.mem ((c : Thread nD τ).loc main_arg3) = m ((c : Thread nD τ).loc main_arg3)⌝ ∗ SI s') := by
  have h := pointsTo_read_all (Ix := Unit) (Name := ℕ) (U := UU) (Lvl := ℕ) (Finset.univ : Finset Bool) (fun b => (c : Thread nD τ).loc (if b then main_arg3 else main_arg2))
    (fun b => m ((c : Thread nD τ).loc (if b then main_arg3 else main_arg2))) s'
  have h2 : (bigSep Finset.univ fun b : Bool => (((c : Thread nD τ).loc (if b then main_arg3 else main_arg2)) ↦{fullShare} m ((c : Thread nD τ).loc (if b then main_arg3 else main_arg2)) : sProp 𝕄)) = kvAt m c :=
    bigSep_univ_eq_bigSepL [false, true] (by decide) (by decide) _
  rw [h2] at h
  refine h.trans ?_
  iintro ⟨%h, HS⟩
  isplitr
  · ipureintro; exact ⟨h false (Finset.mem_univ _), h true (Finset.mem_univ _)⟩
  iexact HS

/-! ## The run -/

/-- What the run ends in: the windows' arrays at what the region leaves, the key and value arrays as they were. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- From any memory with zero counters every weakly fair execution of the program on the four devices terminates, in a state
    with every window's array at what the region leaves, the other arguments unchanged and every counter at zero. -/
theorem run_region : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(kvAt m c ∗ unscopedSems0 c)) (Z := fun _ => iprop(emp))
    (hX := start_intro m ρ) (hin := phi0_intro m) (hout := phi1_exit m)
    (QY := fun c s => (s.mem ((c : Thread nD τ).loc main_arg2) = m ((c : Thread nD τ).loc main_arg2)
      ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨Hk, Hu⟩, -, HSI⟩
      ihave Hk := (kv_read m c s') $$ [Hk HSI]
      · isplitl [Hk] <;> iassumption
      icases Hk with ⟨%hk, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hk, hu⟩
      iexact HSI)
    (hQ := fun _ h hs => ⟨fun c => ⟨fun w => (h c).1 w, (h c).2.2.1⟩, sem_eq_zero hs fun c => (h c).2.2.2⟩)

/-- The same, array by array. -/
theorem run_main : θ_run defs (onTc (τ := τ) (main (F := F))) ⟨m, fun _ => 0, ρ⟩ (fun r => (∀ c : Dev nD,
      r.2.mem ((c : Thread nD τ).loc main_v1) = (dats m 0 c).arrAt (3 : Fin 4) cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c).1 (3 : Fin 4), ((h.1 c).1 (0 : Fin 4)).trans ((dats m 0 c).arrAt_in (0 : Fin 4) rfl _),
    ((h.1 c).1 (1 : Fin 4)).trans ((dats m 0 c).arrAt_in (1 : Fin 4) rfl _), (h.1 c).2.1, (h.1 c).2.2,
    ((h.1 c).1 (2 : Fin 4)).trans ((dats m 0 c).arrAt_in (2 : Fin 4) rfl _)⟩, h.2⟩) (run_region m ρ)

/-- The arguments end as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_main m ρ)

end

end Cert.Quad
end
-- ==== Proof.Core.lean ====
/-
The softmax identity over the extended reals, apart from any program: a sum of values weighted by a masked softmax is
the quotient of two plain sums over the kept places, whatever the values are. And the re-indexing of the kept keys.
-/
module

public import Idealize.ShloMosaic.PureOps.Ideal
public import Mathlib.Algebra.BigOperators.Fin

@[expose] public section

noncomputable section

namespace Cert.Quad

open Idealize.ShloMosaic
open scoped BigOperators

/-! ## Finite extended reals -/

/-- The extended real is a real number. -/
def IsReal (x : EReal) : Prop := ∃ r : ℝ, x = (r : EReal)

/-- A real number is real, -/
theorem IsReal.coe (r : ℝ) : IsReal (r : EReal) := ⟨r, rfl⟩
/-- so is what is neither infinity. -/
theorem IsReal.of_ne {x : EReal} (h1 : x ≠ ⊤) (h2 : x ≠ ⊥) : IsReal x := ⟨x.toReal, (EReal.coe_toReal h1 h2).symm⟩
/-- An extended real whose absolute value, the larger of it and its negative, is below `⊤` is real. -/
theorem IsReal.of_abs {x : EReal} (h : max x (-x) < ⊤) : IsReal x := by
  refine IsReal.of_ne (fun e => ?_) (fun e => ?_)
  · subst e; simp at h
  · subst e; simp at h
/-- A product of reals is real, -/
theorem IsReal.mul {x y : EReal} : IsReal x → IsReal y → IsReal (x * y) := by
  rintro ⟨a, rfl⟩ ⟨b, rfl⟩; exact ⟨a * b, (EReal.coe_mul a b).symm⟩
/-- a sum is, -/
theorem IsReal.add {x y : EReal} : IsReal x → IsReal y → IsReal (x + y) := by
  rintro ⟨a, rfl⟩ ⟨b, rfl⟩; exact ⟨a + b, (EReal.coe_add a b).symm⟩

/-- A finite sum of reals, read as extended reals. -/
theorem coe_sum {J : Type} (A : Finset J) (f : J → ℝ) : ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- A finite sum of reals is real. -/
theorem IsReal.sum {J : Type} (A : Finset J) {f : J → EReal} (h : ∀ j ∈ A, IsReal (f j)) : IsReal (∑ j ∈ A, f j) := by
  classical
  induction A using Finset.induction_on with
  | empty => exact ⟨0, by simp⟩
  | insert a A ha ih =>
    rw [Finset.sum_insert ha]
    exact (h a (Finset.mem_insert_self _ _)).add (ih fun j hj => h j (Finset.mem_insert_of_mem hj))

/-- A real that is not negative goes into a finite sum, whatever is summed. -/
theorem mul_sum_of_nonneg {J : Type} (A : Finset J) {r : ℝ} (hr : 0 ≤ r) (f : J → EReal) :
    (r : EReal) * ∑ j ∈ A, f j = ∑ j ∈ A, (r : EReal) * f j := by
  classical
  induction A using Finset.induction_on with
  | empty => simp
  | insert a A ha ih =>
    rw [Finset.sum_insert ha, Finset.sum_insert ha,
      EReal.left_distrib_of_nonneg_of_ne_top (by exact_mod_cast hr) (EReal.coe_ne_top r), ih]

/-! ## The largest masked score -/

section Softmax
variable {J : Type} [Fintype J] (mask : J → Prop) [DecidablePred mask] (s : J → ℝ)

/-- A score where it is kept, `⊥` elsewhere. -/
def masked (j : J) : EReal := if mask j then (s j : EReal) else ⊥

/-- The largest masked score is a real number where something is kept. -/
theorem fold_max_real (hne : ∃ j, mask j) : IsReal (Finset.univ.fold max ⊥ (masked mask s)) := by
  classical
  obtain ⟨j, hj⟩ := hne
  refine IsReal.of_ne (fun e => ?_) (fun e => ?_)
  · have : Finset.univ.fold max ⊥ (masked mask s) < ⊤ :=
      (Finset.fold_max_lt ⊤).2 ⟨bot_lt_top, fun k _ => by
        unfold masked; split
        · exact EReal.coe_lt_top _
        · exact bot_lt_top⟩
    exact absurd e this.ne
  · have : (masked mask s) j ≤ Finset.univ.fold max ⊥ (masked mask s) :=
      (Finset.le_fold_max _).2 (.inr ⟨j, Finset.mem_univ j, le_refl _⟩)
    rw [e, masked, if_pos hj] at this
    exact absurd this (by simp)

/-- A masked score's exponential, taken from a real place. -/
theorem exp_masked (μ : ℝ) (j : J) :
    Ideal.exp (masked mask s j - (μ : EReal)) = (((if mask j then Real.exp (s j) * Real.exp (-μ) else 0 : ℝ)) : EReal) := by
  unfold masked
  split
  · rw [← EReal.coe_sub, Ideal.exp_coe, sub_eq_add_neg, Real.exp_add]
  · rw [EReal.bot_sub, Ideal.exp_bot, EReal.coe_zero]

/-- The sum of the kept exponentials is positive. -/
theorem kept_pos (hne : ∃ j, mask j) : 0 < ∑ j ∈ Finset.univ.filter mask, Real.exp (s j) := by
  obtain ⟨j, hj⟩ := hne
  exact Finset.sum_pos (fun k _ => Real.exp_pos _) ⟨j, Finset.mem_filter.2 ⟨Finset.mem_univ j, hj⟩⟩

/-- Values weighted by the masked softmax, as jnp computes it with the largest score taken away first, sum to the kept
    exponentials' sum against the values over the kept exponentials' sum. The values may be infinite. -/
theorem softmax_sum (hne : ∃ j, mask j) (V : J → EReal) {M : EReal} (hM : IsReal M) :
    (∑ j, V j * Ideal.div (Ideal.exp (masked mask s j - M)) (∑ k, Ideal.exp (masked mask s k - M)))
      = Ideal.div (∑ j ∈ Finset.univ.filter mask, Ideal.exp (s j) * V j) (∑ j ∈ Finset.univ.filter mask, Ideal.exp (s j)) := by
  obtain ⟨μ, rfl⟩ := hM
  have hZ := kept_pos mask s hne
  set Z : ℝ := ∑ j ∈ Finset.univ.filter mask, Real.exp (s j) with hZd
  have hz : (∑ k, Ideal.exp (masked mask s k - (μ : EReal))) = ((Z * Real.exp (-μ) : ℝ) : EReal) := by
    rw [Finset.sum_congr rfl fun k _ => exp_masked mask s μ k, ← coe_sum, ← Finset.sum_filter, hZd, Finset.sum_mul]
  have hd : (∑ j ∈ Finset.univ.filter mask, Ideal.exp (s j)) = (Z : EReal) := by rw [hZd, coe_sum]; rfl
  have he := Real.exp_pos (-μ)
  rw [hz, hd, Ideal.div_coe hZ.ne', EReal.mul_comm, mul_sum_of_nonneg _ (by positivity), Finset.sum_filter]
  refine Finset.sum_congr rfl fun j _ => ?_
  rw [exp_masked, Ideal.div_coe (mul_pos hZ he).ne', ← EReal.coe_mul]
  split
  · rw [Ideal.exp_coe, ← mul_assoc, ← EReal.coe_mul, mul_comm]
    congr 2
    field_simp
  · simp

end Softmax

/-! ## The kept keys -/

/-- Key `k` of sub-block `b` of block `t` of device `c`, in the whole sequence. -/
def keyAt (b : Fin 4) (c : Fin 4) (t : Fin 16) (k : Fin 64) : Fin 16384 := ⟨c.val * 4096 + (256 * t.val + (64 * b.val + k.val)), by omega⟩

/-- The keys whose 64-block has place `b` among four are device by device, block by block, the sub-blocks `b`. -/
theorem sum_kept (b : Fin 4) (f : Fin 16384 → EReal) :
    (∑ j ∈ Finset.univ.filter (fun j : Fin 16384 => j.val / 64 % 4 = b.val), f j) = ∑ c : Fin 4, ∑ t : Fin 16, ∑ k : Fin 64, f (keyAt b c t k) := by
  rw [Finset.sum_congr rfl fun c _ => (Fintype.sum_prod_type' (fun t k => f (keyAt b c t k))).symm,
    ← Fintype.sum_prod_type' (fun c (p : Fin 16 × Fin 64) => f (keyAt b c p.1 p.2))]
  symm
  refine Finset.sum_nbij' (fun p => keyAt b p.1 p.2.1 p.2.2)
    (fun j => (⟨j.val / 4096, by omega⟩, ⟨j.val % 4096 / 256, by omega⟩, ⟨j.val % 64, by omega⟩)) ?_ ?_ ?_ ?_ ?_
  · intro p _
    refine Finset.mem_filter.2 ⟨Finset.mem_univ _, ?_⟩
    have h1 := p.1.isLt; have h2 := p.2.1.isLt; have h3 := p.2.2.isLt; have h4 := b.isLt
    show (p.1.val * 4096 + (256 * p.2.1.val + (64 * b.val + p.2.2.val))) / 64 % 4 = b.val
    omega
  · intro j _; exact Finset.mem_univ _
  · rintro ⟨c, t, k⟩ _
    have h1 := c.isLt; have h2 := t.isLt; have h3 := k.isLt; have h4 := b.isLt
    refine Prod.ext (Fin.ext ?_) (Prod.ext (Fin.ext ?_) (Fin.ext ?_))
    · show (c.val * 4096 + (256 * t.val + (64 * b.val + k.val))) / 4096 = c.val; omega
    · show (c.val * 4096 + (256 * t.val + (64 * b.val + k.val))) % 4096 / 256 = t.val; omega
    · show (c.val * 4096 + (256 * t.val + (64 * b.val + k.val))) % 64 = k.val; omega
  · intro j hj
    have hj' := (Finset.mem_filter.1 hj).2
    have h1 := j.isLt; have h4 := b.isLt
    refine Fin.ext ?_
    show j.val / 4096 * 4096 + (256 * (j.val % 4096 / 256) + (64 * b.val + j.val % 64)) = j.val
    omega
  · intro p _; rfl

/-! ## Sums over the devices -/

/-- A sum over `4096` places, device by device. -/
theorem sum_4096 (f : Fin 4096 → EReal) : (∑ k, f k) = ∑ c : Fin 4, ∑ k : Fin 1024, f ⟨c.val * 1024 + k.val, by omega⟩ := by
  rw [← Fintype.sum_prod_type' (fun (c : Fin 4) (k : Fin 1024) => f ⟨c.val * 1024 + k.val, by omega⟩)]
  symm
  refine Finset.sum_nbij' (fun p => (⟨p.1.val * 1024 + p.2.val, by have := p.1.isLt; have := p.2.isLt; omega⟩ : Fin 4096))
    (fun j => ((⟨j.val / 1024, by omega⟩ : Fin 4), (⟨j.val % 1024, by omega⟩ : Fin 1024))) ?_ ?_ ?_ ?_ ?_
  · intro p _; exact Finset.mem_univ _
  · intro p _; exact Finset.mem_univ _
  · rintro ⟨c, k⟩ _
    have h1 := c.isLt; have h2 := k.isLt
    refine Prod.ext (Fin.ext ?_) (Fin.ext ?_)
    · show (c.val * 1024 + k.val) / 1024 = c.val; omega
    · show (c.val * 1024 + k.val) % 1024 = k.val; omega
  · intro j _; refine Fin.ext ?_; show j.val / 1024 * 1024 + j.val % 1024 = j.val; omega
  · intro p _; rfl

end Cert.Quad

end
-- ==== Proof.Pays.lean ====
/-
What the kernel's payloads compute at an index, over the extended reals.
-/
module

public import proofs.«01_k».proof.Proof.Sched
public import proofs.«01_k».proof.Proof.Core
public import Idealize.ShloMosaic.Lib.Pointwise

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-- The scale of the scores. -/
abbrev scl : EReal := Ideal.ofBits .f32 0x3DB504F3#32

/-- The query heads: the input against the query weights. -/
theorem pay15_at (x : Vec Ideal S256x1024 .f32) (w : Vec Ideal S1024x1024 .f32) (a : Fin 8) (r : Fin 256) (d : Fin 128) :
    k0_pay15 x w (ix3 a r d) = ∑ i : Fin 1024, x (ix2 r i) * w (ix2 i ⟨a.val * 128 + d.val, by omega⟩) := by
  pointwise [k0_pay15]

/-- A key block, heads first. -/
theorem pay1_at (K : Vec Ideal S1x256x32x128 .f32) (h : Fin 32) (r : Fin 256) (d : Fin 128) :
    k0_pay1 K (ix3 h r d) = K (ix4 0 r h d) := by
  pointwise [k0_pay1]

/-- One block's step of the sums: the exponentials of the scaled scores of its row block's keys are added, -/
theorem stepL_at (r : Fin 4) (K : Vec Ideal S1x256x32x128 .f32) (q : Vec Ideal S32x64x128 .bf16) (l : Vec Ideal S32x64 .f32) (h : Fin 32) (i : Fin 64) :
    stepL r K q l (ix2 h i) = l (ix2 h i) + ∑ k : Fin 64, Ideal.exp ((∑ d : Fin 128, q (ix3 h i d) * K (ix4 0 ⟨64 * r.val + k.val, by omega⟩ h d)) * scl) := by
  fin_cases r
  · show k0_pay4 (k0_pay3 K q) l (ix2 h i) = _
    pointwise [k0_pay4, k0_pay3, k0_pay1]
  · show k0_pay7 (k0_pay1 K) q l (ix2 h i) = _
    pointwise [k0_pay7, k0_pay6, k0_pay1]
  · show k0_pay11 (k0_pay1 K) q l (ix2 h i) = _
    pointwise [k0_pay11, k0_pay10, k0_pay1]
  · show k0_pay18 (k0_pay14 (k0_pay1 K) q l) (ix2 h i) = _
    pointwise [k0_pay18, k0_pay14, k0_pay13, k0_pay1]

/-- and of the outputs: the exponentials against the values. -/
theorem stepO_at (r : Fin 4) (K V : Vec Ideal S1x256x32x128 .f32) (q : Vec Ideal S32x64x128 .bf16) (o : Vec Ideal S32x64x128 .f32) (h : Fin 32) (i : Fin 64) (e : Fin 128) :
    stepO r K V q o (ix3 h i e) = o (ix3 h i e) + ∑ k : Fin 64, Ideal.exp ((∑ d : Fin 128, q (ix3 h i d) * K (ix4 0 ⟨64 * r.val + k.val, by omega⟩ h d)) * scl) * V (ix4 0 ⟨64 * r.val + k.val, by omega⟩ h e) := by
  fin_cases r
  · show k0_pay5 (k0_pay2 V) (k0_pay3 K q) o (ix3 h i e) = _
    pointwise [k0_pay5, k0_pay3, k0_pay1, k0_pay2]
  · show k0_pay9 (k0_pay8 (k0_pay1 K) (k0_pay2 V) q o) (ix3 h i e) = _
    pointwise [k0_pay9, k0_pay8, k0_pay6, k0_pay1, k0_pay2]
  · show k0_pay12 (k0_pay1 K) (k0_pay2 V) q o (ix3 h i e) = _
    pointwise [k0_pay12, k0_pay10, k0_pay1, k0_pay2]
  · show k0_pay19 (k0_pay2 V) (k0_pay13 (k0_pay1 K) q) o (ix3 h i e) = _
    pointwise [k0_pay19, k0_pay13, k0_pay1, k0_pay2]

/-- The normalized attention: four outputs' sum over four sums' sum. -/
theorem pay26_at (o : Vec Ideal S8x256x128 .f32) (o1 o2 o3 : Vec Ideal S1x8x256x128 .bf16) (l : Vec Ideal S8x256 .f32) (l1 l2 l3 : Vec Ideal S1x8x256 .bf16)
    (a : Fin 8) (r : Fin 256) (d : Fin 128) :
    k0_pay26 o o1 o2 o3 l l1 l2 l3 (ix3 a r d)
      = Ideal.div (o (ix3 a r d) + (o1 (ix4 0 a r d) + o2 (ix4 0 a r d) + o3 (ix4 0 a r d)))
          (l (ix2 a r) + (l1 (ix3 0 a r) + l2 (ix3 0 a r) + l3 (ix3 0 a r))) := by
  pointwise [k0_pay26]

/-- The attention against the output weights. -/
theorem pay27_at (p : FVec Ideal S8x256x128 .f32) (w : Vec Ideal S1024x1024 .f32) (r : Fin 256) (n : Fin 1024) :
    k0_pay27 p w (ix2 r n) = ∑ k : Fin 1024, p (ix3 ⟨k.val / 128, by omega⟩ r ⟨k.val % 128, by omega⟩) * w (ix2 k n) := by
  pointwise [k0_pay27]

/-- A row block of products, and three from the others added. -/
theorem pay34_at (p : Vec Ideal S64x1024 .f32) (a0 a1 a2 : Vec Ideal S1x64x1024 .bf16) (i : Fin 64) (n : Fin 1024) :
    k0_pay34 p (k0_pay32 a0) (k0_pay33 a1) a2 (ix2 i n) = p (ix2 i n) + (a0 (ix3 0 i n) + a1 (ix3 0 i n) + a2 (ix3 0 i n)) := by
  pointwise [k0_pay34, k0_pay32, k0_pay33]

end Cert.Quad
end
-- ==== Proof.KVal.lean ====
/-
The kernel's values at an index, over the extended reals: the queries, the sums and outputs over a device's own keys,
the normalized attention, the products with the output weights, and the result, in terms of the devices' arguments.
-/
module

public import proofs.«01_k».proof.Proof.Pays
public import Idealize.ShloMosaic.Lib.ValueLayout

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

variable (m : (ℓ : Loc nD τ sig) → Buf (Elt Ideal) ℓ)

/-- The arguments of device `c`, as arrays of extended reals. -/
def aX (c : Dev nD) : FVec Ideal S256x1024 .f32 := m ((c : Thread nD τ).loc main_arg0)
/-- Its query weights, -/
def aQ (c : Dev nD) : FVec Ideal S1024x1024 .f32 := m ((c : Thread nD τ).loc main_arg1)
/-- keys, -/
def aK (c : Dev nD) : FVec Ideal S4096x32x128 .f32 := m ((c : Thread nD τ).loc main_arg2)
/-- values -/
def aV (c : Dev nD) : FVec Ideal S4096x32x128 .f32 := m ((c : Thread nD τ).loc main_arg3)
/-- and output weights. -/
def aO (c : Dev nD) : FVec Ideal S1024x1024 .f32 := m ((c : Thread nD τ).loc main_arg4)

set_option backward.isDefEq.respectTransparency false in
/-- The input window holds the whole input, -/
theorem xv_eq (c : Dev nD) : xv m c = aX m c := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
set_option backward.isDefEq.respectTransparency false in
/-- the query weights' window all of them, -/
theorem wqv_eq (c : Dev nD) : wqv m c = aQ m c := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _
set_option backward.isDefEq.respectTransparency false in
/-- and the output weights' window all of them. -/
theorem wov_eq (c : Dev nD) : wov m c = aO m c := by
  have hz : (fun a => (win0_2.index (0 : Fin 1)) a * main_arg4.ty.shape.size a) = fun _ => 0 := funext fun a => by fin_cases a <;> decide
  exact Memref.read_access_unit_zero (Elt Ideal) main_arg4 hz (fun a => by fin_cases a <;> decide) _

/-! ## Places of the pieces -/

/-- Where row block `r` of a buffer of heads and rows lies, -/
theorem oR_emb (r : Fin 4) (h : Fin 32) (i : Fin 64) (d : Fin 128) : (oR r).emb (ix3 h i d) = ix3 h ⟨64 * r.val + i.val, by omega⟩ d := by
  funext a; apply Fin.ext
  match a with
  | ⟨0, _⟩ => show 0 + 1 * h.val = h.val; omega
  | ⟨1, _⟩ => show 64 * r.val + 1 * i.val = 64 * r.val + i.val; omega
  | ⟨2, _⟩ => show 0 + 1 * d.val = d.val; omega
/-- the eight heads of device `c`, -/
theorem qR_emb (c : Fin 4) (a : Fin 8) (r : Fin 256) (d : Fin 128) : (qR c).emb (ix3 a r d) = ix3 ⟨8 * c.val + a.val, by omega⟩ r d := by
  funext b; apply Fin.ext
  match b with
  | ⟨0, _⟩ => show 8 * c.val + 1 * a.val = 8 * c.val + a.val; omega
  | ⟨1, _⟩ => show 0 + 1 * r.val = r.val; omega
  | ⟨2, _⟩ => show 0 + 1 * d.val = d.val; omega
/-- the sums of its eight heads, -/
theorem ohR_emb (c : Fin 4) (a : Fin 8) (r : Fin 256) : (ohR c).emb (ix2 a r) = ix2 ⟨8 * c.val + a.val, by omega⟩ r := by
  funext b; apply Fin.ext
  match b with
  | ⟨0, _⟩ => show 8 * c.val + 1 * a.val = 8 * c.val + a.val; omega
  | ⟨1, _⟩ => show 0 + 1 * r.val = r.val; omega
/-- row block `c` of the products, -/
theorem paR_emb (c : Fin 4) (i : Fin 64) (n : Fin 1024) : (paR c).emb (ix2 i n) = ix2 ⟨64 * c.val + i.val, by omega⟩ n := by
  funext b; apply Fin.ext
  match b with
  | ⟨0, _⟩ => show 64 * c.val + 1 * i.val = 64 * c.val + i.val; omega
  | ⟨1, _⟩ => show 0 + 1 * n.val = n.val; omega
/-- and key block `g` of a device. -/
theorem kbR_emb (g : Fin 16) (k : Fin 256) (h : Fin 32) (d : Fin 128) : (kbR g).emb (ix3 k h d) = ix3 ⟨256 * g.val + k.val, by omega⟩ h d := by
  funext b; apply Fin.ext
  match b with
  | ⟨0, _⟩ => show 256 * g.val + 1 * k.val = 256 * g.val + k.val; omega
  | ⟨1, _⟩ => show 0 + 1 * h.val = h.val; omega
  | ⟨2, _⟩ => show 0 + 1 * d.val = d.val; omega

/-- A block of keys with a leading axis of one, at an index. -/
theorem unsq_hk1 (X : S256x32x128.Idx → EReal) (k : Fin 256) (h : Fin 32) (d : Fin 128) : unsq hk1 X (ix4 0 k h d) = X (ix3 k h d) := by
  unfold unsq
  refine congrArg X ((Equiv.symm_apply_eq _).2 ?_)
  rw [ix3_eq_valueIdx, ix4_eq_valueIdx]
  exact (ValueIdx.reshapeEquiv_ix3_1abc _ _ _ _).symm

/-- Key block `g` of device `c` at an index of its argument, -/
theorem kG_at (c : Dev nD) (g : Fin 16) (k : Fin 256) (h : Fin 32) (d : Fin 128) :
    unsq hk1 (kG m c g) (ix4 0 k h d) = aK m c (ix3 ⟨256 * g.val + k.val, by omega⟩ h d) := by
  rw [unsq_hk1 (kG m c g)]
  exact congrArg (aK m c) (kbR_emb g k h d)
/-- and value block `g`. -/
theorem vG_at (c : Dev nD) (g : Fin 16) (k : Fin 256) (h : Fin 32) (d : Fin 128) :
    unsq hk1 (vG m c g) (ix4 0 k h d) = aV m c (ix3 ⟨256 * g.val + k.val, by omega⟩ h d) := by
  rw [unsq_hk1 (vG m c g)]
  exact congrArg (aV m c) (kbR_emb g k h d)

/-! ## Queries and scores -/

/-- The owner of a head. -/
def ow (h : Fin 32) : Dev nD := ⟨h.val / 8, by have := h.isLt; show _ < 4; omega⟩

/-- The query of head `h`, row `r`, from its owner's input and query weights. -/
def qK (h : Fin 32) (r : Fin 256) (d : Fin 128) : EReal :=
  ∑ i : Fin 1024, aX m (ow h) (ix2 r i) * aQ m (ow h) (ix2 i ⟨h.val % 8 * 128 + d.val, by omega⟩)

/-- The gathered queries, at an index. -/
theorem qF_ix (h : Fin 32) (r : Fin 256) (d : Fin 128) : qF m (ix3 h r d) = qK m h r d := by
  have e : qF m (ix3 h r d) = qv m (ow h) (ix3 ⟨h.val % 8, by omega⟩ r d) := by
    refine congrArg (qv m (ow h)) (funext fun a => ?_)
    match a with
    | ⟨0, _⟩ => rfl
    | ⟨1, _⟩ => rfl
    | ⟨2, _⟩ => rfl
  rw [e, qv, xv_eq, wqv_eq, pay15_at]
  rfl

/-- The scaled score of head `h`, row `r` against key `j` of device `c`. -/
def sK (c : Dev nD) (h : Fin 32) (r : Fin 256) (j : Fin 4096) : EReal := (∑ d : Fin 128, qK m h r d * aK m c (ix3 j h d)) * scl

/-- Key `k` of sub-block `b` of block `t` of a device. -/
def kIx (b : Fin 4) (t : Fin 16) (k : Fin 64) : Fin 4096 := ⟨256 * t.val + (64 * b.val + k.val), by omega⟩

/-- The running sums of row block `b` after `t` key blocks, -/
theorem lB_at (c : Dev nD) (b : Fin 4) (h : Fin 32) (i : Fin 64) (t : ℕ) :
    lB m c b t (ix2 h i) = ∑ t' ∈ Finset.range t, ∑ k : Fin 64, Ideal.exp (sK m c h ⟨64 * b.val + i.val, by omega⟩ (kIx b (Fin.ofNat 16 t') k)) := by
  induction t with
  | zero =>
    show k0_pay17 (F := Ideal) _ = _
    pointwise [k0_pay17]
    simp
  | succ t ih =>
    rw [Finset.sum_range_succ, lB, stepL_at, ih]
    refine congrArg _ (Finset.sum_congr rfl fun k _ => ?_)
    unfold sK
    refine congrArg (fun z => Ideal.exp (z * scl)) (Finset.sum_congr rfl fun d _ => ?_)
    rw [kG_at]
    refine congrArg (· * _) ?_
    show qF m ((oR b).emb (ix3 h i d)) = _
    rw [oR_emb, qF_ix]

/-- and the running outputs. -/
theorem oB_at (c : Dev nD) (b : Fin 4) (h : Fin 32) (i : Fin 64) (e : Fin 128) (t : ℕ) :
    oB m c b t (ix3 h i e) = ∑ t' ∈ Finset.range t, ∑ k : Fin 64,
      Ideal.exp (sK m c h ⟨64 * b.val + i.val, by omega⟩ (kIx b (Fin.ofNat 16 t') k)) * aV m c (ix3 (kIx b (Fin.ofNat 16 t') k) h e) := by
  induction t with
  | zero =>
    show k0_pay16 (F := Ideal) _ = _
    pointwise [k0_pay16]
    simp
  | succ t ih =>
    rw [Finset.sum_range_succ, oB, stepO_at, ih]
    refine congrArg _ (Finset.sum_congr rfl fun k _ => ?_)
    rw [vG_at]
    refine congrArg (· * _) ?_
    unfold sK
    refine congrArg (fun z => Ideal.exp (z * scl)) (Finset.sum_congr rfl fun d _ => ?_)
    rw [kG_at]
    refine congrArg (· * _) ?_
    show qF m ((oR b).emb (ix3 h i d)) = _
    rw [oR_emb, qF_ix]

/-- The place of a row's 64-block. -/
def rb (r : Fin 256) : Fin 4 := ⟨r.val / 64, by omega⟩

/-- A number below 16, from its value. -/
theorem ofNat_val (t : Fin 16) : Fin.ofNat 16 t.val = t := by revert t; decide

/-- The sum of the exponentials over a device's own keys, -/
theorem lF_ix (c : Dev nD) (h : Fin 32) (r : Fin 256) :
    lF m c (ix2 h r) = ∑ t : Fin 16, ∑ k : Fin 64, Ideal.exp (sK m c h r (kIx (rb r) t k)) := by
  have e : lF m c (ix2 h r) = lB m c (rb r) 16 (ix2 h ⟨r.val % 64, by omega⟩) := by
    refine congrArg (lB m c (rb r) 16) (funext fun a => ?_)
    match a with
    | ⟨0, _⟩ => rfl
    | ⟨1, _⟩ => rfl
  have hr : (⟨64 * (rb r).val + r.val % 64, by have := (rb r).isLt; omega⟩ : Fin 256) = r := Fin.ext (by show 64 * (r.val / 64) + r.val % 64 = r.val; omega)
  rw [e, lB_at, Finset.sum_range]
  refine Finset.sum_congr rfl fun t _ => Finset.sum_congr rfl fun k _ => ?_
  rw [ofNat_val, hr]
/-- and of the exponentials against its values. -/
theorem oF_ix (c : Dev nD) (h : Fin 32) (r : Fin 256) (e : Fin 128) :
    oF m c (ix3 h r e) = ∑ t : Fin 16, ∑ k : Fin 64, Ideal.exp (sK m c h r (kIx (rb r) t k)) * aV m c (ix3 (kIx (rb r) t k) h e) := by
  have e' : oF m c (ix3 h r e) = oB m c (rb r) 16 (ix3 h ⟨r.val % 64, by omega⟩ e) := by
    refine congrArg (oB m c (rb r) 16) (funext fun a => ?_)
    match a with
    | ⟨0, _⟩ => rfl
    | ⟨1, _⟩ => rfl
    | ⟨2, _⟩ => rfl
  have hr : (⟨64 * (rb r).val + r.val % 64, by have := (rb r).isLt; omega⟩ : Fin 256) = r := Fin.ext (by show 64 * (r.val / 64) + r.val % 64 = r.val; omega)
  rw [e', oB_at, Finset.sum_range]
  refine Finset.sum_congr rfl fun t _ => Finset.sum_congr rfl fun k _ => ?_
  rw [ofNat_val, hr]

/-! ## The exchange -/

/-- A device's outputs for the heads of another, -/
theorem oH_ix (c c' : Dev nD) (a : Fin 8) (r : Fin 256) (d : Fin 128) : oH m c c' (ix3 a r d) = oF m c (ix3 ⟨8 * c'.val + a.val, by have : c'.val < 4 := c'.isLt; omega⟩ r d) :=
  congrArg (oF m c) (qR_emb c' a r d)
/-- and its sums for them. -/
theorem lH_ix (c c' : Dev nD) (a : Fin 8) (r : Fin 256) : lH m c c' (ix2 a r) = lF m c (ix2 ⟨8 * c'.val + a.val, by have : c'.val < 4 := c'.isLt; omega⟩ r) :=
  congrArg (lF m c) (ohR_emb c' a r)

/-- What a device sends of its outputs `d + 1` places ahead, -/
theorem soW_ix (c : Dev nD) (d : Fin 3) (a : Fin 8) (r : Fin 256) (e : Fin 128) : soW m c d (ix4 0 a r e) = oH m c (sh c (d.val + 1)) (ix3 a r e) := by
  fin_cases d
  · show k0_pay20 (oH m c (sh c 1)) (ix4 0 a r e) = _; pointwise [k0_pay20]
  · show k0_pay22 (oH m c (sh c 2)) (ix4 0 a r e) = _; pointwise [k0_pay22]
  · show k0_pay24 (oH m c (sh c 3)) (ix4 0 a r e) = _; pointwise [k0_pay24]
/-- of its sums, -/
theorem slW_ix (c : Dev nD) (d : Fin 3) (a : Fin 8) (r : Fin 256) : slW m c d (ix3 0 a r) = lH m c (sh c (d.val + 1)) (ix2 a r) := by
  fin_cases d
  · show k0_pay21 (lH m c (sh c 1)) (ix3 0 a r) = _; pointwise [k0_pay21]
  · show k0_pay23 (lH m c (sh c 2)) (ix3 0 a r) = _; pointwise [k0_pay23]
  · show k0_pay25 (lH m c (sh c 3)) (ix3 0 a r) = _; pointwise [k0_pay25]
/-- and of its products. -/
theorem asW_ix (c : Dev nD) (d : Fin 3) (i : Fin 64) (n : Fin 1024) : asW m c d (ix3 0 i n) = parR m c (sh c (d.val + 1)) (ix2 i n) := by
  fin_cases d
  · show k0_pay28 (parR m c (sh c 1)) (ix3 0 i n) = _; pointwise [k0_pay28]
  · show k0_pay30 (k0_pay29 (parR m c (sh c 2))) (ix3 0 i n) = _; pointwise [k0_pay30, k0_pay29]
  · show k0_pay31 (parR m c (sh c 3)) (ix3 0 i n) = _; pointwise [k0_pay31]

/-- What the device `d + 1` places before `c` sends that far ahead comes to `c`. -/
theorem sh_bk (c : Dev nD) (d : Fin 3) : sh (bk c d) (d.val + 1) = c := by
  revert c d; decide

/-- A sum over the devices, from `c`. -/
theorem sum_dev (c : Dev nD) (f : Dev nD → EReal) : f c + (f (bk c 0) + f (bk c 1) + f (bk c 2)) = ∑ c', f c' := by
  have h : ∀ c : Dev nD, (bk c 0, bk c 1, bk c 2) = (sh c 3, sh c 2, sh c 1) := by decide
  rw [show (∑ c', f c') = ∑ c' : Fin 4, f c' from rfl, Fin.sum_univ_four]
  have hc : c = (0 : Fin 4) ∨ c = (1 : Fin 4) ∨ c = (2 : Fin 4) ∨ c = (3 : Fin 4) := by revert c; decide
  rcases hc with rfl | rfl | rfl | rfl
  · show f (0 : Fin 4) + (f (3 : Fin 4) + f (2 : Fin 4) + f (1 : Fin 4)) = _; ac_rfl
  · show f (1 : Fin 4) + (f (0 : Fin 4) + f (3 : Fin 4) + f (2 : Fin 4)) = _; ac_rfl
  · show f (2 : Fin 4) + (f (1 : Fin 4) + f (0 : Fin 4) + f (3 : Fin 4)) = _; ac_rfl
  · show f (3 : Fin 4) + (f (2 : Fin 4) + f (1 : Fin 4) + f (0 : Fin 4)) = _; ac_rfl

/-- Head `a` of device `c`'s eight. -/
def hd (c : Dev nD) (a : Fin 8) : Fin 32 := ⟨8 * c.val + a.val, by have : c.val < 4 := c.isLt; omega⟩

/-- The normalized attention of a device's heads: the devices' outputs summed over the devices' sums summed. -/
theorem att_ix (c : Dev nD) (a : Fin 8) (r : Fin 256) (d : Fin 128) :
    att m c (ix3 a r d) = Ideal.div (∑ c', oF m c' (ix3 (hd c a) r d)) (∑ c', lF m c' (ix2 (hd c a) r)) := by
  rw [att, pay26_at]
  simp only [soW_ix, slW_ix, sh_bk]
  rw [oH_ix, oH_ix, oH_ix, oH_ix, lH_ix, lH_ix, lH_ix, lH_ix, ← sum_dev c (fun c' => oF m c' (ix3 (hd c a) r d)), ← sum_dev c (fun c' => lF m c' (ix2 (hd c a) r))]
  rfl

/-- A device's products: its attention with its output weights. -/
theorem par_ix (c : Dev nD) (r : Fin 256) (n : Fin 1024) :
    par m c (ix2 r n) = ∑ k : Fin 1024, att m c (ix3 ⟨k.val / 128, by omega⟩ r ⟨k.val % 128, by omega⟩) * aO m c (ix2 k n) := by
  rw [par, pay27_at, wov_eq]

/-- A row block of the products. -/
theorem parR_ix (c c' : Dev nD) (i : Fin 64) (n : Fin 1024) : parR m c c' (ix2 i n) = par m c (ix2 ⟨64 * c'.val + i.val, by have : c'.val < 4 := c'.isLt; omega⟩ n) :=
  congrArg (par m c) (paR_emb c' i n)

/-- A reduced row block is the sum of the devices' products. -/
theorem red_ix (c : Dev nD) (i : Fin 64) (n : Fin 1024) :
    red m c (ix2 i n) = ∑ c', par m c' (ix2 ⟨64 * c.val + i.val, by have : c.val < 4 := c.isLt; omega⟩ n) := by
  rw [red, pay34_at]
  simp only [asW_ix, sh_bk]
  rw [parR_ix, parR_ix, parR_ix, parR_ix, ← sum_dev c]

/-- The reduced rows that a device sends to all. -/
theorem gsW_ix (c : Dev nD) (i : Fin 64) (n : Fin 1024) : gsW m c (ix3 0 i n) = red m c (ix2 i n) := by
  unfold gsW red
  pointwise [k0_pay35]

/-- The rows that land from the others, put in the result: from one place behind, -/
theorem pay36_at (g : Vec Ideal S1x64x1024 .bf16) (i : Fin 64) (n : Fin 1024) : k0_pay36 g (ix2 i n) = g (ix3 0 i n) := by pointwise [k0_pay36]
/-- from two, -/
theorem pay37_at (g : Vec Ideal S1x64x1024 .bf16) (i : Fin 64) (n : Fin 1024) : k0_pay37 g (ix2 i n) = g (ix3 0 i n) := by pointwise [k0_pay37]
/-- and from three. -/
theorem pay38_at (g : Vec Ideal S1x64x1024 .bf16) (i : Fin 64) (n : Fin 1024) : k0_pay38 g (ix2 i n) = g (ix3 0 i n) := by pointwise [k0_pay38]

/-- A device that is not this one, nor the first or second behind it, is the third. -/
theorem last_bk (c h : Dev nD) (h0 : h ≠ c) (h1 : h ≠ bk c 0) (h2 : h ≠ bk c 1) : h = bk c 2 := by revert c h; decide

/-- Every row block of every device's result is its owner's reduced block. -/
theorem outB_ix (c h : Dev nD) (i : Fin 64) (n : Fin 1024) : outB m c h (ix2 i n) = red m h (ix2 i n) := by
  unfold outB
  split
  · rename_i e; rw [e]
  · split
    · rename_i e; rw [pay36_at, gsW_ix, e]
    · split
      · rename_i e; rw [pay37_at, gsW_ix, e]
      · rename_i e0 e1 e2; rw [pay38_at, gsW_ix, last_bk c h e0 e1 e2]

/-- A device's result: the sum over all devices of the products of their attention with their output weights. -/
theorem outF_ix (c : Dev nD) (r : Fin 256) (n : Fin 1024) :
    outF m c (ix2 r n) = ∑ c' : Dev nD, ∑ k : Fin 1024, att m c' (ix3 ⟨k.val / 128, by omega⟩ r ⟨k.val % 128, by omega⟩) * aO m c' (ix2 k n) := by
  have e : outF m c (ix2 r n) = outB m c (rb r) (ix2 ⟨r.val % 64, by omega⟩ n) := by
    refine congrArg (outB m c (rb r)) (funext fun a => ?_)
    match a with
    | ⟨0, _⟩ => rfl
    | ⟨1, _⟩ => rfl
  have hr : (⟨64 * (rb r).val + r.val % 64, by have := (rb r).isLt; omega⟩ : Fin 256) = r := Fin.ext (by show 64 * (r.val / 64) + r.val % 64 = r.val; omega)
  rw [e, outB_ix, red_ix]
  refine Finset.sum_congr rfl fun c' _ => ?_
  rw [show (⟨64 * (rb r).val + (⟨r.val % 64, by omega⟩ : Fin 64).val, by have := (rb r).isLt; show 64 * (rb r).val + r.val % 64 < 256; omega⟩ : Fin 256) = r from hr, par_ix]

end Cert.Quad
end
-- ==== Proof.RTerm.lean ====
/-
The reference's result term by its parts.
-/
module

public import proofs.«01_k».proof.Proof.Gen.ReferenceIdeal.Run
public import Idealize.ShloMosaic.Lib.Pointwise
public import Idealize.ShloMosaic.PureOps.Ideal

@[expose] public section

set_option maxRecDepth 16384

noncomputable section

namespace Cert.Quad.Ref

open Cert.ReferenceIdeal Cert.ReferenceIdeal.Gen Cert.ReferenceIdeal.Value Idealize.ShloMosaic Idealize.ShloMosaic.TcCoe Idealize.SL.Sem
open scoped BigOperators

/-- The 64-block of each query row -/
def qbT : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- and of each key. -/
def kbT : IVec S16384 32 :=
  select (andi (cmpi .ne (signi (iotaInDim S16384 32 0)) (broadcastInDim S16384 ![] bcast_S_S16384 (signi (id (constantI S_ 32 64#32))))) (cmpi .ne (Host.remsi (iotaInDim S16384 32 0) (broadcastInDim S16384 ![] bcast_S_S16384 (id (constantI S_ 32 64#32)))) (broadcastInDim S16384 ![] bcast_S_S16384 (constantI S_ 32 0#32)))) (subi (Host.divsi (iotaInDim S16384 32 0) (broadcastInDim S16384 ![] bcast_S_S16384 (id (constantI S_ 32 64#32)))) (broadcastInDim S16384 ![] bcast_S_S16384 (constantI S_ 32 1#32))) (Host.divsi (iotaInDim S16384 32 0) (broadcastInDim S16384 ![] bcast_S_S16384 (id (constantI S_ 32 64#32))))

/-- The divisor four, guarded against zero. -/
def fourT : IVec S_ 32 :=
  select (cmpi .eq (id (constantI S_ 32 4#32)) (constantI S_ 32 0#32)) (constantI S_ 32 1#32) (id (constantI S_ 32 4#32))

/-- Remainders by four of the key blocks -/
def kRemT : IVec S1x16384 32 :=
  Host.remsi (broadcastInDim S1x16384 ![1] bcast_S16384_S1x16384_1 kbT) (broadcastInDim S1x16384 ![] bcast_S_S1x16384 fourT)

/-- and of the row blocks. -/
def qRemT : IVec S256x1 32 :=
  Host.remsi (broadcastInDim S256x1 ![0] bcast_S256_S256x1_0 qbT) (broadcastInDim S256x1 ![] bcast_S_S256x1 fourT)

/-- The same, of the divisor's sign, -/
def kModT : IVec S1x16384 32 :=
  select (andi (cmpi .ne (cmpi .slt kRemT (broadcastInDim S1x16384 ![] bcast_S_S1x16384 (constantI S_ 32 0#32))) (broadcastInDim S1x16384 ![] bcast_S_S1x16384 (cmpi .slt fourT (constantI S_ 32 0#32)))) (cmpi .ne kRemT (broadcastInDim S1x16384 ![] bcast_S_S1x16384 (constantI S_ 32 0#32)))) (addi kRemT (broadcastInDim S1x16384 ![] bcast_S_S1x16384 fourT)) kRemT

/-- for keys and for rows. -/
def qModT : IVec S256x1 32 :=
  select (andi (cmpi .ne (cmpi .slt qRemT (broadcastInDim S256x1 ![] bcast_S_S256x1 (constantI S_ 32 0#32))) (broadcastInDim S256x1 ![] bcast_S_S256x1 (cmpi .slt fourT (constantI S_ 32 0#32)))) (cmpi .ne qRemT (broadcastInDim S256x1 ![] bcast_S_S256x1 (constantI S_ 32 0#32)))) (addi qRemT (broadcastInDim S256x1 ![] bcast_S_S256x1 fourT)) qRemT

/-- Whether a row sees a key. -/
def maskT : IVec S256x16384 1 :=
  ori (cmpi .eq (broadcastInDim S256x16384 ![0, 1] bcast_S256x1_S256x16384_0_1 (broadcastInDim S256x1 ![0] bcast_S256_S256x1_0 qbT)) (broadcastInDim S256x16384 ![0, 1] bcast_S1x16384_S256x16384_0_1 (broadcastInDim S1x16384 ![1] bcast_S16384_S1x16384_1 kbT))) (cmpi .eq (broadcastInDim S256x16384 ![0, 1] bcast_S1x16384_S256x16384_0_1 kModT) (broadcastInDim S256x16384 ![0, 1] bcast_S256x1_S256x16384_0_1 qModT))

/-- Whether a row sees any key. -/
def keepT : IVec S256 1 :=
  Host.reduce IntOp.ori maskT (constantI S_ 1 0#1) reducesTo_S256x16384_S256_d1 h_S_

/-- The masked scores. -/
def smT (x : FVec Ideal S256x1024 .f32) (w : FVec Ideal S1024x4096 .f32) (k : FVec Ideal S16384x32x128 .f32) : FVec Ideal S32x256x16384 .f32 :=
  select (broadcastInDim S32x256x16384 ![0, 1, 2] bcast_S1x256x16384_S32x256x16384_0_1_2 (broadcastInDim S1x256x16384 ![1, 2] bcast_S256x16384_S1x256x16384_1_2 maskT)) (mulf (Host.dotGeneral dot_S256x32x128_S16384x32x128_S32x256x16384_2_2_0_0_1_1 none (shapeCast _ (Host.dotGeneral dot_S256x1024_S1024x4096_S256x4096_1_0_0_1_n_n none x w) shapeCasts_S256x4096_S256x32x128) k) (broadcastInDim S32x256x16384 ![] bcast_S_S32x256x16384 (constant S_ .f32 0x3DB504F3#32))) (broadcastInDim S32x256x16384 ![] bcast_S_S32x256x16384 (id (constant S_ .f32 0xFF800000#32)))

/-- Their exponentials, the largest taken away first. -/
def eT (x : FVec Ideal S256x1024 .f32) (w : FVec Ideal S1024x4096 .f32) (k : FVec Ideal S16384x32x128 .f32) : FVec Ideal S32x256x16384 .f32 :=
  Host.exp (subf (smT x w k) (broadcastInDim S32x256x16384 ![0, 1, 2] bcast_S32x256x1_S32x256x16384_0_1_2 (broadcastInDim S32x256x1 ![0, 1] bcast_S32x256_S32x256x1_0_1 (Host.reduce FloatOps.maximumf (smT x w k) (constant S_ .f32 0xFF800000#32) reducesTo_S32x256x16384_S32x256_d2 h_S_))))

/-- Exponentials over their sums, where a row sees any key. -/
def divT (kp : IVec S256 1) (e : FVec Ideal S32x256x16384 .f32) : FVec Ideal S32x256x16384 .f32 :=
  select (broadcastInDim S32x256x16384 ![0, 1, 2] bcast_S1x256x1_S32x256x16384_0_1_2 (broadcastInDim S1x256x1 ![1] bcast_S256_S1x256x1_1 kp)) (Host.divf e (broadcastInDim S32x256x16384 ![0, 1, 2] bcast_S32x256x1_S32x256x16384_0_1_2 (select (broadcastInDim S32x256x1 ![0, 1, 2] bcast_S1x256x1_S32x256x1_0_1_2 (broadcastInDim S1x256x1 ![1] bcast_S256_S1x256x1_1 kp)) (broadcastInDim S32x256x1 ![0, 1] bcast_S32x256_S32x256x1_0_1 (Host.reduceAdd e (constant S_ .f32 0x00000000#32) reducesTo_S32x256x16384_S32x256_d2 h_S_)) (broadcastInDim S32x256x1 ![] bcast_S_S32x256x1 (id (constant S_ .f32 0x3F800000#32)))))) (broadcastInDim S32x256x16384 ![] bcast_S_S32x256x16384 (id (constant S_ .f32 0x00000000#32)))

/-- The softmax. -/
def pT (x : FVec Ideal S256x1024 .f32) (w : FVec Ideal S1024x4096 .f32) (k : FVec Ideal S16384x32x128 .f32) : FVec Ideal S32x256x16384 .f32 :=
  divT keepT (eT x w k)

/-- The attention, heads first. -/
def ctxT (x : FVec Ideal S256x1024 .f32) (w : FVec Ideal S1024x4096 .f32) (k : FVec Ideal S16384x32x128 .f32) (v : FVec Ideal S16384x32x128 .f32) : FVec Ideal S32x128x256 .f32 :=
  Host.dotGeneral dot_S16384x32x128_S32x256x16384_S32x128x256_0_2_2_1_1_0 none v (pT x w k)

/-- The product of an attention with the output weights. -/
def outT (g : FVec Ideal S32x128x256 .f32) (o : FVec Ideal S4096x1024 .f32) : FVec Ideal S256x1024 .f32 :=
  Host.dotGeneral dot_S256x4096_S4096x1024_S256x1024_1_0_0_1_n_n none (shapeCast _ (transpose S256x32x128 [2, 0, 1] g transposes_S32x128x256_S256x32x128_2_0_1) shapeCasts_S256x32x128_S256x4096) o

/-- The reference's result from its arguments. -/
def refT (x : FVec Ideal S256x1024 .f32) (w : FVec Ideal S1024x4096 .f32) (k : FVec Ideal S16384x32x128 .f32) (v : FVec Ideal S16384x32x128 .f32) (o : FVec Ideal S4096x1024 .f32) : FVec Ideal S256x1024 .f32 :=
  outT (ctxT x w k v) o

/-- The reference's result is its parts put together. -/
theorem res_eq (m : (ℓ : Loc nD τ sig) → Buf (Elt Ideal) ℓ) (c : Dev nD) :
    res_main_v39 m c = refT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Quad.Ref
end
-- ==== Proof.RVal.lean ====
/-
The reference's result at an index, over the extended reals: of real scores, each head's attention is the kept
exponentials' sum against the values over their sum, key by key of each of four quarters.
-/
module

public import proofs.«01_k».proof.Proof.RTerm
public import proofs.«01_k».proof.Proof.Core

@[expose] public section

set_option maxRecDepth 16384

noncomputable section

namespace Cert.Quad.Ref

open Cert.ReferenceIdeal Cert.ReferenceIdeal.Gen Idealize.ShloMosaic Idealize.ShloMosaic.TcCoe Idealize.SL.Sem
open scoped BigOperators

/-! ## Words -/

/-- The quotient by 64 rounded down, as the program spells it, -/
def fd (x : BitVec 32) : BitVec 32 :=
  Scalar.select
      (IntOp.andi
        (IntOp.cmpi CmpIPredicate.ne (if x = 0 then (0 : BitVec 32) else if x.msb = true then -1 else 1)
          (if (64#32 : BitVec 32) = 0 then (0 : BitVec 32) else if (64#32 : BitVec 32).msb = true then -1 else 1))
        (IntOp.cmpi CmpIPredicate.ne (IntOp.remsi ArithUnit.host x 64#32) 0#32))
      (IntOp.subi (IntOp.divsi ArithUnit.host x 64#32) 1#32)
      (IntOp.divsi ArithUnit.host x 64#32)
/-- and the remainder by 4. -/
def md (x : BitVec 32) : BitVec 32 :=
  Scalar.select
      (IntOp.andi
        (IntOp.cmpi CmpIPredicate.ne
          (IntOp.cmpi CmpIPredicate.slt (IntOp.remsi ArithUnit.host x (Scalar.select (IntOp.cmpi CmpIPredicate.eq 4#32 0#32) 1#32 4#32)) 0#32)
          (IntOp.cmpi CmpIPredicate.slt (Scalar.select (IntOp.cmpi CmpIPredicate.eq 4#32 0#32) 1#32 4#32) 0#32))
        (IntOp.cmpi CmpIPredicate.ne (IntOp.remsi ArithUnit.host x (Scalar.select (IntOp.cmpi CmpIPredicate.eq 4#32 0#32) 1#32 4#32)) 0#32))
      (IntOp.addi (IntOp.remsi ArithUnit.host x (Scalar.select (IntOp.cmpi CmpIPredicate.eq 4#32 0#32) 1#32 4#32))
        (Scalar.select (IntOp.cmpi CmpIPredicate.eq 4#32 0#32) 1#32 4#32))
      (IntOp.remsi ArithUnit.host x (Scalar.select (IntOp.cmpi CmpIPredicate.eq 4#32 0#32) 1#32 4#32))

/-- The quotient is the numbers' quotient, -/
theorem fd_split : ∀ a b : Fin 128, fd (BitVec.ofNat 32 (128 * a.val + b.val)) = BitVec.ofNat 32 ((128 * a.val + b.val) / 64) := by decide +kernel
/-- for every number below 16384, -/
theorem fd_of (n : ℕ) (h : n < 16384) : fd (BitVec.ofNat 32 n) = BitVec.ofNat 32 (n / 64) := by
  have := fd_split ⟨n / 128, by omega⟩ ⟨n % 128, by omega⟩
  have e : 128 * (n / 128) + n % 128 = n := by omega
  simpa only [e] using this
/-- and the remainder the numbers' remainder. -/
theorem md_of : ∀ a : Fin 256, md (BitVec.ofNat 32 a.val) = BitVec.ofNat 32 (a.val % 4) := by decide +kernel

/-- The 64-block of a row, -/
theorem qbT_at (r : Fin 256) : qbT (ix1 r) = BitVec.ofNat 32 (r.val / 64) := by
  refine Eq.trans ?_ (fd_of r.val (by omega))
  pointwise [qbT]
  rfl
/-- and of a key. -/
theorem kbT_at (j : Fin 16384) : kbT (ix1 j) = BitVec.ofNat 32 (j.val / 64) := by
  refine Eq.trans ?_ (fd_of j.val (by omega))
  pointwise [kbT]
  rfl
/-- The key block's place among four, -/
theorem kModT_at (j : Fin 16384) : kModT (ix2 0 j) = BitVec.ofNat 32 (j.val / 64 % 4) := by
  refine Eq.trans ?_ (md_of ⟨j.val / 64, by omega⟩)
  rw [← kbT_at]
  pointwise [kModT, kRemT, fourT]
  rfl
/-- and the row block's, which is itself. -/
theorem qModT_at (r : Fin 256) : qModT (ix2 r 0) = BitVec.ofNat 32 (r.val / 64) := by
  have e : r.val / 64 = r.val / 64 % 4 := by omega
  rw [e]
  refine Eq.trans ?_ (md_of ⟨r.val / 64, by omega⟩)
  rw [← qbT_at]
  pointwise [qModT, qRemT, fourT]
  rfl

/-- A key is seen if its block is the row's or has the row block's place among four, that is, if it has that place. -/
theorem see : ∀ (a : Fin 4) (b : Fin 256), IntOp.ori (IntOp.cmpi CmpIPredicate.eq (BitVec.ofNat 32 a.val) (BitVec.ofNat 32 b.val))
    (IntOp.cmpi CmpIPredicate.eq (BitVec.ofNat 32 (b.val % 4)) (BitVec.ofNat 32 a.val)) = if b.val % 4 = a.val then 1#1 else 0#1 := by decide +kernel

/-- A row sees the keys whose 64-block has the row block's place among four. -/
theorem maskT_at (r : Fin 256) (j : Fin 16384) : maskT (ix2 r j) = if j.val / 64 % 4 = r.val / 64 then 1#1 else 0#1 := by
  pointwise [maskT]
  rw [qbT_at, kbT_at, kModT_at, qModT_at]
  exact see ⟨r.val / 64, by omega⟩ ⟨j.val / 64, by omega⟩

/-- A disjunction with a true part is true. -/
theorem fold_or {J : Type} (A : Finset J) (f : J → BitVec 1) (j : J) (hj : j ∈ A) (h : f j = 1#1) : A.fold IntOp.ori 0#1 f = 1#1 := by
  classical
  have h1 : ∀ y : BitVec 1, IntOp.ori 1#1 y = 1#1 := by decide
  rw [← Finset.insert_erase hj, Finset.fold_insert (Finset.notMem_erase j A), h, h1]

/-- Every row sees a key. -/
theorem keepT_at (r : Fin 256) : keepT (ix1 r) = 1#1 := by
  pointwise [keepT]
  refine fold_or _ _ ⟨r.val, by omega⟩ (Finset.mem_univ _) ?_
  rw [maskT_at, if_pos]
  show r.val / 64 % 4 = r.val / 64
  omega

/-! ## Floats -/

/-- The scale of the scores. -/
abbrev sclR : EReal := Ideal.ofBits .f32 0x3DB504F3#32

/-- It is a real number. -/
theorem sclR_real : IsReal sclR := by
  refine IsReal.of_ne ?_ ?_ <;> · simp [Ideal.ofBits, Ideal.ieee, -EReal.coe_mul]
/-- The word of minus infinity. -/
theorem neg_inf : Ideal.ofBits .f32 0xFF800000#32 = ⊥ := by simp [Ideal.ofBits, Ideal.ieee]

variable (x : FVec Ideal S256x1024 .f32) (w : FVec Ideal S1024x4096 .f32) (k v : FVec Ideal S16384x32x128 .f32) (o : FVec Ideal S4096x1024 .f32)

/-- The query of head `h`, row `r`, -/
def qR (h : Fin 32) (r : Fin 256) (d : Fin 128) : EReal := ∑ i : Fin 1024, x (ix2 r i) * w (ix2 i ⟨h.val * 128 + d.val, by omega⟩)
/-- and its scaled score against key `j`. -/
def sR (h : Fin 32) (r : Fin 256) (j : Fin 16384) : EReal := (∑ d : Fin 128, qR x w h r d * k (ix3 j h d)) * sclR

/-- The masked scores at an index, -/
theorem smT_at (h : Fin 32) (r : Fin 256) (j : Fin 16384) :
    smT x w k (ix3 h r j) = if j.val / 64 % 4 = r.val / 64 then sR x w k h r j else ⊥ := by
  have e : smT x w k (ix3 h r j) = Scalar.select (maskT (ix2 r j)) (sR x w k h r j) (Ideal.ofBits .f32 0xFF800000#32) := by
    pointwise [smT]
    rfl
  rw [e, maskT_at, neg_inf]
  by_cases hj : j.val / 64 % 4 = r.val / 64
  · rw [if_pos hj, if_pos hj]; exact if_pos rfl
  · rw [if_neg hj, if_neg hj]; exact if_neg (by decide)

/-- their exponentials, the row's largest taken away, -/
theorem eT_at (h : Fin 32) (r : Fin 256) (j : Fin 16384) :
    eT x w k (ix3 h r j) = Ideal.exp (smT x w k (ix3 h r j) - Finset.univ.fold max ⊥ fun j' => smT x w k (ix3 h r j')) := by
  pointwise [eT]
  rw [neg_inf]

/-- A choice on a true condition. -/
theorem select_one (a b : EReal) : Scalar.select 1#1 a b = a := if_pos rfl

/-- Exponentials over their row's sum, where the row sees a key. -/
theorem divT_at (kp : IVec S256 1) (e : FVec Ideal S32x256x16384 .f32) (h : Fin 32) (r : Fin 256) (j : Fin 16384) (hk : kp (ix1 r) = 1#1) :
    divT kp e (ix3 h r j) = Ideal.div (e (ix3 h r j)) (∑ j', e (ix3 h r j')) := by
  pointwise [divT]
  rw [hk, select_one, select_one]

/-- The softmax at an index: every row sees a key. -/
theorem pT_at (h : Fin 32) (r : Fin 256) (j : Fin 16384) :
    pT x w k (ix3 h r j) = Ideal.div (eT x w k (ix3 h r j)) (∑ j', eT x w k (ix3 h r j')) := by
  exact divT_at keepT (eT x w k) h r j (keepT_at r)

/-- The attention as a sum over all keys. -/
theorem ctxT_sum (h : Fin 32) (d : Fin 128) (r : Fin 256) : ctxT x w k v (ix3 h d r) = ∑ j, v (ix3 j h d) * pT x w k (ix3 h r j) := by
  pointwise [ctxT]

/-- The attention of head `h`, row `r`: over the keys the row sees, quarter by quarter. -/
theorem ctxT_at (hs : ∀ h r j, IsReal (sR x w k h r j)) (h : Fin 32) (d : Fin 128) (r : Fin 256) (b : Fin 4) (hb : b.val = r.val / 64) :
    ctxT x w k v (ix3 h d r) =
      Ideal.div (∑ c : Fin 4, ∑ t : Fin 16, ∑ i : Fin 64, Ideal.exp (sR x w k h r (keyAt b c t i)) * v (ix3 (keyAt b c t i) h d))
        (∑ c : Fin 4, ∑ t : Fin 16, ∑ i : Fin 64, Ideal.exp (sR x w k h r (keyAt b c t i))) := by
  choose s hs' using fun j => hs h r j
  have hm : ∀ j, smT x w k (ix3 h r j) = masked (fun j : Fin 16384 => j.val / 64 % 4 = b.val) s j := fun j => by
    rw [smT_at, hb, hs' j]; rfl
  have hne : ∃ j : Fin 16384, j.val / 64 % 4 = b.val := ⟨⟨64 * b.val, by omega⟩, by show 64 * b.val / 64 % 4 = b.val; omega⟩
  rw [ctxT_sum]
  simp only [pT_at, eT_at, hm]
  rw [softmax_sum _ s hne (fun j => v (ix3 j h d)) (fold_max_real _ s hne),
    sum_kept b (fun j => Ideal.exp (s j) * v (ix3 j h d)), sum_kept b (fun j => Ideal.exp (s j))]
  simp only [hs']

/-- The product with the output weights, quarter by quarter. -/
theorem outT_at (g : FVec Ideal S32x128x256 .f32) (r : Fin 256) (n : Fin 1024) :
    outT g o (ix2 r n) = ∑ l : Fin 4096, g (ix3 ⟨l.val / 128, by omega⟩ ⟨l.val % 128, by omega⟩ r) * o (ix2 l n) := by
  pointwise [outT]

end Cert.Quad.Ref
end
-- ==== Proof.Value.lean ====
/-
The kernel's result is the reference's: what the run leaves in the result array, the devices' arguments as blocks of
the reference's, and the two results at an index.
-/
module

public import proofs.«01_k».proof.Proof.Launch
public import proofs.«01_k».proof.Proof.KVal
public import proofs.«01_k».proof.Proof.RVal
public import Idealize.ShloMosaic.Lib.Layout

@[expose] public section

set_option maxRecDepth 16384

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open scoped BigOperators

/-- After the run each device's result array is its result: the window's one block is the whole array. -/
theorem out_arr {F : FTy → Type} [FloatOps F] (m : (ℓ : Loc nD τ sig) → Buf (Elt F) ℓ) (c : Dev nD) : (dats m 0 c).arrAt (3 : Fin 4) cfg0.N = outF m c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have ho : (win0_3.blk (0 : Fin 1)).view.read (Elt F) ((dats m 0 c).arrAt (3 : Fin 4) cfg0.N) = outF m c := by
    rw [show cfg0.N = ((0 : Fin 1) : Fin cfg0.N).val + 1 from rfl, (dats m 0 c).arrAt_succ (3 : Fin 4) (0 : Fin 1),
      show (cfg0.win (3 : Fin 4)).flush (0 : Fin 1) = true from by decide, if_pos rfl]
    exact View.read_write_univ _ _
  exact (hr _).symm.trans ho

/-! ## Arguments -/

/-- A number whose absolute value is below infinity is real. -/
theorem real_of_below {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine IsReal.of_abs ?_
  by_contra hn
  unfold Ideal.cmp at h
  simp only [decide_eq_false hn] at h
  exact absurd h (by decide)

variable (m : (ℓ : Loc nD τ sig) → Buf (Elt Ideal) ℓ)

/-- The reference's input, -/
abbrev RX := FVec Ideal Cert.ReferenceIdeal.S256x1024 .f32
/-- query weights, -/
abbrev RW := FVec Ideal Cert.ReferenceIdeal.S1024x4096 .f32
/-- keys or values, -/
abbrev RK := FVec Ideal Cert.ReferenceIdeal.S16384x32x128 .f32
/-- and output weights. -/
abbrev RO := FVec Ideal Cert.ReferenceIdeal.S4096x1024 .f32

/-- The devices' arguments are the reference's: the input whole, the query weights cut by columns, keys, values and
    output weights by rows. -/
structure Agree (X : RX) (W : RW) (K V : RK) (O : RO) : Prop where
  x : ∀ c, aX m c = X
  q : ∀ c : Dev nD, aQ m c = Layout.block ⟨2, ![1024, 1024]⟩ ⟨2, ![1024, 4096]⟩ 1 4 c W
  k : ∀ c : Dev nD, aK m c = Layout.block ⟨3, ![4096, 32, 128]⟩ ⟨3, ![16384, 32, 128]⟩ 0 4 c K
  v : ∀ c : Dev nD, aV m c = Layout.block ⟨3, ![4096, 32, 128]⟩ ⟨3, ![16384, 32, 128]⟩ 0 4 c V
  o : ∀ c : Dev nD, aO m c = Layout.block ⟨2, ![1024, 1024]⟩ ⟨2, ![4096, 1024]⟩ 0 4 c O

/-- Row `j` of block `c` of an array of keys is row `c · 4096 + j` of the whole. -/
theorem block_rows (K : RK) (c : Fin 4) (j : Fin 4096) (h : Fin 32) (d : Fin 128) :
    Layout.block ⟨3, ![4096, 32, 128]⟩ ⟨3, ![16384, 32, 128]⟩ 0 4 c K (by decide) (ix3 j h d) = K (ix3 ⟨c.val * 4096 + j.val, by omega⟩ h d) := by
  refine congrArg K (funext fun a => Fin.ext ?_)
  match a with
  | ⟨0, _⟩ => rfl
  | ⟨1, _⟩ => rfl
  | ⟨2, _⟩ => rfl
/-- Column `l` of block `c` of the query weights is column `c · 1024 + l`, -/
theorem block_cols (W : RW) (c : Fin 4) (i l : Fin 1024) :
    Layout.block ⟨2, ![1024, 1024]⟩ ⟨2, ![1024, 4096]⟩ 1 4 c W (by decide) (ix2 i l) = W (ix2 i ⟨c.val * 1024 + l.val, by omega⟩) := by
  refine congrArg W (funext fun a => Fin.ext ?_)
  match a with
  | ⟨0, _⟩ => rfl
  | ⟨1, _⟩ => rfl
/-- and row `l` of block `c` of the output weights row `c · 1024 + l`. -/
theorem block_outs (O : RO) (c : Fin 4) (l n : Fin 1024) :
    Layout.block ⟨2, ![1024, 1024]⟩ ⟨2, ![4096, 1024]⟩ 0 4 c O (by decide) (ix2 l n) = O (ix2 ⟨c.val * 1024 + l.val, by omega⟩ n) := by
  refine congrArg O (funext fun a => Fin.ext ?_)
  match a with
  | ⟨0, _⟩ => rfl
  | ⟨1, _⟩ => rfl

/-! ## Results -/

section
variable {m} {X : RX} {W : RW} {K V : RK} {O : RO} (H : Agree m X W K V O)
include H

/-- The kernel's queries are the reference's, -/
theorem qK_eq (h : Fin 32) (r : Fin 256) (d : Fin 128) : qK m h r d = Ref.qR X W h r d := by
  unfold qK Ref.qR
  refine Finset.sum_congr rfl fun i _ => ?_
  rw [H.x, H.q, block_cols]
  refine congrArg (fun l => X (ix2 r i) * W (ix2 i l)) (Fin.ext ?_)
  show h.val / 8 * 1024 + (h.val % 8 * 128 + d.val) = h.val * 128 + d.val
  omega

/-- and the scores of a device's keys the reference's of its quarter. -/
theorem sK_eq (c : Dev nD) (h : Fin 32) (r : Fin 256) (j : Fin 4096) :
    sK m c h r j = Ref.sR X W K h r ⟨c.val * 4096 + j.val, by have : c.val < 4 := c.isLt; omega⟩ := by
  unfold sK Ref.sR
  refine congrArg (· * scl) (Finset.sum_congr rfl fun d _ => ?_)
  rw [qK_eq H, H.k, block_rows]

/-- Real inputs, query weights and keys have real scores. -/
theorem sR_real (hx : ∀ c i, IsReal (aX m c i)) (hq : ∀ c i, IsReal (aQ m c i)) (hk : ∀ c i, IsReal (aK m c i))
    (h : Fin 32) (r : Fin 256) (j : Fin 16384) : IsReal (Ref.sR X W K h r j) := by
  have e := sK_eq H (⟨j.val / 4096, by show _ < 4; omega⟩ : Fin 4) h r ⟨j.val % 4096, by omega⟩
  rw [show (⟨j.val / 4096 * 4096 + j.val % 4096, by omega⟩ : Fin 16384) = j from Fin.ext (by show j.val / 4096 * 4096 + j.val % 4096 = j.val; omega)] at e
  rw [← e]
  exact IsReal.mul (IsReal.sum _ fun d _ => IsReal.mul (IsReal.sum _ fun i _ => IsReal.mul (hx _ _) (hq _ _)) (hk _ _)) Ref.sclR_real

/-- A device's attention is the reference's at its heads. -/
theorem att_eq (hs : ∀ h r j, IsReal (Ref.sR X W K h r j)) (c : Dev nD) (a : Fin 8) (r : Fin 256) (d : Fin 128) :
    att m c (ix3 a r d) = Ref.ctxT X W K V (ix3 (hd c a) d r) := by
  rw [att_ix, Ref.ctxT_at X W K V hs (hd c a) d r (rb r) rfl]
  refine congr (congrArg Ideal.div ?_) ?_
  · refine Finset.sum_congr rfl fun c' _ => ?_
    rw [oF_ix]
    refine Finset.sum_congr rfl fun t _ => Finset.sum_congr rfl fun i _ => ?_
    rw [sK_eq H, H.v, block_rows]
    rfl
  · refine Finset.sum_congr rfl fun c' _ => ?_
    rw [lF_ix]
    refine Finset.sum_congr rfl fun t _ => Finset.sum_congr rfl fun i _ => ?_
    rw [sK_eq H]
    rfl

/-- Every device's result is the reference's. -/
theorem out_eq (hs : ∀ h r j, IsReal (Ref.sR X W K h r j)) (c : Dev nD) : outF m c = Ref.refT X W K V O := by
  funext i
  obtain ⟨r, n, rfl⟩ : ∃ (r : Fin 256) (n : Fin 1024), i = ix2 r n := ⟨i 0, i 1, eq_ix2 i⟩
  rw [outF_ix]
  refine Eq.trans ?_ (Ref.outT_at O (Ref.ctxT X W K V) r n).symm
  rw [sum_4096]
  refine Finset.sum_congr rfl fun c' _ => Finset.sum_congr rfl fun k _ => ?_
  rw [att_eq H hs, H.o, block_outs]
  have e1 : hd c' ⟨k.val / 128, by omega⟩ = ⟨(c'.val * 1024 + k.val) / 128, by have : c'.val < 4 := c'.isLt; omega⟩ :=
    Fin.ext (by show 8 * c'.val + k.val / 128 = (c'.val * 1024 + k.val) / 128; omega)
  have e2 : (⟨k.val % 128, by omega⟩ : Fin 128) = ⟨(c'.val * 1024 + k.val) % 128, by omega⟩ :=
    Fin.ext (by show k.val % 128 = (c'.val * 1024 + k.val) % 128; omega)
  rw [e1, e2]
end

end Cert.Quad
end
-- ==== Proof.lean ====
/-
The proof of the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 16384 in
/-- The two programs' kernels are one text, so their tables of kernels agree; -/
theorem table_same : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))
/-- and so do the whole tables. -/
theorem defs_same : Cert.Kernel.defs (F := Bits) = Cert.KernelIdeal.defs (F := Bits) := congrArg (Pipeline.defs _) table_same

/-- The printed kernel, at the bit-exact floats: its text is the one the run is proved of at any floats. -/
theorem frame_kernel : Cert.quiescent_Kernel := fun m ρ _ => by
  rw [defs_same]
  exact Cert.Quad.run_frame (F := Bits) m ρ

/-- The same over the extended reals. -/
theorem frame_ideal : Cert.quiescent_KernelIdeal := fun m ρ _ => Cert.Quad.run_frame (F := Ideal) m ρ

/-- The reference leaves its arguments, and declares no counter. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition is not needed for the frames. -/
theorem frame_ideal_pre : Cert.quiescent_KernelIdeal_pre_finite_KernelIdeal := fun m ρ _ => frame_ideal m ρ trivial
theorem frame_ref_pre : Cert.quiescent_ReferenceIdeal_pre_finite_ReferenceIdeal := fun m ρ _ => frame_ref m ρ trivial

/-- No operation was replaced. -/
theorem preserves : Cert.preserves_Kernel_KernelIdeal := trivial

set_option maxRecDepth 16384 in
/-- Of real inputs, query weights and keys, every device's result is the reference's. -/
theorem algebraic : Cert.algebraic_KernelIdeal_ReferenceIdeal_pre_finite_KernelIdeal := fun m ρ m' ρ' hpre hagree => by
  have H : Cert.Quad.Agree m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)) :=
    ⟨fun c => (hagree c).1, fun c => (hagree c).2.1, fun c => (hagree c).2.2.1, fun c => (hagree c).2.2.2.1, fun c => (hagree c).2.2.2.2⟩
  have hs := Cert.Quad.sR_real H (fun c i => Cert.Quad.real_of_below (congrFun (hpre c).1 i))
    (fun c i => Cert.Quad.real_of_below (congrFun (hpre c).2.1 i)) (fun c i => Cert.Quad.real_of_below (congrFun (hpre c).2.2 i))
  refine ⟨Cert.ReferenceIdeal.Value.res_main_v39 (F := Ideal) m' 0, ?_, ?_⟩
  · refine (θ_run Cert.KernelIdeal.defs _ _).mono (fun _ h c => ⟨(h.1 c).1.trans ?_, (h.1 c).2⟩) (Cert.Quad.run_main (F := Ideal) m ρ)
    rw [Cert.Quad.out_arr, Cert.Quad.out_eq H hs c, Cert.Quad.Ref.res_eq]
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_pre, frame_ref, frame_ref_pre, preserves, algebraic⟩

end Cert.Proof

end
